-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v11)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v11) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v8) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)) →
    ∃ (v0 : (c : Dev Cert.DownIdeal.nD) → Buf (Elt Ideal) ((c.tc : Thread Cert.DownIdeal.nD Cert.DownIdeal.τ).loc Cert.DownIdeal.main_v8_0)) (v1 : (c : Dev Cert.DownIdeal.nD) → Buf (Elt Ideal) ((c.tc : Thread Cert.DownIdeal.nD Cert.DownIdeal.τ).loc Cert.DownIdeal.main_v8_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8_0) = v0 c
          ∧ r.2.mem ((c.tc : Thread Cert.DownIdeal.nD Cert.DownIdeal.τ).loc Cert.DownIdeal.main_v8_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v36) = v0 c
          ∧ r.2.mem ((c.tc : Thread Cert.DownRefIdeal.nD Cert.DownRefIdeal.τ).loc Cert.DownRefIdeal.main_v38) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v36) = v0 c
          ∧ r.2.mem ((c.tc : Thread Cert.OutRefIdeal.nD Cert.OutRefIdeal.τ).loc Cert.OutRefIdeal.main_v38) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v7) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v11) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v7) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hAda : Cert.Ada.Facts) (hAdaIdeal : Cert.AdaIdeal.Facts) (hAdaRefIdeal : Cert.AdaRefIdeal.Facts) (hMod : Cert.Mod.Facts) (hModIdeal : Cert.ModIdeal.Facts) (hModRefIdeal : Cert.ModRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Ada (hAda := hAda)
    ∧ quiescent_AdaIdeal (hAdaIdeal := hAdaIdeal)
    ∧ quiescent_AdaRefIdeal (hAdaRefIdeal := hAdaRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Ada_AdaIdeal
    ∧ algebraic_AdaIdeal_AdaRefIdeal (hAdaIdeal := hAdaIdeal) (hAdaRefIdeal := hAdaRefIdeal)
    ∧ preserves_Mod_ModIdeal
    ∧ algebraic_ModIdeal_ModRefIdeal (hModIdeal := hModIdeal) (hModRefIdeal := hModRefIdeal)
-- ==== Pre_finite.lean ====
abbrev S4x2048x13024 : Shape := ⟨3, ![4, 2048, 13024]⟩
abbrev S_ : Shape := ⟨0, ![]⟩

class Facts : Prop where
  bcast_S_S4x2048x13024 : S_.BroadcastsInDim S4x2048x13024 (![] : Fin 0 → Fin S4x2048x13024.rank)

variable [Facts]

def fn {F : FTy → Type} [FloatOps F] (main_arg0 : FVec F S4x2048x13024 .f32) : IVec S4x2048x13024 1 :=
  let main_v0 : FVec F S4x2048x13024 .f32 := Host.absf main_arg0
  let main_cst : FVec F S_ .f32 := constant S_ .f32 0x7F800000#32
  let main_v1 : FVec F S4x2048x13024 .f32 := broadcastInDim S4x2048x13024 ![] bcast_S_S4x2048x13024 main_cst
  let main_v2 : IVec S4x2048x13024 1 := cmpf .olt main_v0 main_v1
  main_v2
-- ==== Kernel.lean ====
abbrev S4x2048x13024 : Shape := ⟨3, ![4, 2048, 13024]⟩
abbrev S4x2048x6144 : Shape := ⟨3, ![4, 2048, 6144]⟩
abbrev S4x2048x480 : Shape := ⟨3, ![4, 2048, 480]⟩
abbrev S_ : Shape := ⟨0, ![]⟩
abbrev S4x2048x512 : Shape := ⟨3, ![4, 2048, 512]⟩
abbrev S4x2048x128 : Shape := ⟨3, ![4, 2048, 128]⟩
abbrev S4x2048x6400 : Shape := ⟨3, ![4, 2048, 6400]⟩
abbrev S4x2048x13312 : Shape := ⟨3, ![4, 2048, 13312]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x2048x2048 : Shape := ⟨3, ![4, 2048, 2048]⟩
abbrev S1x2048x128 : Shape := ⟨3, ![1, 2048, 128]⟩
abbrev S128x2048 : Shape := ⟨2, ![128, 2048]⟩
abbrev S128x128 : Shape := ⟨2, ![128, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 41
  | .vmem => 10
  | .smem => 0
  | _ => 0

abbrev bufTy : (tb : Table) → Fin (tcTables nBuf tb) → BufTy
  | .hbm, ⟨0, _⟩ => ⟨S4x2048x13024, .f32⟩
  | .hbm, ⟨1, _⟩ => ⟨S4x2048x6144, .f32⟩
  | .hbm, ⟨2, _⟩ => ⟨S4x2048x480, .f32⟩
  | .hbm, ⟨3, _⟩ => ⟨S_, .i32⟩
  | .hbm, ⟨4, _⟩ => ⟨S_, .f32⟩
  | .hbm, ⟨5, _⟩ => ⟨S4x2048x512, .f32⟩
  | .hbm, ⟨6, _⟩ => ⟨S4x2048x128, .f32⟩
  | .hbm, ⟨7, _⟩ => ⟨S4x2048x128, .f32⟩
  | .hbm, ⟨8, _⟩ => ⟨S4x2048x6144, .f32⟩
  | .hbm, ⟨9, _⟩ => ⟨S_, .i32⟩
  | .hbm, ⟨10, _⟩ => ⟨S_, .f32⟩
  | .hbm, ⟨11, _⟩ => ⟨S4x2048x6400, .f32⟩
  | .hbm, ⟨12, _⟩ => ⟨S4x2048x13312, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S2048, .f32⟩
  | .hbm, ⟨28, _⟩ => ⟨S2048x1, .f32⟩
  | .hbm, ⟨29, _⟩ => ⟨S1x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x64, .f32⟩
  | .hbm, ⟨37, _⟩ => ⟨S2048x64, .f32⟩
  | .hbm, ⟨38, _⟩ => ⟨S2048x64, .f32⟩
  | .hbm, ⟨39, _⟩ => ⟨S2048x128, .f32⟩
  | .hbm, ⟨40, _⟩ => ⟨S4x2048x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S2048x128, .f32⟩
  | .local _ .vmem, ⟨8, _⟩ => ⟨S1x2048x128, .bf16⟩
  | .local _ .vmem, ⟨9, _⟩ => ⟨S1x2048x128, .bf16⟩
  | _, _ => ⟨S4x2048x13024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c54_i32 : BitVec 32 := 54#32
  let v0 : BitVec 32 := Scalar.addi c54_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c70_i32 : BitVec 32 := 70#32
  let v0 : BitVec 32 := Scalar.addi c70_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c86_i32 : BitVec 32 := 86#32
  let v0 : BitVec 32 := Scalar.addi c86_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x13024 : Shape := ⟨3, ![4, 2048, 13024]⟩
abbrev S4x2048x6144 : Shape := ⟨3, ![4, 2048, 6144]⟩
abbrev S4x2048x2048 : Shape := ⟨3, ![4, 2048, 2048]⟩
abbrev S4x2048x16x128 : Shape := ⟨4, ![4, 2048, 16, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩
abbrev S4x16x2048x128 : Shape := ⟨4, ![4, 16, 2048, 128]⟩
abbrev S4x16x8x256x128 : Shape := ⟨5, ![4, 16, 8, 256, 128]⟩
abbrev S4x16x8x128 : Shape := ⟨4, ![4, 16, 8, 128]⟩
abbrev S4x16x8x256x256 : Shape := ⟨5, ![4, 16, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x16x2048x8 : Shape := ⟨4, ![4, 16, 2048, 8]⟩
abbrev S8 : Shape := ⟨1, ![8]⟩
abbrev S1x8 : Shape := ⟨2, ![1, 8]⟩
abbrev S2048x8 : Shape := ⟨2, ![2048, 8]⟩
abbrev S4x16x2048x3 : Shape := ⟨4, ![4, 16, 2048, 3]⟩
abbrev S4 : Shape := ⟨1, ![4]⟩
abbrev S4x1x1x1 : Shape := ⟨4, ![4, 1, 1, 1]⟩
abbrev S16 : Shape := ⟨1, ![16]⟩
abbrev S1x16x1x1 : Shape := ⟨4, ![1, 16, 1, 1]⟩
abbrev S4x16x2048x3x1 : Shape := ⟨5, ![4, 16, 2048, 3, 1]⟩
abbrev S4x16x2048x3x3 : Shape := ⟨5, ![4, 16, 2048, 3, 3]⟩
abbrev S4x16x2048x3x256x128 : Shape := ⟨6, ![4, 16, 2048, 3, 256, 128]⟩
abbrev S4x16x2048x3x256 : Shape := ⟨5, ![4, 16, 2048, 3, 256]⟩
abbrev S3 : Shape := ⟨1, ![3]⟩
abbrev S1x3 : Shape := ⟨2, ![1, 3]⟩
abbrev S2048x3 : Shape := ⟨2, ![2048, 3]⟩
abbrev S2048x3x1 : Shape := ⟨3, ![2048, 3, 1]⟩
abbrev S4x16x2048x256 : Shape := ⟨4, ![4, 16, 2048, 256]⟩
abbrev S4x16x2048x768 : Shape := ⟨4, ![4, 16, 2048, 768]⟩
abbrev S4x16x2048x1024 : Shape := ⟨4, ![4, 16, 2048, 1024]⟩
abbrev S4x16x2048 : Shape := ⟨3, ![4, 16, 2048]⟩
abbrev S4x16x2048x1 : Shape := ⟨4, ![4, 16, 2048, 1]⟩

abbrev nBuf : Space → Nat
  | .hbm => 230
  | .vmem => 0
  | .smem => 0
  | _ => 0

abbrev hbmTy0_0 (i : Nat) : BufTy := match i % 128 with
  | 0 => ⟨S4x2048x13024, .f32⟩
  | 1 => ⟨S4x2048x6144, .f32⟩
  | 2 => ⟨S4x2048x2048, .f32⟩
  | 3 => ⟨S4x2048x2048, .f32⟩
  | 4 => ⟨S4x2048x2048, .f32⟩
  | 5 => ⟨S4x2048x16x128, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S2048, .f32⟩
  | 21 => ⟨S2048x1, .f32⟩
  | 22 => ⟨S1x64, .f32⟩
  | 23 => ⟨S2048x64, .f32⟩
  | 24 => ⟨S2048x64, .f32⟩
  | 25 => ⟨S2048x64, .f32⟩
  | 26 => ⟨S2048x64, .f32⟩
  | 27 => ⟨S1x2048x1x64, .f32⟩
  | 28 => ⟨S2048x64, .f32⟩
  | 29 => ⟨S1x2048x1x64, .f32⟩
  | 30 => ⟨S4x2048x16x64, .f32⟩
  | 31 => ⟨S4x2048x16x64, .f32⟩
  | 32 => ⟨S4x2048x16x64, .f32⟩
  | 33 => ⟨S4x2048x16x64, .f32⟩
  | 34 => ⟨S4x2048x16x64, .f32⟩
  | 35 => ⟨S4x2048x16x64, .f32⟩
  | 36 => ⟨S4x2048x16x64, .f32⟩
  | 37 => ⟨S4x2048x16x64, .f32⟩
  | 38 => ⟨S4x2048x16x64, .f32⟩
  | 39 => ⟨S4x2048x16x64, .f32⟩
  | 40 => ⟨S4x2048x16x64, .f32⟩
  | 41 => ⟨S4x2048x16x64, .f32⟩
  | 42 => ⟨S4x2048x16x128, .f32⟩
  | 43 => ⟨S4x2048x16x128, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S2048, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S1x2048x1x64, .f32⟩
  | 66 => ⟨S2048x64, .f32⟩
  | 67 => ⟨S1x2048x1x64, .f32⟩
  | 68 => ⟨S4x2048x16x64, .f32⟩
  | 69 => ⟨S4x2048x16x64, .f32⟩
  | 70 => ⟨S4x2048x16x64, .f32⟩
  | 71 => ⟨S4x2048x16x64, .f32⟩
  | 72 => ⟨S4x2048x16x64, .f32⟩
  | 73 => ⟨S4x2048x16x64, .f32⟩
  | 74 => ⟨S4x2048x16x64, .f32⟩
  | 75 => ⟨S4x2048x16x64, .f32⟩
  | 76 => ⟨S4x2048x16x64, .f32⟩
  | 77 => ⟨S4x2048x16x64, .f32⟩
  | 78 => ⟨S4x2048x16x64, .f32⟩
  | 79 => ⟨S4x2048x16x64, .f32⟩
  | 80 => ⟨S4x2048x16x128, .f32⟩
  | 81 => ⟨S4x2048x16x128, .f32⟩
  | 82 => ⟨S4x16x2048x128, .f32⟩
  | 83 => ⟨S4x16x2048x128, .f32⟩
  | 84 => ⟨S4x16x2048x128, .f32⟩
  | 85 => ⟨S4x16x8x256x128, .f32⟩
  | 86 => ⟨S4x16x8x256x128, .f32⟩
  | 87 => ⟨S_, .f32⟩
  | 88 => ⟨S4x16x8x128, .f32⟩
  | 89 => ⟨S_, .f32⟩
  | 90 => ⟨S4x16x8x128, .f32⟩
  | 91 => ⟨S4x16x8x128, .f32⟩
  | 92 => ⟨S4x16x8x256x128, .f32⟩
  | 93 => ⟨S4x16x8x256x256, .f32⟩
  | 94 => ⟨S_, .f32⟩
  | 95 => ⟨S4x16x8x256x256, .f32⟩
  | 96 => ⟨S4x16x8x256x256, .f32⟩
  | 97 => ⟨S256, .i32⟩
  | 98 => ⟨S1x256, .i32⟩
  | 99 => ⟨S256x1, .i32⟩
  | 100 => ⟨S256x256, .i32⟩
  | 101 => ⟨S256x256, .i32⟩
  | 102 => ⟨S256x256, .i1⟩
  | 103 => ⟨S_, .f32⟩
  | 104 => ⟨S_, .f32⟩
  | 105 => ⟨S4x16x8x256x256, .i1⟩
  | 106 => ⟨S4x16x8x256x256, .f32⟩
  | 107 => ⟨S4x16x8x256x256, .f32⟩
  | 108 => ⟨S4x16x2048x8, .f32⟩
  | 109 => ⟨S2048, .i32⟩
  | 110 => ⟨S_, .i32⟩
  | 111 => ⟨S2048, .i32⟩
  | 112 => ⟨S2048, .i32⟩
  | 113 => ⟨S8, .i32⟩
  | 114 => ⟨S1x8, .i32⟩
  | 115 => ⟨S2048x1, .i32⟩
  | 116 => ⟨S2048x8, .i32⟩
  | 117 => ⟨S2048x8, .i32⟩
  | 118 => ⟨S2048x8, .i1⟩
  | 119 => ⟨S_, .f32⟩
  | 120 => ⟨S_, .f32⟩
  | 121 => ⟨S4x16x2048x8, .i1⟩
  | 122 => ⟨S4x16x2048x8, .f32⟩
  | 123 => ⟨S4x16x2048x8, .f32⟩
  | 124 => ⟨S4x16x2048x3, .f32⟩
  | 125 => ⟨S4x16x2048x3, .i32⟩
  | 126 => ⟨S4, .i32⟩
  | 127 => ⟨S4x1x1x1, .i32⟩
  | _ => ⟨S4x2048x13024, .f32⟩

abbrev hbmTy0_1 (i : Nat) : BufTy := match i % 128 with
  | 0 => ⟨S16, .i32⟩
  | 1 => ⟨S1x16x1x1, .i32⟩
  | 2 => ⟨S_, .i32⟩
  | 3 => ⟨S4x1x1x1, .i32⟩
  | 4 => ⟨S4x1x1x1, .i1⟩
  | 5 => ⟨S_, .i32⟩
  | 6 => ⟨S4x1x1x1, .i32⟩
  | 7 => ⟨S4x1x1x1, .i32⟩
  | 8 => ⟨S4x1x1x1, .i32⟩
  | 9 => ⟨S_, .i32⟩
  | 10 => ⟨S1x16x1x1, .i32⟩
  | 11 => ⟨S1x16x1x1, .i1⟩
  | 12 => ⟨S_, .i32⟩
  | 13 => ⟨S1x16x1x1, .i32⟩
  | 14 => ⟨S1x16x1x1, .i32⟩
  | 15 => ⟨S1x16x1x1, .i32⟩
  | 16 => ⟨S_, .i32⟩
  | 17 => ⟨S4x16x2048x3, .i32⟩
  | 18 => ⟨S4x16x2048x3, .i1⟩
  | 19 => ⟨S_, .i32⟩
  | 20 => ⟨S4x16x2048x3, .i32⟩
  | 21 => ⟨S4x16x2048x3, .i32⟩
  | 22 => ⟨S4x16x2048x3, .i32⟩
  | 23 => ⟨S4x16x2048x3, .i32⟩
  | 24 => ⟨S4x16x2048x3, .i32⟩
  | 25 => ⟨S4x16x2048x3x1, .i32⟩
  | 26 => ⟨S4x16x2048x3x1, .i32⟩
  | 27 => ⟨S4x16x2048x3x1, .i32⟩
  | 28 => ⟨S4x16x2048x3x3, .i32⟩
  | 29 => ⟨S4x16x2048x3x256x128, .f32⟩
  | 30 => ⟨S_, .i32⟩
  | 31 => ⟨S4x1x1x1, .i32⟩
  | 32 => ⟨S4x1x1x1, .i1⟩
  | 33 => ⟨S_, .i32⟩
  | 34 => ⟨S4x1x1x1, .i32⟩
  | 35 => ⟨S4x1x1x1, .i32⟩
  | 36 => ⟨S4x1x1x1, .i32⟩
  | 37 => ⟨S_, .i32⟩
  | 38 => ⟨S1x16x1x1, .i32⟩
  | 39 => ⟨S1x16x1x1, .i1⟩
  | 40 => ⟨S_, .i32⟩
  | 41 => ⟨S1x16x1x1, .i32⟩
  | 42 => ⟨S1x16x1x1, .i32⟩
  | 43 => ⟨S1x16x1x1, .i32⟩
  | 44 => ⟨S_, .i32⟩
  | 45 => ⟨S4x16x2048x3, .i32⟩
  | 46 => ⟨S4x16x2048x3, .i1⟩
  | 47 => ⟨S_, .i32⟩
  | 48 => ⟨S4x16x2048x3, .i32⟩
  | 49 => ⟨S4x16x2048x3, .i32⟩
  | 50 => ⟨S4x16x2048x3, .i32⟩
  | 51 => ⟨S4x16x2048x3, .i32⟩
  | 52 => ⟨S4x16x2048x3, .i32⟩
  | 53 => ⟨S4x16x2048x3x1, .i32⟩
  | 54 => ⟨S4x16x2048x3x1, .i32⟩
  | 55 => ⟨S4x16x2048x3x1, .i32⟩
  | 56 => ⟨S4x16x2048x3x3, .i32⟩
  | 57 => ⟨S4x16x2048x3x256x128, .f32⟩
  | 58 => ⟨S4x16x2048x3x256, .f32⟩
  | 59 => ⟨S_, .f32⟩
  | 60 => ⟨S4x16x2048x3x256, .f32⟩
  | 61 => ⟨S4x16x2048x3x256, .f32⟩
  | 62 => ⟨S3, .i32⟩
  | 63 => ⟨S1x3, .i32⟩
  | 64 => ⟨S2048x1, .i32⟩
  | 65 => ⟨S2048x3, .i32⟩
  | 66 => ⟨S2048x3, .i32⟩
  | 67 => ⟨S2048x3, .i1⟩
  | 68 => ⟨S2048x3x1, .i1⟩
  | 69 => ⟨S_, .f32⟩
  | 70 => ⟨S_, .f32⟩
  | 71 => ⟨S4x16x2048x3x256, .i1⟩
  | 72 => ⟨S4x16x2048x3x256, .f32⟩
  | 73 => ⟨S4x16x2048x3x256, .f32⟩
  | 74 => ⟨S4x16x2048x256, .f32⟩
  | 75 => ⟨S4x16x2048x768, .f32⟩
  | 76 => ⟨S4x16x2048x1024, .f32⟩
  | 77 => ⟨S_, .f32⟩
  | 78 => ⟨S4x16x2048, .f32⟩
  | 79 => ⟨S_, .f32⟩
  | 80 => ⟨S4x16x2048, .f32⟩
  | 81 => ⟨S4x16x2048, .f32⟩
  | 82 => ⟨S4x16x2048x1, .f32⟩
  | 83 => ⟨S4x16x2048x1024, .f32⟩
  | 84 => ⟨S4x16x2048x1024, .f32⟩
  | 85 => ⟨S4x16x2048x1024, .f32⟩
  | 86 => ⟨S_, .f32⟩
  | 87 => ⟨S4x16x2048, .f32⟩
  | 88 => ⟨S4x16x2048x1, .f32⟩
  | 89 => ⟨S4x16x2048x1024, .f32⟩
  | 90 => ⟨S4x16x2048x1024, .f32⟩
  | 91 => ⟨S4x16x2048x256, .f32⟩
  | 92 => ⟨S4x16x8x256x256, .f32⟩
  | 93 => ⟨S4x16x2048x768, .f32⟩
  | 94 => ⟨S4x16x2048x3x256, .f32⟩
  | 95 => ⟨S4x16x8x256x128, .f32⟩
  | 96 => ⟨S4x16x2048x128, .f32⟩
  | 97 => ⟨S4x16x2048x128, .f32⟩
  | 98 => ⟨S4x16x2048x128, .f32⟩
  | 99 => ⟨S4x2048x16x128, .f32⟩
  | 100 => ⟨S4x2048x2048, .f32⟩
  | 101 => ⟨S4x2048x2048, .bf16⟩
  | _ => ⟨S4x2048x13024, .f32⟩

abbrev hbmTy (i : Nat) : BufTy := match i / 128 with
  | 0 => hbmTy0_0 i
  | 1 => hbmTy0_1 i
  | _ => ⟨S4x2048x13024, .f32⟩

abbrev bufTy : (tb : Table) → Fin (tcTables nBuf tb) → BufTy
  | .hbm, ⟨i, _⟩ => hbmTy i
  | _, _ => ⟨S4x2048x13024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_cst_4 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_5 : Ref sig .tc := ⟨.hbm, 52, rfl⟩
abbrev main_v45 : Ref sig .tc := ⟨.hbm, 53, rfl⟩
abbrev main_v46 : Ref sig .tc := ⟨.hbm, 54, rfl⟩
abbrev main_cst_6 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_7 : Ref sig .tc := ⟨.hbm, 87, rfl⟩
abbrev main_v78 : Ref sig .tc := ⟨.hbm, 88, rfl⟩
abbrev main_cst_8 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_9 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_10 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_c : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_11 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v102 : Ref sig .tc := ⟨.hbm, 123, rfl⟩
abbrev main_values : Ref sig .tc := ⟨.hbm, 124, rfl⟩
abbrev main_indices : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_c_12 : Ref sig .tc := ⟨.hbm, 130, rfl⟩
abbrev main_v107 : Ref sig .tc := ⟨.hbm, 131, rfl⟩
abbrev main_v108 : Ref sig .tc := ⟨.hbm, 132, rfl⟩
abbrev main_c_13 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_c_14 : Ref sig .tc := ⟨.hbm, 137, rfl⟩
abbrev main_v112 : Ref sig .tc := ⟨.hbm, 138, rfl⟩
abbrev main_v113 : Ref sig .tc := ⟨.hbm, 139, rfl⟩
abbrev main_c_15 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_c_16 : Ref sig .tc := ⟨.hbm, 144, rfl⟩
abbrev main_v117 : Ref sig .tc := ⟨.hbm, 145, rfl⟩
abbrev main_v118 : Ref sig .tc := ⟨.hbm, 146, rfl⟩
abbrev main_c_17 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_18 : Ref sig .tc := ⟨.hbm, 158, rfl⟩
abbrev main_v129 : Ref sig .tc := ⟨.hbm, 159, rfl⟩
abbrev main_v130 : Ref sig .tc := ⟨.hbm, 160, rfl⟩
abbrev main_c_19 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_20 : Ref sig .tc := ⟨.hbm, 165, rfl⟩
abbrev main_v134 : Ref sig .tc := ⟨.hbm, 166, rfl⟩
abbrev main_v135 : Ref sig .tc := ⟨.hbm, 167, rfl⟩
abbrev main_c_21 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_22 : Ref sig .tc := ⟨.hbm, 172, rfl⟩
abbrev main_v139 : Ref sig .tc := ⟨.hbm, 173, rfl⟩
abbrev main_v140 : Ref sig .tc := ⟨.hbm, 174, rfl⟩
abbrev main_c_23 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_24 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_25 : Ref sig .tc := ⟨.hbm, 197, rfl⟩
abbrev main_call2_v0 : Ref sig .tc := ⟨.hbm, 198, rfl⟩
abbrev main_call2_v1 : Ref sig .tc := ⟨.hbm, 199, rfl⟩
abbrev main_call2_v2 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_26 : Ref sig .tc := ⟨.hbm, 205, rfl⟩
abbrev main_v165 : Ref sig .tc := ⟨.hbm, 206, rfl⟩
abbrev main_cst_27 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_28 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩

abbrev nD : Nat := 1
abbrev τ : Topo := Topo.v7x

variable {F : FTy → Type} [FloatOps F]
-- ==== Up.lean ====
abbrev S4x2048x4096 : Shape := ⟨3, ![4, 2048, 4096]⟩
abbrev S4096x11008 : Shape := ⟨2, ![4096, 11008]⟩
abbrev S8192x4096 : Shape := ⟨2, ![8192, 4096]⟩
abbrev S_ : Shape := ⟨0, ![]⟩
abbrev S4096x11264 : Shape := ⟨2, ![4096, 11264]⟩
abbrev S8192x11264 : Shape := ⟨2, ![8192, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .f32⟩
  | .hbm, ⟨2, _⟩ => ⟨S4096x11008, .f32⟩
  | .hbm, ⟨3, _⟩ => ⟨S8192x4096, .f32⟩
  | .hbm, ⟨4, _⟩ => ⟨S8192x4096, .bf16⟩
  | .hbm, ⟨5, _⟩ => ⟨S_, .i32⟩
  | .hbm, ⟨6, _⟩ => ⟨S_, .f32⟩
  | .hbm, ⟨7, _⟩ => ⟨S4096x11264, .f32⟩
  | .hbm, ⟨8, _⟩ => ⟨S4096x11264, .bf16⟩
  | .hbm, ⟨9, _⟩ => ⟨S_, .i32⟩
  | .hbm, ⟨10, _⟩ => ⟨S_, .f32⟩
  | .hbm, ⟨11, _⟩ => ⟨S4096x11264, .f32⟩
  | .hbm, ⟨12, _⟩ => ⟨S4096x11264, .bf16⟩
  | .hbm, ⟨13, _⟩ => ⟨S8192x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S4x2048x4096 : Shape := ⟨3, ![4, 2048, 4096]⟩
abbrev S4096x11008 : Shape := ⟨2, ![4096, 11008]⟩
abbrev S4x2048x11008 : Shape := ⟨3, ![4, 2048, 11008]⟩
abbrev S_ : Shape := ⟨0, ![]⟩
abbrev S4x2048x11264 : Shape := ⟨3, ![4, 2048, 11264]⟩
abbrev S8192x11264 : Shape := ⟨2, ![8192, 11264]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .f32⟩
  | .hbm, ⟨2, _⟩ => ⟨S4096x11008, .f32⟩
  | .hbm, ⟨3, _⟩ => ⟨S4x2048x11008, .f32⟩
  | .hbm, ⟨4, _⟩ => ⟨S4x2048x11008, .f32⟩
  | .hbm, ⟨5, _⟩ => ⟨S4x2048x11008, .f32⟩
  | .hbm, ⟨6, _⟩ => ⟨S_, .f32⟩
  | .hbm, ⟨7, _⟩ => ⟨S4x2048x11008, .f32⟩
  | .hbm, ⟨8, _⟩ => ⟨S4x2048x11008, .f32⟩
  | .hbm, ⟨9, _⟩ => ⟨S_, .f32⟩
  | .hbm, ⟨10, _⟩ => ⟨S4x2048x11008, .f32⟩
  | .hbm, ⟨11, _⟩ => ⟨S4x2048x11008, .f32⟩
  | .hbm, ⟨12, _⟩ => ⟨S4x2048x11008, .f32⟩
  | .hbm, ⟨13, _⟩ => ⟨S4x2048x11008, .f32⟩
  | .hbm, ⟨14, _⟩ => ⟨S4x2048x11008, .f32⟩
  | .hbm, ⟨15, _⟩ => ⟨S4x2048x11008, .bf16⟩
  | .hbm, ⟨16, _⟩ => ⟨S_, .i32⟩
  | .hbm, ⟨17, _⟩ => ⟨S_, .bf16⟩
  | .hbm, ⟨18, _⟩ => ⟨S4x2048x11264, .bf16⟩
  | .hbm, ⟨19, _⟩ => ⟨S8192x11264, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== In.lean ====
abbrev S4x2048x4096 : Shape := ⟨3, ![4, 2048, 4096]⟩
abbrev S4096x13024 : Shape := ⟨2, ![4096, 13024]⟩
abbrev S8192x4096 : Shape := ⟨2, ![8192, 4096]⟩
abbrev S4096x6144 : Shape := ⟨2, ![4096, 6144]⟩
abbrev S4096x480 : Shape := ⟨2, ![4096, 480]⟩
abbrev S_ : Shape := ⟨0, ![]⟩
abbrev S4096x512 : Shape := ⟨2, ![4096, 512]⟩
abbrev S4096x128 : Shape := ⟨2, ![4096, 128]⟩
abbrev S4096x6400 : Shape := ⟨2, ![4096, 6400]⟩
abbrev S4096x13312 : Shape := ⟨2, ![4096, 13312]⟩
abbrev S8192x13312 : Shape := ⟨2, ![8192, 13312]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x13024, .f32⟩
  | .hbm, ⟨2, _⟩ => ⟨S8192x4096, .f32⟩
  | .hbm, ⟨3, _⟩ => ⟨S8192x4096, .bf16⟩
  | .hbm, ⟨4, _⟩ => ⟨S4096x6144, .f32⟩
  | .hbm, ⟨5, _⟩ => ⟨S4096x480, .f32⟩
  | .hbm, ⟨6, _⟩ => ⟨S_, .i32⟩
  | .hbm, ⟨7, _⟩ => ⟨S_, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x6144, .f32⟩
  | .hbm, ⟨12, _⟩ => ⟨S_, .i32⟩
  | .hbm, ⟨13, _⟩ => ⟨S_, .f32⟩
  | .hbm, ⟨14, _⟩ => ⟨S4096x6400, .f32⟩
  | .hbm, ⟨15, _⟩ => ⟨S4096x13312, .f32⟩
  | .hbm, ⟨16, _⟩ => ⟨S4096x13312, .bf16⟩
  | .hbm, ⟨17, _⟩ => ⟨S8192x13312, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S4x2048x4096 : Shape := ⟨3, ![4, 2048, 4096]⟩
abbrev S4096x13024 : Shape := ⟨2, ![4096, 13024]⟩
abbrev S4x2048x13024 : Shape := ⟨3, ![4, 2048, 13024]⟩
abbrev S8192x13024 : Shape := ⟨2, ![8192, 13024]⟩
abbrev S8192x480 : Shape := ⟨2, ![8192, 480]⟩
abbrev S_ : Shape := ⟨0, ![]⟩
abbrev S8192x512 : Shape := ⟨2, ![8192, 512]⟩
abbrev S8192x6144 : Shape := ⟨2, ![8192, 6144]⟩
abbrev S8192x256 : Shape := ⟨2, ![8192, 256]⟩
abbrev S8192x6400 : Shape := ⟨2, ![8192, 6400]⟩
abbrev S8192x13312 : Shape := ⟨2, ![8192, 13312]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x13024, .f32⟩
  | .hbm, ⟨2, _⟩ => ⟨S4x2048x13024, .f32⟩
  | .hbm, ⟨3, _⟩ => ⟨S8192x13024, .f32⟩
  | .hbm, ⟨4, _⟩ => ⟨S8192x480, .f32⟩
  | .hbm, ⟨5, _⟩ => ⟨S_, .i32⟩
  | .hbm, ⟨6, _⟩ => ⟨S_, .f32⟩
  | .hbm, ⟨7, _⟩ => ⟨S8192x512, .f32⟩
  | .hbm, ⟨8, _⟩ => ⟨S8192x6144, .f32⟩
  | .hbm, ⟨9, _⟩ => ⟨S8192x256, .f32⟩
  | .hbm, ⟨10, _⟩ => ⟨S8192x6144, .f32⟩
  | .hbm, ⟨11, _⟩ => ⟨S_, .i32⟩
  | .hbm, ⟨12, _⟩ => ⟨S_, .f32⟩
  | .hbm, ⟨13, _⟩ => ⟨S8192x6400, .f32⟩
  | .hbm, ⟨14, _⟩ => ⟨S8192x13312, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Down.lean ====
abbrev S4x2048x11008 : Shape := ⟨3, ![4, 2048, 11008]⟩
abbrev S11008x4096 : Shape := ⟨2, ![11008, 4096]⟩
abbrev S4x2048x4096 : Shape := ⟨3, ![4, 2048, 4096]⟩
abbrev S4x1x4096 : Shape := ⟨3, ![4, 1, 4096]⟩
abbrev S4096 : Shape := ⟨1, ![4096]⟩
abbrev S_ : Shape := ⟨0, ![]⟩
abbrev S4x2048x11264 : Shape := ⟨3, ![4, 2048, 11264]⟩
abbrev S8192x11264 : Shape := ⟨2, ![8192, 11264]⟩
abbrev S11264x4096 : Shape := ⟨2, ![11264, 4096]⟩
abbrev S8192x4096 : Shape := ⟨2, ![8192, 4096]⟩
abbrev S1x4096 : Shape := ⟨2, ![1, 4096]⟩
abbrev S512x4096 : Shape := ⟨2, ![512, 4096]⟩
abbrev S512x1024 : Shape := ⟨2, ![512, 1024]⟩
abbrev S1024x4096 : Shape := ⟨2, ![1024, 4096]⟩
abbrev S1x1x4096 : Shape := ⟨3, ![1, 1, 4096]⟩
abbrev S64x4096 : Shape := ⟨2, ![64, 4096]⟩
abbrev S64 : Shape := ⟨1, ![64]⟩
abbrev S64x1 : Shape := ⟨2, ![64, 1]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x11008, .f32⟩
  | .hbm, ⟨1, _⟩ => ⟨S11008x4096, .f32⟩
  | .hbm, ⟨2, _⟩ => ⟨S4x2048x4096, .f32⟩
  | .hbm, ⟨3, _⟩ => ⟨S4x1x4096, .f32⟩
  | .hbm, ⟨4, _⟩ => ⟨S4096, .f32⟩
  | .hbm, ⟨5, _⟩ => ⟨S4096, .f32⟩
  | .hbm, ⟨6, _⟩ => ⟨S4x1x4096, .f32⟩
  | .hbm, ⟨7, _⟩ => ⟨S4x1x4096, .f32⟩
  | .hbm, ⟨8, _⟩ => ⟨S_, .i32⟩
  | .hbm, ⟨9, _⟩ => ⟨S_, .f32⟩
  | .hbm, ⟨10, _⟩ => ⟨S4x2048x11264, .f32⟩
  | .hbm, ⟨11, _⟩ => ⟨S8192x11264, .f32⟩
  | .hbm, ⟨12, _⟩ => ⟨S8192x11264, .bf16⟩
  | .hbm, ⟨13, _⟩ => ⟨S_, .i32⟩
  | .hbm, ⟨14, _⟩ => ⟨S_, .f32⟩
  | .hbm, ⟨15, _⟩ => ⟨S11264x4096, .f32⟩
  | .hbm, ⟨16, _⟩ => ⟨S11264x4096, .bf16⟩
  | .hbm, ⟨17, _⟩ => ⟨S8192x4096, .f32⟩
  | .hbm, ⟨18, _⟩ => ⟨S1x4096, .f32⟩
  | .hbm, ⟨19, _⟩ => ⟨S1x4096, .f32⟩
  | .hbm, ⟨20, _⟩ => ⟨S8192x4096, .f32⟩
  | .hbm, ⟨21, _⟩ => ⟨S8192x4096, .bf16⟩
  | .local _ .vmem, ⟨0, _⟩ => ⟨S512x4096, .f32⟩
  | .local _ .vmem, ⟨1, _⟩ => ⟨S512x1024, .bf16⟩
  | .local _ .vmem, ⟨2, _⟩ => ⟨S512x1024, .bf16⟩
  | .local _ .vmem, ⟨3, _⟩ => ⟨S1024x4096, .bf16⟩
  | .local _ .vmem, ⟨4, _⟩ => ⟨S1024x4096, .bf16⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S512x4096, .f32⟩
  | .local _ .vmem, ⟨14, _⟩ => ⟨S512x4096, .f32⟩
  | .local _ .vmem, ⟨15, _⟩ => ⟨S512x4096, .bf16⟩
  | .local _ .vmem, ⟨16, _⟩ => ⟨S512x4096, .bf16⟩
  | _, _ => ⟨S4x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DownRefIdeal.lean ====
abbrev S4x2048x11008 : Shape := ⟨3, ![4, 2048, 11008]⟩
abbrev S11008x4096 : Shape := ⟨2, ![11008, 4096]⟩
abbrev S4x2048x4096 : Shape := ⟨3, ![4, 2048, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x11008, .f32⟩
  | .hbm, ⟨1, _⟩ => ⟨S11008x4096, .f32⟩
  | .hbm, ⟨2, _⟩ => ⟨S4x2048x4096, .f32⟩
  | .hbm, ⟨3, _⟩ => ⟨S4x1x4096, .f32⟩
  | .hbm, ⟨4, _⟩ => ⟨S4096, .f32⟩
  | .hbm, ⟨5, _⟩ => ⟨S4096, .f32⟩
  | .hbm, ⟨6, _⟩ => ⟨S4x1x4096, .f32⟩
  | .hbm, ⟨7, _⟩ => ⟨S4x1x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x4096, .f32⟩
  | .hbm, ⟨31, _⟩ => ⟨S4x2048x4096, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x1x4096, .f32⟩
  | .hbm, ⟨46, _⟩ => ⟨S4x1x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S8192x4096, .f32⟩
  | .hbm, ⟨52, _⟩ => ⟨S4x2048x4096, .bf16⟩
  | .hbm, ⟨53, _⟩ => ⟨S8192x4096, .bf16⟩
  | _, _ => ⟨S4x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Out.lean ====
abbrev S4x2048x4096 : Shape := ⟨3, ![4, 2048, 4096]⟩
abbrev S4096x4096 : Shape := ⟨2, ![4096, 4096]⟩
abbrev S4x1x4096 : Shape := ⟨3, ![4, 1, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512x1024 : Shape := ⟨2, ![512, 1024]⟩
abbrev S1024x4096 : Shape := ⟨2, ![1024, 4096]⟩
abbrev S1x1x4096 : Shape := ⟨3, ![1, 1, 4096]⟩
abbrev S64x4096 : Shape := ⟨2, ![64, 4096]⟩
abbrev S64 : Shape := ⟨1, ![64]⟩
abbrev S64x1 : Shape := ⟨2, ![64, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S4x1x4096, .f32⟩
  | .hbm, ⟨4, _⟩ => ⟨S4096, .f32⟩
  | .hbm, ⟨5, _⟩ => ⟨S4096, .f32⟩
  | .hbm, ⟨6, _⟩ => ⟨S4x1x4096, .f32⟩
  | .hbm, ⟨7, _⟩ => ⟨S4x1x4096, .f32⟩
  | .hbm, ⟨8, _⟩ => ⟨S8192x4096, .f32⟩
  | .hbm, ⟨9, _⟩ => ⟨S8192x4096, .bf16⟩
  | .hbm, ⟨10, _⟩ => ⟨S4096x4096, .bf16⟩
  | .hbm, ⟨11, _⟩ => ⟨S8192x4096, .f32⟩
  | .hbm, ⟨12, _⟩ => ⟨S1x4096, .f32⟩
  | .hbm, ⟨13, _⟩ => ⟨S1x4096, .f32⟩
  | .hbm, ⟨14, _⟩ => ⟨S8192x4096, .f32⟩
  | .hbm, ⟨15, _⟩ => ⟨S8192x4096, .bf16⟩
  | .local _ .vmem, ⟨0, _⟩ => ⟨S512x4096, .f32⟩
  | .local _ .vmem, ⟨1, _⟩ => ⟨S512x1024, .bf16⟩
  | .local _ .vmem, ⟨2, _⟩ => ⟨S512x1024, .bf16⟩
  | .local _ .vmem, ⟨3, _⟩ => ⟨S1024x4096, .bf16⟩
  | .local _ .vmem, ⟨4, _⟩ => ⟨S1024x4096, .bf16⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S512x4096, .f32⟩
  | .local _ .vmem, ⟨14, _⟩ => ⟨S512x4096, .f32⟩
  | .local _ .vmem, ⟨15, _⟩ => ⟨S512x4096, .bf16⟩
  | .local _ .vmem, ⟨16, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutRefIdeal.lean ====
abbrev S4x2048x4096 : Shape := ⟨3, ![4, 2048, 4096]⟩
abbrev S4096x4096 : Shape := ⟨2, ![4096, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S4x1x4096, .f32⟩
  | .hbm, ⟨4, _⟩ => ⟨S4096, .f32⟩
  | .hbm, ⟨5, _⟩ => ⟨S4096, .f32⟩
  | .hbm, ⟨6, _⟩ => ⟨S4x1x4096, .f32⟩
  | .hbm, ⟨7, _⟩ => ⟨S4x1x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x4096, .f32⟩
  | .hbm, ⟨31, _⟩ => ⟨S4x2048x4096, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x1x4096, .f32⟩
  | .hbm, ⟨46, _⟩ => ⟨S4x1x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S8192x4096, .f32⟩
  | .hbm, ⟨52, _⟩ => ⟨S4x2048x4096, .bf16⟩
  | .hbm, ⟨53, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Ada.lean ====
abbrev S4x4096 : Shape := ⟨2, ![4, 4096]⟩
abbrev S4096x24576 : Shape := ⟨2, ![4096, 24576]⟩
abbrev S24576 : Shape := ⟨1, ![24576]⟩
abbrev S4x6x4096 : Shape := ⟨3, ![4, 6, 4096]⟩
abbrev S_ : Shape := ⟨0, ![]⟩
abbrev S8x4096 : Shape := ⟨2, ![8, 4096]⟩
abbrev S1 : Shape := ⟨1, ![1]⟩
abbrev S1x24576 : Shape := ⟨2, ![1, 24576]⟩
abbrev S4x24576 : Shape := ⟨2, ![4, 24576]⟩
abbrev S4x8x24576 : Shape := ⟨3, ![4, 8, 24576]⟩
abbrev S4096x1024 : Shape := ⟨2, ![4096, 1024]⟩
abbrev S1x1024 : Shape := ⟨2, ![1, 1024]⟩
abbrev S4x1024 : Shape := ⟨2, ![4, 1024]⟩
abbrev S4x8x1024 : Shape := ⟨3, ![4, 8, 1024]⟩
abbrev S8x1024 : Shape := ⟨2, ![8, 1024]⟩
abbrev S1x8x1024 : Shape := ⟨3, ![1, 8, 1024]⟩
abbrev S4x1x1024 : Shape := ⟨3, ![4, 1, 1024]⟩
abbrev S4x4x24576 : Shape := ⟨3, ![4, 4, 24576]⟩
abbrev S4x4x6x1x4096 : Shape := ⟨5, ![4, 4, 6, 1, 4096]⟩

abbrev nBuf : Space → Nat
  | .hbm => 14
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S24576, .f32⟩
  | .hbm, ⟨3, _⟩ => ⟨S4x6x4096, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S1x24576, .f32⟩
  | .hbm, ⟨10, _⟩ => ⟨S4x24576, .f32⟩
  | .hbm, ⟨11, _⟩ => ⟨S4x8x24576, .f32⟩
  | .hbm, ⟨12, _⟩ => ⟨S4x4x24576, .f32⟩
  | .hbm, ⟨13, _⟩ => ⟨S4x4x6x1x4096, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | .local _ .vmem, ⟨7, _⟩ => ⟨S4x8x1024, .f32⟩
  | .local _ .vmem, ⟨8, _⟩ => ⟨S4x8x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaRefIdeal.lean ====
abbrev S4x4096 : Shape := ⟨2, ![4, 4096]⟩
abbrev S4096x24576 : Shape := ⟨2, ![4096, 24576]⟩
abbrev S24576 : Shape := ⟨1, ![24576]⟩
abbrev S4x6x4096 : Shape := ⟨3, ![4, 6, 4096]⟩
abbrev S_ : Shape := ⟨0, ![]⟩
abbrev S4x24576 : Shape := ⟨2, ![4, 24576]⟩
abbrev S1x24576 : Shape := ⟨2, ![1, 24576]⟩
abbrev S1x4x6x4096 : Shape := ⟨4, ![1, 4, 6, 4096]⟩
abbrev S4x1x6x4096 : Shape := ⟨4, ![4, 1, 6, 4096]⟩
abbrev S4x4x6x4096 : Shape := ⟨4, ![4, 4, 6, 4096]⟩
abbrev S4x4x6x1x4096 : Shape := ⟨5, ![4, 4, 6, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S24576, .f32⟩
  | .hbm, ⟨3, _⟩ => ⟨S4x6x4096, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x24576, .f32⟩
  | .hbm, ⟨14, _⟩ => ⟨S1x24576, .f32⟩
  | .hbm, ⟨15, _⟩ => ⟨S4x24576, .f32⟩
  | .hbm, ⟨16, _⟩ => ⟨S4x24576, .f32⟩
  | .hbm, ⟨17, _⟩ => ⟨S4x6x4096, .f32⟩
  | .hbm, ⟨18, _⟩ => ⟨S1x4x6x4096, .f32⟩
  | .hbm, ⟨19, _⟩ => ⟨S4x1x6x4096, .f32⟩
  | .hbm, ⟨20, _⟩ => ⟨S4x4x6x4096, .f32⟩
  | .hbm, ⟨21, _⟩ => ⟨S4x4x6x4096, .f32⟩
  | .hbm, ⟨22, _⟩ => ⟨S4x4x6x4096, .f32⟩
  | .hbm, ⟨23, _⟩ => ⟨S4x4x6x1x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Mod.lean ====
abbrev S4x2048x4096 : Shape := ⟨3, ![4, 2048, 4096]⟩
abbrev S4x1x4096 : Shape := ⟨3, ![4, 1, 4096]⟩
abbrev S8192x4096 : Shape := ⟨2, ![8192, 4096]⟩
abbrev S512x4096 : Shape := ⟨2, ![512, 4096]⟩
abbrev S1x1x4096 : Shape := ⟨3, ![1, 1, 4096]⟩
abbrev S1x4096 : Shape := ⟨2, ![1, 4096]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S4x1x4096, .f32⟩
  | .hbm, ⟨3, _⟩ => ⟨S8192x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S512x4096, .bf16⟩
  | .local _ .vmem, ⟨7, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x2048x4096 : Shape := ⟨3, ![4, 2048, 4096]⟩
abbrev S4x1x4096 : Shape := ⟨3, ![4, 1, 4096]⟩
abbrev S_ : Shape := ⟨0, ![]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S4x1x4096, .f32⟩
  | .hbm, ⟨3, _⟩ => ⟨S_, .f32⟩
  | .hbm, ⟨4, _⟩ => ⟨S4x1x4096, .f32⟩
  | .hbm, ⟨5, _⟩ => ⟨S4x1x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .bf16⟩
  | .hbm, ⟨11, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.KernelTiles.lean ====
/- One block of queries as one definition.

   The kernel writes its result in eight blocks of 256 queries, each block's code unrolled at its own offsets. Here the
   code of block `i` is written once, over the block number and the list of the blocks before it: the own block's masked
   scores, the gate, the rank of every earlier block, the selection, the masked scores of the earlier blocks, the running
   maximum, the exponentials, their sum, the product with the values, the quotient. The eight printed blocks are this one
   definition at eight values of `i`. -/
module

public import proofs.«01_k».proof.Proof.Gen.KernelIdeal.Frame

@[expose] public section

set_option maxRecDepth 16384

noncomputable section

namespace Cert.KernelIdeal.Tiles

open Cert.KernelIdeal Cert.KernelIdeal.Gen Idealize.ShloMosaic Idealize.SL.Sem

variable {F : FTy → Type} [FloatOps F] [Named F]

theorem slicesRows (i : Fin 8) : S2048x128.Slices ![256 * i.val, 0] S256x128 := by
  revert i; decide

theorem slicesCol (j : Fin 8) : S256x128.Slices ![0, j.val] S256x1 := by
  revert j; decide

/-- The 256 rows of block `i`. -/
def rows {φ : FTy} (i : Fin 8) (x : FVec F S2048x128 φ) : FVec F S256x128 φ :=
  extractStridedSlice S256x128 ![256 * i.val, 0] x (slicesRows i)

/-- Column `j` of a tile whose lanes are the blocks. -/
def col {α : Type} (j : Fin 8) (x : S256x128.Idx → α) : S256x1.Idx → α :=
  extractStridedSlice S256x1 ![0, j.val] x (slicesCol j)

/-- The scaled scores of the queries of block `i` with the keys of block `j`. -/
def raw (i j : Fin 8) (qb kb : FVec F S2048x128 .bf16) : FVec F S256x256 .f32 :=
  mulf (matmul dot_S256x128_S256x128_S256x256_1_1_0_0_n_n none (rows i qb) (rows j kb) (constant S256x256 .f32 0x00000000#32))
    (broadcast S256x256 (Scalar.ofBits .f32 0x3DB504F3#32))

/-- The mask's value, in every element of a tile of scores. -/
def masked : FVec F S256x256 .f32 := broadcast S256x256 (Named.named κ "mask" 0xF149F2CA#32)

/-- The own block's scores, the later keys masked. -/
def own (i : Fin 8) (qb kb : FVec F S2048x128 .bf16) : FVec F S256x256 .f32 :=
  select (cmpi .sle (iota .tc S256x256 32 [1] iota_S256x256_d1_w32) (iota .tc S256x256 32 [0] iota_S256x256_d0_w32))
    (raw i i qb kb) masked

/-- The lane number. -/
def lane : IVec S256x128 32 := iota .tc S256x128 32 [1] iota_S256x128_d1_w32

/-- The lanes of the blocks before `i`. -/
def valid (i : Fin 8) : IVec S256x128 1 := cmpi .slt lane (broadcast S256x128 (BitVec.ofNat 32 i.val))

/-- The gate: the queries of block `i` against the pooled keys, `-∞` in the lanes of no earlier block. -/
def gate (i : Fin 8) (q : FVec F S2048x128 .f32) (km : FVec F S128x128 .f32) : FVec F S256x128 .f32 :=
  select (valid i)
    (matmul dot_S256x128_S128x128_S256x128_1_1_0_0_n_n (some .fp32) (rows i q) km (constant S256x128 .f32 0x00000000#32))
    (broadcast S256x128 (Scalar.ofBits .f32 0xFF800000#32))

/-- Whether block `j` comes before the lane's block in the order of the gate. -/
def ahead (g : FVec F S256x128 .f32) (j : Fin 8) : IVec S256x128 1 :=
  ori (cmpf .ogt (broadcastTo S256x128 (col j g) broadcasts_S256x1_S256x128) g)
    (andi (cmpf .oeq (broadcastTo S256x128 (col j g) broadcasts_S256x1_S256x128) g)
      (cmpi .sgt lane (broadcast S256x128 (BitVec.ofNat 32 j.val))))

/-- How many of the listed blocks come before the lane's block. -/
def rank (g : FVec F S256x128 .f32) (L : List (Fin 8)) : IVec S256x128 32 :=
  L.foldl (fun acc j => addi acc (extui 32 (ahead g j) natLt_1_32)) (broadcast S256x128 0#32)

/-- The lanes of the selected blocks. -/
def chosen (i : Fin 8) (L : List (Fin 8)) (q : FVec F S2048x128 .f32) (km : FVec F S128x128 .f32) : IVec S256x128 1 :=
  andi (valid i) (cmpi .slt (rank (gate i q km) L) (broadcast S256x128 3#32))

/-- The scores against an earlier block, masked where it is not selected. -/
def other (i : Fin 8) (sel : IVec S256x128 1) (qb kb : FVec F S2048x128 .bf16) (j : Fin 8) : FVec F S256x256 .f32 :=
  select (broadcastTo S256x256 (shapeCast S256x1 (col j sel) shapeCasts_S256x1_S256x1) broadcasts_S256x1_S256x256)
    (raw i j qb kb) masked

/-- The greatest score of every query. -/
def top (o : FVec F S256x256 .f32) (s : Fin 8 → FVec F S256x256 .f32) (L : List (Fin 8)) : FVec F S256x1 .f32 :=
  shapeCast S256x1
    (multiReduction .maximumf [1] S256 (L.foldl (fun acc j => maximumf acc (s j)) o) 0xFF800000#32
      reduces_S256x256_S256 (.inl rfl) rfl) shapeCasts_S256_S256x1

/-- The exponentials of a tile of scores less the greatest. -/
def weight (m : FVec F S256x1 .f32) (s : FVec F S256x256 .f32) : FVec F S256x256 .f32 :=
  exp (subf s (broadcastTo S256x256 m broadcasts_S256x1_S256x256))

/-- The weights added up tile over tile. -/
def mass (m : FVec F S256x1 .f32) (o : FVec F S256x256 .f32) (s : Fin 8 → FVec F S256x256 .f32) (L : List (Fin 8)) :
    FVec F S256x256 .f32 :=
  L.foldl (fun acc j => addf acc (weight m (s j)))
    (addf (broadcast S256x256 (Scalar.ofBits .f32 0x00000000#32)) (weight m o))

/-- A tile of weights against the values of block `j`. -/
def part (w : FVec F S256x256 .f32) (vb : FVec F S2048x128 .bf16) (j : Fin 8) : FVec F S256x128 .f32 :=
  matmul dot_S256x256_S256x128_S256x128_1_0_0_1_n_n none (truncf .bf16 w bitsLt_bf16_f32) (rows j vb)
    (constant S256x128 .f32 0x00000000#32)

/-- The weighted values added up. -/
def acc (i : Fin 8) (m : FVec F S256x1 .f32) (o : FVec F S256x256 .f32) (s : Fin 8 → FVec F S256x256 .f32)
    (L : List (Fin 8)) (vb : FVec F S2048x128 .bf16) : FVec F S256x128 .f32 :=
  L.foldl (fun a j => addf a (part (weight m (s j)) vb j))
    (addf (broadcast S256x128 (Scalar.ofBits .f32 0x00000000#32)) (part (weight m o) vb i))

/-- The quotient of the weighted values by the weights' sums. -/
def close (a : FVec F S256x128 .f32) (p : FVec F S256x256 .f32) : FVec F S1x256x128 .bf16 :=
  shapeCast S1x256x128
    (truncf .bf16
      (divf a
        (broadcastTo S256x128
          (shapeCast S256x1 (multiReduction .add [1] S256 p 0x00000000#32 reduces_S256x256_S256 (.inl rfl) rfl)
            shapeCasts_S256_S256x1) broadcasts_S256x1_S256x128)) bitsLt_bf16_f32)
    shapeCasts_S256x128_S1x256x128

/-- The result of block `i`, `L` the blocks before it, from the scores. -/
def finish (i : Fin 8) (L : List (Fin 8)) (o : FVec F S256x256 .f32) (s : Fin 8 → FVec F S256x256 .f32)
    (vb : FVec F S2048x128 .bf16) : FVec F S1x256x128 .bf16 :=
  close (acc i (top o s L) o s L vb) (mass (top o s L) o s L)

/-- The result of block `i`, `L` the blocks before it. -/
def block (i : Fin 8) (L : List (Fin 8)) (q : FVec F S2048x128 .f32) (km : FVec F S128x128 .f32)
    (qb kb vb : FVec F S2048x128 .bf16) : FVec F S1x256x128 .bf16 :=
  finish i L (own i qb kb) (other i (chosen i L q km) qb kb) vb

end Cert.KernelIdeal.Tiles

end
-- ==== Proof.Spec.lean ====
/- Block attention with a gate, over extended reals: the functions the kernel and the reference are both read as. -/
module

public import Idealize.ShloMosaic.PureOps.Ideal.Laws
public import Mathlib.Order.Interval.Finset.Fin

@[expose] public section

noncomputable section

namespace Cert.Moba

open Idealize.ShloMosaic

/-- Position `u` of block `j`. -/
def pos (j : Fin 8) (u : Fin 256) : Fin 2048 := ⟨256 * j.val + u.val, by omega⟩

/-- The pooled keys: the mean of every block. -/
def pooled (k : Fin 2048 → Fin 128 → EReal) (n : Fin 8) (d : Fin 128) : EReal :=
  (∑ u : Fin 256, k (pos n u) d) * ((1 / 256 : ℝ) : EReal)

/-- The gate of query `t` for block `n`. -/
def gate (q k : Fin 2048 → Fin 128 → EReal) (t : Fin 2048) (n : Fin 8) : EReal :=
  ∑ d : Fin 128, q t d * pooled k n d

/-- The scaled score of query `t` with key `s`. -/
def score (c : EReal) (q k : Fin 2048 → Fin 128 → EReal) (t s : Fin 2048) : EReal :=
  (∑ d : Fin 128, q t d * k s d) * c

/-- Block `j` comes before block `n` in the order of the gate `g`. -/
def Ahead (g : Fin 8 → EReal) (j n : Fin 8) : Prop := g n < g j ∨ (g j = g n ∧ j < n)

open Classical in
/-- Block `n` is selected for the queries of block `i`: it is before `i`, and fewer than three of the blocks before `i`
    are ahead of it. -/
def Chosen (g : Fin 8 → EReal) (i n : Fin 8) : Prop :=
  n < i ∧ ((Finset.Iio i).filter fun j => Ahead g j n).card < 3

open Classical in
/-- The own block's scores, later keys masked. -/
def own (c : EReal) (q k : Fin 2048 → Fin 128 → EReal) (i : Fin 8) (r u : Fin 256) : EReal :=
  if u ≤ r then score c q k (pos i r) (pos i u) else ⊥

open Classical in
/-- The scores with an earlier block, masked where it is not selected. -/
def other (c : EReal) (q k : Fin 2048 → Fin 128 → EReal) (i : Fin 8) (r : Fin 256) (j : Fin 8) (u : Fin 256) : EReal :=
  if Chosen (gate q k (pos i r)) i j then score c q k (pos i r) (pos j u) else ⊥

/-- The greatest score. -/
def top (i : Fin 8) (o : Fin 256 → EReal) (s : Fin 8 → Fin 256 → EReal) : EReal :=
  Finset.univ.sup fun u => o u ⊔ (Finset.Iio i).sup fun j => s j u

/-- The softmax of the own block's scores and the earlier blocks' scores, against the values. -/
def attend (i : Fin 8) (o : Fin 256 → EReal) (s : Fin 8 → Fin 256 → EReal) (v : Fin 8 → Fin 256 → EReal) : EReal :=
  Ideal.div
    (∑ u, Ideal.exp (o u - top i o s) * v i u + ∑ j ∈ Finset.Iio i, ∑ u, Ideal.exp (s j u - top i o s) * v j u)
    (∑ u, (Ideal.exp (o u - top i o s) + ∑ j ∈ Finset.Iio i, Ideal.exp (s j u - top i o s)))

/-- The attention's result at query `r` of block `i`, feature `d`. -/
def out (c : EReal) (q k v : Fin 2048 → Fin 128 → EReal) (i : Fin 8) (r : Fin 256) (d : Fin 128) : EReal :=
  attend i (own c q k i r) (other c q k i r) fun j u => v (pos j u) d

theorem top_congr (i : Fin 8) {o o' : Fin 256 → EReal} {s s' : Fin 8 → Fin 256 → EReal} (ho : ∀ u, o u = o' u)
    (hs : ∀ j ∈ Finset.Iio i, ∀ u, s j u = s' j u) : top i o s = top i o' s' :=
  Finset.sup_congr rfl fun u _ => congrArg₂ (· ⊔ ·) (ho u) (Finset.sup_congr rfl fun j hj => hs j hj u)

theorem attend_congr (i : Fin 8) {o o' : Fin 256 → EReal} {s s' v v' : Fin 8 → Fin 256 → EReal} (ho : ∀ u, o u = o' u)
    (hs : ∀ j ∈ Finset.Iio i, ∀ u, s j u = s' j u) (hv : ∀ j u, v j u = v' j u) : attend i o s v = attend i o' s' v' := by
  unfold attend
  rw [top_congr i ho hs]
  refine congrArg₂ Ideal.div (congrArg₂ (· + ·) (Finset.sum_congr rfl fun u _ => ?_)
    (Finset.sum_congr rfl fun j hj => Finset.sum_congr rfl fun u _ => ?_))
    (Finset.sum_congr rfl fun u _ => congrArg₂ (· + ·) ?_ (Finset.sum_congr rfl fun j hj => ?_))
  · rw [ho u, hv]
  · rw [hs j hj u, hv]
  · rw [ho u]
  · rw [hs j hj u]

/-- The block of a position. -/
def blk (t : Fin 2048) : Fin 8 := ⟨t.val / 256, by omega⟩

/-- The position inside its block. -/
def off (t : Fin 2048) : Fin 256 := ⟨t.val % 256, by omega⟩

theorem pos_blk_off (t : Fin 2048) : pos (blk t) (off t) = t := Fin.ext (by show 256 * (t.val / 256) + t.val % 256 = t.val; omega)

theorem blk_pos (j : Fin 8) (u : Fin 256) : blk (pos j u) = j := Fin.ext (by show (256 * j.val + u.val) / 256 = j.val; omega)

theorem off_pos (j : Fin 8) (u : Fin 256) : off (pos j u) = u := Fin.ext (by show (256 * j.val + u.val) % 256 = u.val; omega)

/-- Positions are blocks and positions inside them. -/
def posEquiv : Fin 8 × Fin 256 ≃ Fin 2048 where
  toFun p := pos p.1 p.2
  invFun t := (blk t, off t)
  left_inv p := Prod.ext (blk_pos p.1 p.2) (off_pos p.1 p.2)
  right_inv t := pos_blk_off t

/-- A sum over the positions is a sum over the blocks and inside them. -/
theorem sum_pos (f : Fin 2048 → EReal) : ∑ t, f t = ∑ j, ∑ u, f (pos j u) := by
  rw [← Equiv.sum_comp posEquiv f, Fintype.sum_prod_type]; rfl

/-- A constant that is a real number, not negative, goes through a finite sum. -/
theorem sum_mul_coe {ι : Type*} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The angle of position `t` for feature pair `f`. -/
def angle (t : Fin 2048) (f : Fin 64) : ℝ := (t.val : ℝ) * Real.rpow 10000 (-(2 * (f.val : ℝ)) * (1 / 128))

def cosine (t : Fin 2048) (f : Fin 64) : EReal := (Real.cos (angle t f) : EReal)

def sine (t : Fin 2048) (f : Fin 64) : EReal := (Real.sin (angle t f) : EReal)

/-- The layer's factor before the softmax, the f32 nearest to 128^(-1/2). -/
def scale : EReal := Ideal.ofBits .f32 0x3DB504F3#32

/-- Head `h` of a part of the projections that begins at column `base`. -/
def head (z : Fin 4 → Fin 2048 → Fin 13024 → EReal) (base : ℕ) (hb : base + 2048 ≤ 13024) (b : Fin 4) (h : Fin 16)
    (t : Fin 2048) (d : Fin 128) : EReal :=
  z b t ⟨base + (h.val * 128 + d.val), by omega⟩

/-- The rotation of a head's features at position `t`: feature `d` of the first half with feature `d + 64`. -/
def rope (cs sn : Fin 2048 → Fin 64 → EReal) (x : Fin 2048 → Fin 128 → EReal) (t : Fin 2048) (d : Fin 128) : EReal :=
  if h : d.val < 64 then
    x t d * cs t ⟨d.val, h⟩ - x t ⟨d.val + 64, by omega⟩ * sn t ⟨d.val, h⟩
  else
    x t d * cs t ⟨d.val - 64, by omega⟩ + x t ⟨d.val - 64, by omega⟩ * sn t ⟨d.val - 64, by omega⟩

def query (z : Fin 4 → Fin 2048 → Fin 13024 → EReal) (b : Fin 4) (h : Fin 16) : Fin 2048 → Fin 128 → EReal :=
  rope cosine sine (head z 6880 (by decide) b h)

def key (z : Fin 4 → Fin 2048 → Fin 13024 → EReal) (b : Fin 4) (h : Fin 16) : Fin 2048 → Fin 128 → EReal :=
  rope cosine sine (head z 8928 (by decide) b h)

def value (z : Fin 4 → Fin 2048 → Fin 13024 → EReal) (b : Fin 4) (h : Fin 16) : Fin 2048 → Fin 128 → EReal :=
  head z 10976 (by decide) b h

/-- The attention's result: head `w / 128`, feature `w % 128`. -/
def result (z : Fin 4 → Fin 2048 → Fin 13024 → EReal) (b : Fin 4) (t : Fin 2048) (w : Fin 2048) : EReal :=
  out scale (query z b ⟨w.val / 128, by omega⟩) (key z b ⟨w.val / 128, by omega⟩) (value z b ⟨w.val / 128, by omega⟩)
    (blk t) (off t) ⟨w.val % 128, by omega⟩

end Cert.Moba

end
-- ==== Proof.KernelTileValue.lean ====
/- The one block's definition read at an index, over extended reals. -/
module

public import proofs.«01_k».proof.Proof.KernelTiles
public import proofs.«01_k».proof.Proof.Spec
public import Idealize.ShloMosaic.Lib.ValueIdx
public import Idealize.ShloMosaic.Lib.MatmulPlain
public import Idealize.ShloMosaic.Lib.Pipeline.Value
public import Idealize.ShloMosaic.Lib.WordCmp
public import Idealize.ShloMosaic.PureOps.IdealRules

@[expose] public section

set_option maxRecDepth 16384

noncomputable section

namespace Cert.KernelIdeal.Tiles

open Cert.KernelIdeal Cert.KernelIdeal.Gen Idealize.ShloMosaic Idealize.SL.Sem Idealize.ShloMosaic.ValueIdx
open Idealize.ShloMosaic.WordCmp hiding select_one select_zero
open Cert

/-- The scale of the scores, as the program writes it. -/
def scale : EReal := Ideal.ofBits .f32 0x3DB504F3#32

theorem ofBits_negInf : Ideal.ofBits .f32 0xFF800000#32 = ⊥ := by simp [Ideal.ofBits, Ideal.ieee]

theorem mask_value : (Named.named κ "mask" (φ := .f32) 0xF149F2CA#32 : Ideal .f32) = (⊥ : EReal) :=
  IdealRules.named_const.ideal_named_scalar _ _ _ _ rfl

theorem rows_apply {φ : FTy} (i : Fin 8) (x : FVec Ideal S2048x128 φ) (r : Fin 256) (d : Fin 128) :
    rows i x (ix2 r d) = x (ix2 (Moba.pos i r) d) :=
  extractStridedSlice_apply _ _ _ _ _ fun a => by
    match a with
    | ⟨0, _⟩ => rfl
    | ⟨1, _⟩ => show d.val = 0 + d.val; omega

/-- The lane of block `j`. -/
def ln (j : Fin 8) : Fin 128 := ⟨j.val, by omega⟩

theorem col_apply {α : Type} (j : Fin 8) (x : S256x128.Idx → α) (r : Fin 256) (z : Fin 1) :
    col j x (ix2 r z) = x (ix2 r (ln j)) :=
  extractStridedSlice_apply _ _ _ _ _ fun a => by
    match a with
    | ⟨0, _⟩ => show r.val = 0 + r.val; omega
    | ⟨1, _⟩ => show j.val = j.val + z.val; omega

theorem spread128 {α : Type} (x : S256x1.Idx → α) (r : Fin 256) (d : Fin 128) :
    broadcastTo S256x128 x broadcasts_S256x1_S256x128 (ix2 r d) = x (ix2 r 0) :=
  broadcastTo_apply _ _ _ _ fun a => by
    match a with
    | ⟨0, _⟩ => rfl
    | ⟨1, _⟩ => rfl

theorem spread256 {α : Type} (x : S256x1.Idx → α) (r : Fin 256) (d : Fin 256) :
    broadcastTo S256x256 x broadcasts_S256x1_S256x256 (ix2 r d) = x (ix2 r 0) :=
  broadcastTo_apply _ _ _ _ fun a => by
    match a with
    | ⟨0, _⟩ => rfl
    | ⟨1, _⟩ => rfl

theorem raw_apply (i j : Fin 8) (qb kb : FVec Ideal S2048x128 .bf16) (r u : Fin 256) :
    raw i j qb kb (ix2 r u)
      = Moba.score scale (fun t d => qb (ix2 t d)) (fun t d => kb (ix2 t d)) (Moba.pos i r) (Moba.pos j u) := by
  unfold raw Moba.score
  rw [mulf_apply]
  refine congrArg₂ (· * ·) ?_ rfl
  refine (Ideal.matmul_transposedRhs_apply (M := 256) (K := 128) (N := 256) none (rows i qb) (rows j kb)
    (constant S256x256 .f32 0x00000000#32) r u).trans ?_
  rw [constant_apply, Ideal.ofBits_zero_f32, zero_add]
  exact Finset.sum_congr rfl fun k _ => by rw [rows_apply, rows_apply]

theorem masked_apply (x : S256x256.Idx) : (masked (F := Ideal)) x = (⊥ : EReal) := mask_value

theorem own_apply (i : Fin 8) (qb kb : FVec Ideal S2048x128 .bf16) (r u : Fin 256) :
    own i qb kb (ix2 r u) = Moba.own scale (fun t d => qb (ix2 t d)) (fun t d => kb (ix2 t d)) i r u := by
  unfold own Moba.own
  rw [select_apply, raw_apply, masked_apply, cmpi_at, iota_single_apply, iota_single_apply]
  show Scalar.select (IntOp.cmpi .sle (BitVec.ofNat 32 u.val) (BitVec.ofNat 32 r.val)) _ _ = _
  rw [cmpi_sle_ofNat (by omega) (by omega), select_decide]
  simp only [Fin.le_def]

theorem valid_apply (i : Fin 8) (r : Fin 256) (n : Fin 128) :
    valid i (ix2 r n) = BitVec.ofBool (decide (n.val < i.val)) := by
  unfold valid lane
  rw [cmpi_at, iota_single_apply, broadcast_apply]
  exact cmpi_slt_ofNat (by have := n.isLt; show n.val < _; omega) (by omega)

theorem gate_apply (i : Fin 8) (q : FVec Ideal S2048x128 .f32) (km : FVec Ideal S128x128 .f32) (r : Fin 256) (n : Fin 128)
    (hn : n.val < i.val) :
    gate i q km (ix2 r n) = ∑ d : Fin 128, q (ix2 (Moba.pos i r) d) * km (ix2 n d) := by
  unfold gate
  rw [select_apply, valid_apply, select_decide, if_pos hn]
  refine (Ideal.matmul_transposedRhs_apply (M := 256) (K := 128) (N := 128) (some .fp32) (rows i q) km
    (constant S256x128 .f32 0x00000000#32) r n).trans ?_
  rw [constant_apply, Ideal.ofBits_zero_f32, zero_add]
  exact Finset.sum_congr rfl fun k _ => by rw [rows_apply]

open Classical in
theorem ahead_apply (g : FVec Ideal S256x128 .f32) (j n : Fin 8) (r : Fin 256) :
    ahead g j (ix2 r (ln n)) = BitVec.ofBool (decide (Moba.Ahead (fun b => g (ix2 r (ln b))) j n)) := by
  unfold ahead lane
  rw [ori_at, andi_at, cmpi_at, iota_single_apply, broadcast_apply, cmpf_apply, cmpf_apply, spread128, col_apply,
    Ideal.cmpf_def, Ideal.cmpf_def]
  show IntOp.ori _ (IntOp.andi _ (IntOp.cmpi .sgt (BitVec.ofNat 32 n.val) (BitVec.ofNat 32 j.val))) = _
  rw [cmpi_sgt_ofNat (by omega) (by omega)]
  unfold Ideal.cmp
  rw [andi_ofBool, ori_ofBool]
  refine congrArg BitVec.ofBool ?_
  show (decide _ || (decide _ && decide _)) = decide _
  rw [← Bool.decide_and, ← Bool.decide_or]
  exact decide_eq_decide.2 Iff.rfl

open Classical in
theorem rank_apply (g : FVec Ideal S256x128 .f32) (r : Fin 256) (n : Fin 8) (L : List (Fin 8)) :
    rank g L (ix2 r (ln n)) = BitVec.ofNat 32 (L.countP fun j => Moba.Ahead (fun b => g (ix2 r (ln b))) j n) := by
  have H : ∀ (L : List (Fin 8)) (a : IVec S256x128 32) (c : ℕ), a (ix2 r (ln n)) = BitVec.ofNat 32 c →
      L.foldl (fun acc j => addi acc (extui 32 (ahead g j) natLt_1_32)) a (ix2 r (ln n))
        = BitVec.ofNat 32 (c + L.countP fun j => Moba.Ahead (fun b => g (ix2 r (ln b))) j n) := by
    intro L
    induction L with
    | nil => intro a c h; simpa using h
    | cons j L ih =>
      intro a c h
      rw [List.foldl_cons, ih _ (c + if Moba.Ahead (fun b => g (ix2 r (ln b))) j n then 1 else 0), List.countP_cons]
      · congr 1
        by_cases hA : Moba.Ahead (fun b => g (ix2 r (ln b))) j n <;> simp [hA] ; omega
      · show IntOp.addi (a (ix2 r (ln n))) ((ahead g j (ix2 r (ln n))).setWidth 32) = _
        rw [h, ahead_apply]
        by_cases hA : Moba.Ahead (fun b => g (ix2 r (ln b))) j n
        · simp only [hA, decide_true, if_true]
          exact addi_ofNat c 1
        · simp only [hA, decide_false, if_false]
          exact addi_ofNat c 0
  have := H L (broadcast S256x128 0#32) 0 rfl
  rw [zero_add] at this
  exact this

variable (i : Fin 8) (L : List (Fin 8)) (hN : L.Nodup) (hL : ∀ j, j ∈ L ↔ j < i)

include hN hL in
theorem toFinset_eq : L.toFinset = Finset.Iio i := by
  ext j; simp [hL]

include hN hL in
open Classical in
theorem chosen_apply (q : FVec Ideal S2048x128 .f32) (km : FVec Ideal S128x128 .f32) (G : Fin 8 → EReal) (r : Fin 256)
    (hG : ∀ n, n < i → G n = ∑ d : Fin 128, q (ix2 (Moba.pos i r) d) * km (ix2 (ln n) d)) (n : Fin 8) (hn : n < i) :
    chosen i L q km (ix2 r (ln n)) = BitVec.ofBool (decide (Moba.Chosen G i n)) := by
  unfold chosen
  rw [andi_at, valid_apply, cmpi_at, rank_apply, broadcast_apply]
  have hg : ∀ b, b < i → gate i q km (ix2 r (ln b)) = G b := fun b hb => by
    rw [hG b hb, gate_apply i q km r (ln b) hb]
  have hc : (L.countP fun j => Moba.Ahead (fun b => gate i q km (ix2 r (ln b))) j n)
      = ((Finset.Iio i).filter fun j => Moba.Ahead G j n).card := by
    rw [List.countP_eq_length_filter, ← List.toFinset_card_of_nodup (hN.filter _)]
    refine congrArg Finset.card (Finset.ext fun j => ?_)
    rw [List.mem_toFinset, List.mem_filter, Finset.mem_filter, Finset.mem_Iio, hL j, decide_eq_true_eq]
    refine and_congr_right fun hj => ?_
    simp only [Moba.Ahead, hg j hj, hg n hn]
  rw [hc]
  have hle : ((Finset.Iio i).filter fun j => Moba.Ahead G j n).card ≤ 8 :=
    (Finset.card_le_univ _).trans (by simp)
  rw [show (3#32) = BitVec.ofNat 32 3 from rfl, cmpi_slt_ofNat (by omega) (by omega), andi_ofBool]
  congr 1
  have : (ln n).val < i.val := hn
  simp [Moba.Chosen, hn, this]

open Classical in
theorem other_apply (sel : IVec S256x128 1) (qb kb : FVec Ideal S2048x128 .bf16) (j : Fin 8) (r u : Fin 256) :
    other i sel qb kb j (ix2 r u)
      = if sel (ix2 r (ln j)) = 1#1 then Moba.score scale (fun t d => qb (ix2 t d)) (fun t d => kb (ix2 t d)) (Moba.pos i r) (Moba.pos j u) else ⊥ := by
  unfold other
  rw [select_apply, raw_apply, masked_apply, spread256, shapeCast_self, col_apply]
  rfl

theorem fold_add_apply {s : Shape} (f : Fin 8 → FVec Ideal s .f32) (x : s.Idx) :
    ∀ (L : List (Fin 8)) (a : FVec Ideal s .f32), L.foldl (fun acc j => addf acc (f j)) a x = (a x : EReal) + (L.map fun j => (f j x : EReal)).sum
  | [], a => by simp
  | j :: L, a => by
    rw [List.foldl_cons, fold_add_apply f x L, List.map_cons, List.sum_cons, ← add_assoc]; rfl

theorem fold_max_apply {s : Shape} (f : Fin 8 → FVec Ideal s .f32) (x : s.Idx) :
    ∀ (L : List (Fin 8)) (a : FVec Ideal s .f32), L.foldl (fun acc j => maximumf acc (f j)) a x = (a x : EReal) ⊔ L.toFinset.sup fun j => (f j x : EReal)
  | [], a => by simp
  | j :: L, a => by
    rw [List.foldl_cons, fold_max_apply f x L, List.toFinset_cons, Finset.sup_insert, ← sup_assoc]; rfl

theorem keep_apply {α : Type} (x : S256.Idx → α) (r : Fin 256) (z : Fin 1) :
    shapeCast S256x1 x shapeCasts_S256_S256x1 (ix2 r z) = x (ix1 r) :=
  shapeCast_apply _ _ _ _ (by
    show (Shape.rowMajorPi ![256] (ix1 r)).val = (Shape.rowMajorPi ![256, 1] (ix2 r z)).val
    have h0 : ∀ (d : Fin 0 → ℕ) (y : (a : Fin 0) → Fin (d a)), (Shape.rowMajorPi d y).val = 0 := fun d y => by
      have := (Shape.rowMajorPi d y).isLt; simp at this; omega
    have hz : z.val = 0 := by omega
    rw [Shape.rowMajorPi_succ_val, Shape.rowMajorPi_succ_val, Shape.rowMajorPi_succ_val, h0, h0]
    show r.val * 1 + 0 = r.val * (1 * 1) + (z.val * 1 + 0)
    omega)

theorem lift_eq (r u : Fin 256) : reduces_S256x256_S256.lift (ix1 r) u = ix2 r u := by
  funext a; match a with
  | ⟨0, _⟩ => rfl
  | ⟨1, _⟩ => rfl

include hN hL in
theorem top_apply (o : FVec Ideal S256x256 .f32) (s : Fin 8 → FVec Ideal S256x256 .f32) (r : Fin 256) (z : Fin 1) :
    top o s L (ix2 r z) = Moba.top i (fun u => o (ix2 r u)) fun j u => s j (ix2 r u) := by
  unfold top Moba.top
  rw [keep_apply, ← toFinset_eq i L hN hL]
  refine (Ideal.multiReduction_maximumf_single _ _ _ _ _ _).trans ?_
  show Finset.fold max (Ideal.ofBits .f32 0xFF800000#32) _ _ = _
  rw [ofBits_negInf]
  refine Finset.fold_congr fun u _ => ?_
  rw [Function.comp_apply, ← fold_max_apply]
  exact congrArg _ (lift_eq r u)

theorem weight_apply (m : FVec Ideal S256x1 .f32) (s : FVec Ideal S256x256 .f32) (r u : Fin 256) :
    weight m s (ix2 r u) = Ideal.exp (s (ix2 r u) - m (ix2 r 0)) := by
  unfold weight
  show Ideal.exp (s (ix2 r u) - broadcastTo S256x256 m broadcasts_S256x1_S256x256 (ix2 r u)) = _
  rw [spread256]

theorem part_apply (w : FVec Ideal S256x256 .f32) (vb : FVec Ideal S2048x128 .bf16) (j : Fin 8) (r : Fin 256) (d : Fin 128) :
    part w vb j (ix2 r d) = ∑ u : Fin 256, w (ix2 r u) * vb (ix2 (Moba.pos j u) d) := by
  unfold part
  refine (Ideal.matmul_plain_apply (M := 256) (K := 256) (N := 128) none (truncf .bf16 w bitsLt_bf16_f32) (rows j vb)
    (constant S256x128 .f32 0x00000000#32) r d).trans ?_
  rw [constant_apply, Ideal.ofBits_zero_f32, zero_add]
  exact Finset.sum_congr rfl fun k _ => by rw [rows_apply]; rfl

include hN hL in
theorem mass_apply (o : FVec Ideal S256x256 .f32) (s : Fin 8 → FVec Ideal S256x256 .f32) (r u : Fin 256) :
    mass (top o s L) o s L (ix2 r u)
      = Ideal.exp (o (ix2 r u) - Moba.top i (fun u => o (ix2 r u)) fun j u => s j (ix2 r u))
        + ∑ j ∈ Finset.Iio i, Ideal.exp (s j (ix2 r u) - Moba.top i (fun u => o (ix2 r u)) fun j u => s j (ix2 r u)) := by
  have hs : ∀ f : Fin 8 → EReal, (L.map f).sum = ∑ j ∈ Finset.Iio i, f j := fun f => by
    rw [← toFinset_eq i L hN hL, List.sum_toFinset f hN]
  unfold mass
  rw [fold_add_apply, hs, addf_apply, weight_apply, top_apply i L hN hL]
  refine congrArg₂ (· + ·) ?_ (Finset.sum_congr rfl fun j _ => ?_)
  · rw [broadcast_apply]
    exact (congrArg (· + _) Ideal.ofBits_zero_f32).trans (zero_add _)
  · rw [weight_apply, top_apply i L hN hL]

include hN hL in
theorem finish_apply (o : FVec Ideal S256x256 .f32) (s : Fin 8 → FVec Ideal S256x256 .f32) (vb : FVec Ideal S2048x128 .bf16)
    (r : Fin 256) (d : Fin 128) (z : Fin 1) :
    finish i L o s vb (ix3 z r d)
      = Moba.attend i (fun u => o (ix2 r u)) (fun j u => s j (ix2 r u)) fun j u => vb (ix2 (Moba.pos j u) d) := by
  unfold finish close Moba.attend
  rw [shapeCast_addUnit_apply, show (fun a : Fin 2 => ix3 z r d a.succ) = ix2 r d from funext fun a => by
    match a with
    | ⟨0, _⟩ => rfl
    | ⟨1, _⟩ => rfl]
  show Ideal.div (acc i (top o s L) o s L vb (ix2 r d)) (broadcastTo S256x128 _ broadcasts_S256x1_S256x128 (ix2 r d)) = _
  rw [spread128, keep_apply]
  have hs : ∀ f : Fin 8 → EReal, (L.map f).sum = ∑ j ∈ Finset.Iio i, f j := fun f => by
    rw [← toFinset_eq i L hN hL, List.sum_toFinset f hN]
  refine congrArg₂ Ideal.div ?_ ((Ideal.multiReduction_add_single _ _ _ _ _ _).trans (Finset.sum_congr rfl fun u _ => ?_))
  · unfold acc
    rw [fold_add_apply, hs, addf_apply, part_apply]
    refine congrArg₂ (· + ·) ?_ (Finset.sum_congr rfl fun j _ => ?_)
    · rw [broadcast_apply]
      refine (congrArg (· + _) Ideal.ofBits_zero_f32).trans ((zero_add _).trans ?_)
      exact Finset.sum_congr rfl fun u _ => by rw [weight_apply, top_apply i L hN hL]
    · rw [part_apply]
      exact Finset.sum_congr rfl fun u _ => by rw [weight_apply, top_apply i L hN hL]
  · refine (congrArg _ (lift_eq r u)).trans ?_
    exact mass_apply i L hN hL o s r u

end Cert.KernelIdeal.Tiles

end
-- ==== Proof.KernelBlocks.lean ====
/- The eight printed blocks are the one block's definition at the eight block numbers. -/
module

public import proofs.«01_k».proof.Proof.KernelTiles

@[expose] public section

set_option maxRecDepth 16384

noncomputable section

namespace Cert.KernelIdeal.Tiles

open Cert.KernelIdeal Cert.KernelIdeal.Gen Idealize.ShloMosaic Idealize.SL.Sem

variable {F : FTy → Type} [FloatOps F] [Named F]
variable (x0 x1 x2 : Vec F S1x2048x128 .f32) (x3 x4 : Vec F S2048x128 .f32)

/-- Block 0. -/
theorem piece0 : k0_pay13 (k0_pay12 (k0_pay162 x0 x1 x2 x3 x4) (k0_pay163 x0 x1 x2 x3 x4) (View.ld x2 r0_1))
    = block 0 [] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 1. -/
theorem piece1 : k0_pay20 (k0_pay170 x0 x1 x2 x3 x4) (k0_pay15 (k0_pay168 x0 x1 x2 x3 x4) (k0_pay169 x0 x1 x2 x3 x4) (k0_pay165 x0 x1 x2 x3 x4) (k0_pay166 x0 x1 x2 x3 x4)) (k0_pay16 (k0_pay162 x0 x1 x2 x3 x4) (k0_pay167 x0 x1 x2 x3 x4) (k0_pay168 x0 x1 x2 x3 x4) (k0_pay169 x0 x1 x2 x3 x4) (k0_pay164 x0 x1 x2 x3 x4)) (k0_pay17 (k0_pay162 x0 x1 x2 x3 x4) (k0_pay167 x0 x1 x2 x3 x4) (k0_pay168 x0 x1 x2 x3 x4) (k0_pay169 x0 x1 x2 x3 x4) (k0_pay164 x0 x1 x2 x3 x4) (k0_pay165 x0 x1 x2 x3 x4) (k0_pay166 x0 x1 x2 x3 x4)) (k0_pay18 (F := F)) (k0_pay19 (F := F))
    = block 1 [0] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 2. -/
theorem piece2 : k0_pay39 (k0_pay170 x0 x1 x2 x3 x4) (k0_pay31 (k0_pay169 x0 x1 x2 x3 x4) (k0_pay164 x0 x1 x2 x3 x4) (k0_pay171 x0 x1 x2 x3 x4) (k0_pay173 x0 x1 x2 x3 x4) (k0_pay174 x0 x1 x2 x3 x4) (k0_pay175 x0 x1 x2 x3 x4) (k0_pay176 x0 x1 x2 x3 x4) (k0_pay177 x0 x1 x2 x3 x4) (k0_pay178 x0 x1 x2 x3 x4)) (k0_pay32 (k0_pay169 x0 x1 x2 x3 x4) (k0_pay164 x0 x1 x2 x3 x4) (k0_pay171 x0 x1 x2 x3 x4) (k0_pay173 x0 x1 x2 x3 x4) (k0_pay174 x0 x1 x2 x3 x4) (k0_pay175 x0 x1 x2 x3 x4) (k0_pay176 x0 x1 x2 x3 x4) (k0_pay177 x0 x1 x2 x3 x4) (k0_pay178 x0 x1 x2 x3 x4)) (k0_pay33 (k0_pay169 x0 x1 x2 x3 x4) (k0_pay164 x0 x1 x2 x3 x4) (k0_pay171 x0 x1 x2 x3 x4) (k0_pay172 x0 x1 x2 x3 x4) (k0_pay173 x0 x1 x2 x3 x4) (k0_pay174 x0 x1 x2 x3 x4) (k0_pay175 x0 x1 x2 x3 x4) (k0_pay176 x0 x1 x2 x3 x4) (k0_pay177 x0 x1 x2 x3 x4) (k0_pay178 x0 x1 x2 x3 x4)) (k0_pay34 (F := F)) (k0_pay36 (k0_pay169 x0 x1 x2 x3 x4) (k0_pay164 x0 x1 x2 x3 x4) (k0_pay171 x0 x1 x2 x3 x4) (k0_pay172 x0 x1 x2 x3 x4) (k0_pay173 x0 x1 x2 x3 x4) (k0_pay174 x0 x1 x2 x3 x4) (k0_pay175 x0 x1 x2 x3 x4) (k0_pay176 x0 x1 x2 x3 x4) (k0_pay177 x0 x1 x2 x3 x4) (k0_pay178 x0 x1 x2 x3 x4)) (k0_pay37 (k0_pay169 x0 x1 x2 x3 x4) (k0_pay164 x0 x1 x2 x3 x4) (k0_pay171 x0 x1 x2 x3 x4) (k0_pay172 x0 x1 x2 x3 x4) (k0_pay173 x0 x1 x2 x3 x4) (k0_pay174 x0 x1 x2 x3 x4) (k0_pay175 x0 x1 x2 x3 x4) (k0_pay176 x0 x1 x2 x3 x4) (k0_pay177 x0 x1 x2 x3 x4) (k0_pay178 x0 x1 x2 x3 x4)) (k0_pay38 (k0_pay170 x0 x1 x2 x3 x4))
    = block 2 [0, 1] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 3. -/
theorem piece3 : k0_pay59 (k0_pay57 (k0_pay169 x0 x1 x2 x3 x4) (k0_pay170 x0 x1 x2 x3 x4) (k0_pay179 x0 x1 x2 x3 x4) (k0_pay180 x0 x1 x2 x3 x4) (k0_pay186 x0 x1 x2 x3 x4) (k0_pay187 x0 x1 x2 x3 x4) (k0_pay188 x0 x1 x2 x3 x4)) (k0_pay58 (k0_pay169 x0 x1 x2 x3 x4) (k0_pay179 x0 x1 x2 x3 x4) (k0_pay180 x0 x1 x2 x3 x4) (k0_pay186 x0 x1 x2 x3 x4) (k0_pay187 x0 x1 x2 x3 x4) (k0_pay188 x0 x1 x2 x3 x4))
    = block 3 [0, 1, 2] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 4. -/
theorem piece4 : k0_pay82 (k0_pay170 x0 x1 x2 x3 x4) (k0_pay74 (k0_pay169 x0 x1 x2 x3 x4) (k0_pay189 x0 x1 x2 x3 x4) (k0_pay196 x0 x1 x2 x3 x4)) (k0_pay75 (k0_pay169 x0 x1 x2 x3 x4) (k0_pay189 x0 x1 x2 x3 x4) (k0_pay190 x0 x1 x2 x3 x4) (k0_pay196 x0 x1 x2 x3 x4) (k0_pay197 x0 x1 x2 x3 x4) (k0_pay198 x0 x1 x2 x3 x4) (k0_pay199 x0 x1 x2 x3 x4) (k0_pay200 x0 x1 x2 x3 x4) (k0_pay201 x0 x1 x2 x3 x4)) (k0_pay80 (k0_pay169 x0 x1 x2 x3 x4) (k0_pay189 x0 x1 x2 x3 x4) (k0_pay190 x0 x1 x2 x3 x4) (k0_pay196 x0 x1 x2 x3 x4) (k0_pay197 x0 x1 x2 x3 x4) (k0_pay198 x0 x1 x2 x3 x4) (k0_pay199 x0 x1 x2 x3 x4) (k0_pay200 x0 x1 x2 x3 x4) (k0_pay201 x0 x1 x2 x3 x4)) (k0_pay81 (k0_pay169 x0 x1 x2 x3 x4) (k0_pay170 x0 x1 x2 x3 x4) (k0_pay189 x0 x1 x2 x3 x4) (k0_pay190 x0 x1 x2 x3 x4) (k0_pay196 x0 x1 x2 x3 x4) (k0_pay197 x0 x1 x2 x3 x4) (k0_pay198 x0 x1 x2 x3 x4) (k0_pay199 x0 x1 x2 x3 x4) (k0_pay200 x0 x1 x2 x3 x4) (k0_pay201 x0 x1 x2 x3 x4))
    = block 4 [0, 1, 2, 3] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 5. -/
theorem piece5 : k0_pay101 (k0_pay100 (k0_pay170 x0 x1 x2 x3 x4) (k0_pay203 x0 x1 x2 x3 x4) (k0_pay210 x0 x1 x2 x3 x4) (k0_pay93 (k0_pay169 x0 x1 x2 x3 x4) (k0_pay202 x0 x1 x2 x3 x4) (k0_pay209 x0 x1 x2 x3 x4)) (k0_pay94 (k0_pay169 x0 x1 x2 x3 x4) (k0_pay202 x0 x1 x2 x3 x4) (k0_pay209 x0 x1 x2 x3 x4)) (k0_pay95 (k0_pay169 x0 x1 x2 x3 x4) (k0_pay202 x0 x1 x2 x3 x4) (k0_pay209 x0 x1 x2 x3 x4)) (k0_pay96 (k0_pay169 x0 x1 x2 x3 x4) (k0_pay202 x0 x1 x2 x3 x4) (k0_pay209 x0 x1 x2 x3 x4)) (k0_pay97 (k0_pay169 x0 x1 x2 x3 x4) (k0_pay202 x0 x1 x2 x3 x4) (k0_pay203 x0 x1 x2 x3 x4) (k0_pay209 x0 x1 x2 x3 x4) (k0_pay210 x0 x1 x2 x3 x4)) (k0_pay98 (F := F)) (k0_pay99 (F := F)))
    = block 5 [0, 1, 2, 3, 4] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 6. -/
theorem piece6 : k0_pay130 (k0_pay170 x0 x1 x2 x3 x4) (k0_pay226 x0 x1 x2 x3 x4) (k0_pay120 (k0_pay224 x0 x1 x2 x3 x4) (k0_pay225 x0 x1 x2 x3 x4) (k0_pay226 x0 x1 x2 x3 x4) (k0_pay227 x0 x1 x2 x3 x4)) (k0_pay126 (k0_pay170 x0 x1 x2 x3 x4) (k0_pay212 x0 x1 x2 x3 x4) (k0_pay220 x0 x1 x2 x3 x4) (k0_pay222 x0 x1 x2 x3 x4) (k0_pay223 x0 x1 x2 x3 x4) (k0_pay224 x0 x1 x2 x3 x4) (k0_pay225 x0 x1 x2 x3 x4) (k0_pay226 x0 x1 x2 x3 x4) (k0_pay227 x0 x1 x2 x3 x4)) (k0_pay128 (k0_pay212 x0 x1 x2 x3 x4) (k0_pay220 x0 x1 x2 x3 x4) (k0_pay222 x0 x1 x2 x3 x4) (k0_pay223 x0 x1 x2 x3 x4) (k0_pay224 x0 x1 x2 x3 x4) (k0_pay225 x0 x1 x2 x3 x4) (k0_pay226 x0 x1 x2 x3 x4) (k0_pay227 x0 x1 x2 x3 x4)) (k0_pay129 (k0_pay224 x0 x1 x2 x3 x4) (k0_pay225 x0 x1 x2 x3 x4) (k0_pay226 x0 x1 x2 x3 x4) (k0_pay227 x0 x1 x2 x3 x4))
    = block 6 [0, 1, 2, 3, 4, 5] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- Block 7. -/
theorem piece7 : k0_pay1 (k0_pay170 x0 x1 x2 x3 x4) (k0_pay159 (k0_pay234 x0 x1 x2 x3 x4) (k0_pay235 x0 x1 x2 x3 x4) (k0_pay236 x0 x1 x2 x3 x4) (k0_pay239 x0 x1 x2 x3 x4) (k0_pay240 x0 x1 x2 x3 x4) (k0_pay241 x0 x1 x2 x3 x4) (k0_pay242 x0 x1 x2 x3 x4) (k0_pay150 (k0_pay169 x0 x1 x2 x3 x4) (k0_pay228 x0 x1 x2 x3 x4) (k0_pay229 x0 x1 x2 x3 x4) (k0_pay233 x0 x1 x2 x3 x4) (k0_pay234 x0 x1 x2 x3 x4) (k0_pay235 x0 x1 x2 x3 x4) (k0_pay236 x0 x1 x2 x3 x4) (k0_pay237 x0 x1 x2 x3 x4) (k0_pay238 x0 x1 x2 x3 x4) (Named.named κ "mask" 0xF149F2CA#32))) (k0_pay160 (k0_pay170 x0 x1 x2 x3 x4) (k0_pay234 x0 x1 x2 x3 x4) (k0_pay235 x0 x1 x2 x3 x4) (k0_pay236 x0 x1 x2 x3 x4) (k0_pay239 x0 x1 x2 x3 x4) (k0_pay240 x0 x1 x2 x3 x4) (k0_pay241 x0 x1 x2 x3 x4) (k0_pay242 x0 x1 x2 x3 x4) (k0_pay148 (F := F)) (k0_pay151 (k0_pay169 x0 x1 x2 x3 x4) (k0_pay228 x0 x1 x2 x3 x4) (k0_pay229 x0 x1 x2 x3 x4) (k0_pay233 x0 x1 x2 x3 x4) (k0_pay234 x0 x1 x2 x3 x4) (k0_pay235 x0 x1 x2 x3 x4) (k0_pay236 x0 x1 x2 x3 x4) (k0_pay237 x0 x1 x2 x3 x4) (k0_pay238 x0 x1 x2 x3 x4) (Named.named κ "mask" 0xF149F2CA#32)) (k0_pay152 (k0_pay170 x0 x1 x2 x3 x4))) (k0_pay161 (k0_pay146 (k0_pay169 x0 x1 x2 x3 x4) (k0_pay228 x0 x1 x2 x3 x4) (k0_pay233 x0 x1 x2 x3 x4)) (k0_pay242 x0 x1 x2 x3 x4))
    = block 7 [0, 1, 2, 3, 4, 5, 6] (k0_pay162 x0 x1 x2 x3 x4) (k0_pay167 x0 x1 x2 x3 x4) (k0_pay168 x0 x1 x2 x3 x4)
        (k0_pay169 x0 x1 x2 x3 x4) (k0_pay170 x0 x1 x2 x3 x4) := rfl

/-- The result's buffer: eight blocks. -/
theorem out_eq : out0_5 x0 x1 x2 x3 x4 = View.canon [⟨r0_9, block 7 [0, 1, 2, 3, 4, 5, 6] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_8, block 6 [0, 1, 2, 3, 4, 5] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_7, block 5 [0, 1, 2, 3, 4] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_6, block 4 [0, 1, 2, 3] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_5, block 3 [0, 1, 2] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_4, block 2 [0, 1] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_3, block 1 [0] (k0_pay162 x0 x1 x2 x3 x4) (k0_pay167 x0 x1 x2 x3 x4) (k0_pay168 x0 x1 x2 x3 x4) (k0_pay169 x0 x1 x2 x3 x4) (k0_pay170 x0 x1 x2 x3 x4)⟩,
    ⟨r0_2, block 0 [] (k0_pay162 x0 x1 x2 x3 x4) (k0_pay167 x0 x1 x2 x3 x4) (k0_pay168 x0 x1 x2 x3 x4) (k0_pay169 x0 x1 x2 x3 x4) (k0_pay170 x0 x1 x2 x3 x4)⟩] := by
  unfold out0_5
  rw [piece0, piece1, piece2, piece3, piece4, piece5, piece6, piece7]

end Cert.KernelIdeal.Tiles

end
-- ==== Proof.KernelBody.lean ====
/- The kernel's body over extended reals: the rotated queries and keys, the pooled keys, and the eight blocks of the result as
   the attention of `Moba.out`. -/
module

public import proofs.«01_k».proof.Proof.KernelTileValue
public import proofs.«01_k».proof.Proof.KernelBlocks
public import Idealize.ShloMosaic.Lib.KernelVsHost
public import Idealize.ShloMosaic.Lib.Pipeline.ValueKit.Geometry

@[expose] public section

set_option maxRecDepth 16384

noncomputable section

namespace Cert.KernelIdeal.Tiles

open Cert.KernelIdeal Cert.KernelIdeal.Gen Idealize.ShloMosaic Idealize.SL.Sem Idealize.ShloMosaic.ValueIdx
open Idealize.ShloMosaic.WordCmp hiding select_one select_zero
open Cert

variable (x0 x1 x2 : Vec Ideal S1x2048x128 .f32) (x3 x4 : Vec Ideal S2048x128 .f32)

theorem drop_apply {α : Type} (x : S1x2048x128.Idx → α) (t : Fin 2048) (d : Fin 128) :
    shapeCast S2048x128 x shapeCasts_S1x2048x128_S2048x128 (ix2 t d) = x (ix3 0 t d) := by
  refine (shapeCast_dropUnit_apply ![2048, 128] x _ (ix2 t d)).trans (congrArg x (funext fun a => ?_))
  match a with
  | ⟨0, _⟩ => rfl
  | ⟨1, _⟩ => rfl
  | ⟨2, _⟩ => rfl

/-- Half a turn of the lanes. -/
def turn (d : Fin 128) : Fin 128 := ⟨(d.val + 64) % 128, by omega⟩

theorem rotate_apply {α : Type} (x : S2048x128.Idx → α) (t : Fin 2048) (d : Fin 128) :
    dynamicRotate 1 64#32 none x rotates_S2048x128_d1 (ix2 t d) = x (ix2 t (turn d)) :=
  dynamicRotate_apply _ _ _ _ _ _ fun b => by
    match b with
    | ⟨0, _⟩ => rfl
    | ⟨1, _⟩ =>
      refine Eq.trans ?_ (if_pos (Fin.ext rfl)).symm
      show (d.val + 64) % 128 = (d.val + 128 - 64 % 128) % 128
      omega

theorem query_apply (t : Fin 2048) (d : Fin 128) :
    k0_pay162 x0 x1 x2 x3 x4 (ix2 t d)
      = (x0 (ix3 0 t d) * x3 (ix2 t d) + x0 (ix3 0 t (turn d)) * x4 (ix2 t d) : EReal) := by
  unfold k0_pay162 k0_pay4 k0_pay2 k0_pay3
  rw [View.ld_unit_zero (by decide), View.ld_unit_zero (by decide), View.ld_unit_zero (by decide)]
  simp only [shapeCast_self]
  rw [addf_apply, mulf_apply, mulf_apply, rotate_apply, drop_apply, drop_apply]

theorem key_apply (t : Fin 2048) (d : Fin 128) :
    k0_pay163 x0 x1 x2 x3 x4 (ix2 t d)
      = (x1 (ix3 0 t d) * x3 (ix2 t d) + x1 (ix3 0 t (turn d)) * x4 (ix2 t d) : EReal) := by
  unfold k0_pay163 k0_pay5 k0_pay2 k0_pay3
  rw [View.ld_unit_zero (by decide), View.ld_unit_zero (by decide), View.ld_unit_zero (by decide)]
  simp only [shapeCast_self]
  rw [addf_apply, mulf_apply, mulf_apply, rotate_apply, drop_apply, drop_apply]

theorem value_apply (t : Fin 2048) (d : Fin 128) : k0_pay170 x0 x1 x2 x3 x4 (ix2 t d) = (x2 (ix3 0 t d) : EReal) := by
  unfold k0_pay170 k0_pay11
  rw [View.ld_unit_zero (by decide), truncf_apply, drop_apply]

/-- The block number of a position, as the kernel computes it. -/
theorem block_word : ∀ t : Fin 2048,
    Scalar.select (k0_pay7 (ix2 (0 : Fin 128) t)) (IntOp.subi (k0_pay6 (ix2 (0 : Fin 128) t)) 1#32) (k0_pay6 (ix2 (0 : Fin 128) t))
      = BitVec.ofNat 32 (t.val / 256) := by
  decide +kernel

theorem mean_word : Ideal.ofBits .f32 0x3B800000#32 = ((1 / 256 : ℝ) : EReal) := by
  simp [Ideal.ofBits, Ideal.ieee]
  rw [← EReal.coe_mul]
  norm_num

theorem pooled_apply (n : Fin 8) (d : Fin 128) :
    k0_pay167 x0 x1 x2 x3 x4 (ix2 (ln n) d) = Moba.pooled (fun t d => k0_pay163 x0 x1 x2 x3 x4 (ix2 t d)) n d := by
  unfold k0_pay167 k0_pay8
  generalize k0_pay163 x0 x1 x2 x3 x4 = kr
  refine (Ideal.matmul_plain_apply (M := 128) (K := 2048) (N := 128) (some .fp32) _ kr (constant S128x128 .f32 0x00000000#32) (ln n) d).trans ?_
  rw [constant_apply, Ideal.ofBits_zero_f32, zero_add]
  have h : ∀ t : Fin 2048, (select (cmpi .eq (select k0_pay7 (subi k0_pay6 (broadcast S128x2048 1#32)) k0_pay6)
        (iota .tc S128x2048 32 [0] iota_S128x2048_d0_w32))
        (broadcast S128x2048 (Scalar.ofBits .f32 0x3B800000#32 : Ideal .f32)) (broadcast S128x2048 (Scalar.ofBits .f32 0x00000000#32 : Ideal .f32)) (ix2 (ln n) t) : EReal)
      = if Moba.blk t = n then ((1 / 256 : ℝ) : EReal) else 0 := by
    intro t
    rw [select_apply, cmpi_at, iota_single_apply]
    have := block_word t
    rw [show select k0_pay7 (subi k0_pay6 (broadcast S128x2048 1#32)) k0_pay6 (ix2 (ln n) t) = BitVec.ofNat 32 (t.val / 256) from this]
    show Scalar.select (IntOp.cmpi .eq (BitVec.ofNat 32 (t.val / 256)) (BitVec.ofNat 32 n.val)) (Ideal.ofBits .f32 0x3B800000#32) (Ideal.ofBits .f32 0x00000000#32) = _
    rw [cmpi_eq_ofNat (by omega) (by omega), select_decide, mean_word, Ideal.ofBits_zero_f32]
    refine if_congr ?_ rfl rfl
    exact ⟨fun e => Fin.ext e, fun e => congrArg Fin.val e⟩
  refine (Finset.sum_congr rfl fun t _ => congrArg (· * kr (ix2 t d)) (h t)).trans ?_
  rw [Moba.sum_pos]
  unfold Moba.pooled
  rw [Moba.sum_mul_coe _ _ _ (by norm_num), Finset.sum_eq_single n]
  · refine Finset.sum_congr rfl fun u _ => ?_
    rw [Moba.blk_pos, if_pos rfl]; exact mul_comm _ _
  · intro j _ hj
    refine Finset.sum_eq_zero fun u _ => ?_
    rw [Moba.blk_pos, if_neg hj]; exact zero_mul _
  · intro h; exact absurd (Finset.mem_univ _) h

/-- One block of the result. -/
theorem block_apply (i : Fin 8) (L : List (Fin 8)) (hN : L.Nodup) (hL : ∀ j, j ∈ L ↔ j < i) (r : Fin 256) (d : Fin 128) (z : Fin 1) :
    block i L (k0_pay162 x0 x1 x2 x3 x4) (k0_pay167 x0 x1 x2 x3 x4) (k0_pay168 x0 x1 x2 x3 x4)
        (k0_pay169 x0 x1 x2 x3 x4) (k0_pay170 x0 x1 x2 x3 x4) (ix3 z r d)
      = Moba.out scale (fun t d => k0_pay162 x0 x1 x2 x3 x4 (ix2 t d)) (fun t d => k0_pay163 x0 x1 x2 x3 x4 (ix2 t d))
          (fun t d => k0_pay170 x0 x1 x2 x3 x4 (ix2 t d)) i r d := by
  unfold block Moba.out
  rw [finish_apply i L hN hL]
  have ho : ∀ u, own i (k0_pay168 x0 x1 x2 x3 x4) (k0_pay169 x0 x1 x2 x3 x4) (ix2 r u)
      = Moba.own scale (fun t d => k0_pay162 x0 x1 x2 x3 x4 (ix2 t d)) (fun t d => k0_pay163 x0 x1 x2 x3 x4 (ix2 t d)) i r u :=
    fun u => own_apply i _ _ r u
  have hs : ∀ j ∈ Finset.Iio i, ∀ u, other i (chosen i L (k0_pay162 x0 x1 x2 x3 x4) (k0_pay167 x0 x1 x2 x3 x4))
        (k0_pay168 x0 x1 x2 x3 x4) (k0_pay169 x0 x1 x2 x3 x4) j (ix2 r u)
      = Moba.other scale (fun t d => k0_pay162 x0 x1 x2 x3 x4 (ix2 t d)) (fun t d => k0_pay163 x0 x1 x2 x3 x4 (ix2 t d)) i r j u := by
    intro j hj u
    have hj' : j < i := Finset.mem_Iio.1 hj
    rw [other_apply, chosen_apply i L hN hL _ _ (Moba.gate (fun t d => k0_pay162 x0 x1 x2 x3 x4 (ix2 t d))
      (fun t d => k0_pay163 x0 x1 x2 x3 x4 (ix2 t d)) (Moba.pos i r)) r (fun n hn => by
        unfold Moba.gate
        exact Finset.sum_congr rfl fun d _ => by rw [pooled_apply]) j hj']
    unfold Moba.other
    split_ifs with h1 h2 h2
    · rfl
    · rw [ofBool_decide_eq_one_iff] at h1; exact absurd h1 h2
    · rw [ofBool_decide_eq_one_iff] at h1; exact absurd h2 h1
    · rfl
  exact Moba.attend_congr i ho hs fun _ _ => rfl

/-- The body's result at position `t`, feature `d`. -/
theorem body_apply (y : S1x2048x128.Idx) :
    out0_5 x0 x1 x2 x3 x4 y
      = Moba.out scale (fun t d => k0_pay162 x0 x1 x2 x3 x4 (ix2 t d)) (fun t d => k0_pay163 x0 x1 x2 x3 x4 (ix2 t d))
          (fun t d => k0_pay170 x0 x1 x2 x3 x4 (ix2 t d)) (Moba.blk (y 1)) (Moba.off (y 1)) (y 2) := by
  rw [out_eq]
  refine View.canon_apply_of_pieces (Val := Elt Ideal) (S := S1x2048x128) (fun y : S1x2048x128.Idx => (show Elt Ideal .bf16 from Moba.out scale (fun t d => k0_pay162 x0 x1 x2 x3 x4 (ix2 t d)) (fun t d => k0_pay163 x0 x1 x2 x3 x4 (ix2 t d))
          (fun t d => k0_pay170 x0 x1 x2 x3 x4 (ix2 t d)) (Moba.blk (y 1)) (Moba.off (y 1)) (y 2))) _ ?_ y ?_
  · have H : ∀ (i : Fin 8) (L : List (Fin 8)) (hN : L.Nodup) (hL : ∀ j, j ∈ L ↔ j < i)
        (inb : ∀ a, (![0, 256 * i.val, 0] : Fin 3 → ℕ) a + S1x256x128.size a ≤ S1x2048x128.size a)
        (x : S1x256x128.Idx),
        block i L (k0_pay162 x0 x1 x2 x3 x4) (k0_pay167 x0 x1 x2 x3 x4) (k0_pay168 x0 x1 x2 x3 x4)
            (k0_pay169 x0 x1 x2 x3 x4) (k0_pay170 x0 x1 x2 x3 x4) x
          = (fun y : S1x2048x128.Idx => (show Elt Ideal .bf16 from Moba.out scale (fun t d => k0_pay162 x0 x1 x2 x3 x4 (ix2 t d)) (fun t d => k0_pay163 x0 x1 x2 x3 x4 (ix2 t d))
              (fun t d => k0_pay170 x0 x1 x2 x3 x4 (ix2 t d)) (Moba.blk (y 1)) (Moba.off (y 1)) (y 2)))
              ((Rect.unit (s := S1x2048x128) ![0, 256 * i.val, 0] S1x256x128.size inb).emb x) := by
      intro i L hN hL inb x
      have e1 : (Rect.unit (s := S1x2048x128) ![0, 256 * i.val, 0] S1x256x128.size inb).emb x 1 = Moba.pos i (x 1) :=
        Fin.ext (ValueKit.rect_emb_unit_val (s := S1x2048x128) ![0, 256 * i.val, 0] S1x256x128.size inb x 1)
      have e2 : (Rect.unit (s := S1x2048x128) ![0, 256 * i.val, 0] S1x256x128.size inb).emb x 2 = x 2 :=
        Fin.ext ((ValueKit.rect_emb_unit_val (s := S1x2048x128) ![0, 256 * i.val, 0] S1x256x128.size inb x 2).trans (Nat.zero_add _))
      have key : ∀ (z : Fin 1) (r : Fin 256) (f : Fin 128) (t : Fin 2048) (d : Fin 128), t = Moba.pos i r → d = f →
          block i L (k0_pay162 x0 x1 x2 x3 x4) (k0_pay167 x0 x1 x2 x3 x4) (k0_pay168 x0 x1 x2 x3 x4)
            (k0_pay169 x0 x1 x2 x3 x4) (k0_pay170 x0 x1 x2 x3 x4) (ix3 z r f)
            = Moba.out scale (fun t d => k0_pay162 x0 x1 x2 x3 x4 (ix2 t d)) (fun t d => k0_pay163 x0 x1 x2 x3 x4 (ix2 t d))
              (fun t d => k0_pay170 x0 x1 x2 x3 x4 (ix2 t d)) (Moba.blk t) (Moba.off t) d := by
        rintro z r f _ _ rfl rfl
        rw [Moba.blk_pos, Moba.off_pos]
        exact block_apply x0 x1 x2 x3 x4 i L hN hL r _ z
      exact (congrArg _ (eq_ix3 x)).trans (key (x 0) (x 1) (x 2) _ _ e1 e2)
    intro p hp x
    simp only [List.mem_cons, List.mem_nil_iff, or_false] at hp
    rcases hp with rfl | rfl | rfl | rfl | rfl | rfl | rfl | rfl
    · exact H 7 _ (by decide) (by decide) inb_S1x2048x128_S1x256x128_0_1792_0 x
    · exact H 6 _ (by decide) (by decide) inb_S1x2048x128_S1x256x128_0_1536_0 x
    · exact H 5 _ (by decide) (by decide) inb_S1x2048x128_S1x256x128_0_1280_0 x
    · exact H 4 _ (by decide) (by decide) inb_S1x2048x128_S1x256x128_0_1024_0 x
    · exact H 3 _ (by decide) (by decide) inb_S1x2048x128_S1x256x128_0_768_0 x
    · exact H 2 _ (by decide) (by decide) inb_S1x2048x128_S1x256x128_0_512_0 x
    · exact H 1 _ (by decide) (by decide) inb_S1x2048x128_S1x256x128_0_256_0 x
    · exact H 0 _ (by decide) (by decide) inb_S1x2048x128_S1x256x128_0_0_0 x
  · have hm : ∀ (i : Fin 8) (inb : ∀ a, (![0, 256 * i.val, 0] : Fin 3 → ℕ) a + S1x256x128.size a ≤ S1x2048x128.size a),
        Moba.blk (y 1) = i → y ∈ (Rect.unit (s := S1x2048x128) ![0, 256 * i.val, 0] S1x256x128.size inb).set := by
      intro i inb hi
      have h0 : (y 0).val < 1 := (y 0).isLt
      have h1 : (y 1).val < 2048 := (y 1).isLt
      have h2 : (y 2).val < 128 := (y 2).isLt
      have hb : (y 1).val / 256 = i.val := congrArg Fin.val hi
      refine (Rect.mem_set_unit ..).2 fun a => ?_
      match a with
      | ⟨0, _⟩ => exact ⟨Nat.zero_le _, by show (y 0).val < 0 + 1; omega⟩
      | ⟨1, _⟩ => exact ⟨by show 256 * i.val ≤ (y 1).val; omega, by show (y 1).val < 256 * i.val + 256; omega⟩
      | ⟨2, _⟩ => exact ⟨Nat.zero_le _, by show (y 2).val < 0 + 128; omega⟩
    generalize hb : Moba.blk (y 1) = b at hm
    simp only [List.mem_cons, List.mem_nil_iff, or_false, exists_eq_or_imp, exists_eq_left]
    match b with
    | 0 => iterate 7 right
           exact hm 0 inb_S1x2048x128_S1x256x128_0_0_0 rfl
    | 1 => iterate 6 right
           exact Or.inl (hm 1 inb_S1x2048x128_S1x256x128_0_256_0 rfl)
    | 2 => iterate 5 right
           exact Or.inl (hm 2 inb_S1x2048x128_S1x256x128_0_512_0 rfl)
    | 3 => iterate 4 right
           exact Or.inl (hm 3 inb_S1x2048x128_S1x256x128_0_768_0 rfl)
    | 4 => iterate 3 right
           exact Or.inl (hm 4 inb_S1x2048x128_S1x256x128_0_1024_0 rfl)
    | 5 => iterate 2 right
           exact Or.inl (hm 5 inb_S1x2048x128_S1x256x128_0_1280_0 rfl)
    | 6 => exact Or.inr (Or.inl (hm 6 inb_S1x2048x128_S1x256x128_0_1536_0 rfl))
    | 7 => exact Or.inl (hm 7 inb_S1x2048x128_S1x256x128_0_1792_0 rfl)

end Cert.KernelIdeal.Tiles

end
-- ==== Proof.KernelHost.lean ====
/- What the host code before the kernel puts into the kernel's arrays: the columns of the projections that hold queries, keys and
   values, and the tables of cosines and sines. -/
module

public import proofs.«01_k».proof.Proof.KernelBody
public import proofs.«01_k».proof.Proof.Gen.KernelIdeal.Value
public import Idealize.ShloMosaic.Lib.StableHlo.Run
public import Idealize.ShloMosaic.Lib.KernelVsHost
public import Idealize.ShloMosaic.Lib.Pipeline.ValueKit.Geometry
public import Idealize.ShloMosaic.Lib.Pointwise.ElementwiseCore

@[expose] public section

set_option maxRecDepth 16384
noncomputable section
namespace Cert.KernelIdeal.Tiles
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ) (c : Dev nD)

theorem last_part {α : Type} (x0 : S4x2048x6144.Idx → α) (x1 : S4x2048x512.Idx → α) (x2 x3 : S4x2048x128.Idx → α)
    (x4 : S4x2048x6400.Idx → α) (h) (b : Fin 4) (t : Fin 2048) (x : Fin 6144) :
    concatenate S4x2048x13312 2 [⟨S4x2048x6144, x0⟩, ⟨S4x2048x512, x1⟩, ⟨S4x2048x128, x2⟩, ⟨S4x2048x128, x3⟩, ⟨S4x2048x6400, x4⟩] h
        (ix3 b t (⟨6912 + x.val, by omega⟩ : Fin 13312))
      = x4 (ix3 b t (⟨x.val, by omega⟩ : Fin 6400)) := by
  refine concatenate_apply_piece (t := S4x2048x13312) 2 _ h _ 4 (by decide : 4 < 5) S4x2048x6400 x4 rfl rfl 6912 rfl _ ?_ ?_
  · intro a ha
    match a with
    | ⟨0, _⟩ => rfl
    | ⟨1, _⟩ => rfl
    | ⟨2, _⟩ => exact absurd rfl ha
  · rfl

theorem padded_part {α : Type} (x : S4x2048x6144.Idx → α) (v : S_.Idx → α) (h) (hu) (b : Fin 4) (t : Fin 2048) (w : Fin 6144) :
    pad S4x2048x6400 ![0, 0, 0] ![0, 0, 256] ![0, 0, 0] x v h hu (ix3 b t (⟨w.val, by omega⟩ : Fin 6400)) = x (ix3 b t w) :=
  pad_apply_of_inside _ _ _ _ _ _ _ _ _ fun a => by
    match a with
    | ⟨0, _⟩ => show b.val = 0 + b.val * (0 + 1); omega
    | ⟨1, _⟩ => show t.val = 0 + t.val * (0 + 1); omega
    | ⟨2, _⟩ => show w.val = 0 + w.val * (0 + 1); omega

theorem v7_apply (b : Fin 4) (t : Fin 2048) (x : Fin 6144) :
    V m c main_v7 (ix3 b t (⟨6912 + x.val, by omega⟩ : Fin 13312)) = m ((c : Thread nD τ).loc main_arg0) (ix3 b t (⟨6880 + x.val, by omega⟩ : Fin 13024)) := by
  show StableHlo.after (List.flatten [hostOps0, hostOps0_1, hostOps0_2, hostOps0_3, hostOps0_4]) (fun b => m (c, b)) (Proc.devRef .tc main_v7) _ = _
  simp only [hostOps0, hostOps0_1, hostOps0_2, hostOps0_3, hostOps0_4, List.flatten_cons, List.flatten_nil, List.append_nil, List.cons_append, List.nil_append]
  after_results
  refine (last_part _ _ _ _ _ _ b t x).trans ?_
  show HloOp.result _ _ (Proc.devRef .tc main_v6) _ = _
  after_results_simp
  refine (padded_part _ _ pads_S4x2048x6144_S4x2048x6400_000_000_02560 _ b t x).trans ?_
  exact extractStridedSlice_apply _ _ slices_S4x2048x13024_S4x2048x6144_0_0_6880 _ _ fun a => by
    match a with
    | ⟨0, _⟩ => exact (Nat.zero_add _).symm
    | ⟨1, _⟩ => exact (Nat.zero_add _).symm
    | ⟨2, _⟩ => rfl

/-- The angles, as the host computes them. -/
def angles : FVec Ideal S2048x64 .f32 :=
  mulf
    (broadcastInDim S2048x64 ![0, 1] bcast_S2048x1_S2048x64_0_1
      (broadcastInDim S2048x1 ![0] bcast_S2048_S2048x1_0 (sitofp FTy.f32 (iotaInDim S2048 32 0))))
    (broadcastInDim S2048x64 ![0, 1] bcast_S1x64_S2048x64_0_1
      (broadcastInDim S1x64 ![1] bcast_S64_S1x64_1
        (Host.powf (broadcastInDim S64 ![] bcast_S_S64 (constant S_ FTy.f32 1176256512#32))
          (Host.divf
            (Host.negf
              (addf (broadcastInDim S64 ![] bcast_S_S64 (constant S_ FTy.f32 0#32))
                (mulf (broadcastInDim S64 ![] bcast_S_S64 (constant S_ FTy.f32 1073741824#32))
                  (sitofp FTy.f32 (iotaInDim S64 32 0)))))
            (broadcastInDim S64 ![] bcast_S_S64 (constant S_ FTy.f32 1124073472#32))))))

theorem ofBits_theta : Ideal.ofBits .f32 1176256512#32 = ((10000 : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem ofBits_width : Ideal.ofBits .f32 1124073472#32 = ((128 : ℝ) : EReal) := by
  simp [Ideal.ofBits, Ideal.ieee]
  rw [← EReal.coe_mul]
  norm_num

theorem nat_word (n : ℕ) (h : n < 2 ^ 31) : (((BitVec.ofNat 32 n).toInt : ℝ) : EReal) = ((n : ℝ) : EReal) := by
  rw [BitVec.toInt_eq_toNat_of_lt (by rw [BitVec.toNat_ofNat]; omega), BitVec.toNat_ofNat, Nat.mod_eq_of_lt (by omega)]
  norm_cast

/-- The angle's arithmetic, on real numbers. -/
theorem angle_arith (t : Fin 2048) (f : Fin 64) :
    ((((BitVec.ofNat 32 t.val).toInt : ℝ) : EReal) * Ideal.pow (Ideal.ofBits .f32 1176256512#32)
      (Ideal.div (-(Ideal.ofBits .f32 0#32 + Ideal.ofBits .f32 1073741824#32 * (((BitVec.ofNat 32 f.val).toInt : ℝ) : EReal)))
        (Ideal.ofBits .f32 1124073472#32)) : EReal) = (Moba.angle t f : EReal) := by
  rw [nat_word _ (by omega), nat_word _ (by omega), ofBits_theta, ofBits_two, ofBits_width, Ideal.ofBits_zero_f32, zero_add,
    ← EReal.coe_mul, ← EReal.coe_neg, Ideal.div_coe (by norm_num), ← EReal.coe_mul, Ideal.pow_coe_coe, ← EReal.coe_mul]
  rfl

theorem angles_apply (t : Fin 2048) (f : Fin 64) : angles (ix2 t f) = (Moba.angle t f : EReal) :=
  angle_arith t f

theorem cos_table (t : Fin 2048) (d : Fin 128) :
    V m c main_v26 (ix2 t d) = Moba.cosine t ⟨d.val % 64, by omega⟩ := by
  have e : V m c main_v26 = concatenate (α := Ideal .f32) S2048x128 1 [⟨S2048x64, Host.cos angles⟩, ⟨S2048x64, Host.cos angles⟩] concatenates_S2048x64_S2048x64_S2048x128_d1 := by
    unfold_abbrev_sides
    simp only [hostOps0, hostOps0_1, hostOps0_2, hostOps0_3, hostOps0_4, List.flatten_cons, List.flatten_nil, List.append_nil, List.cons_append, List.nil_append]
    after_results
    rfl
  rw [e]
  have hv : ∀ f, (Host.cos angles) (ix2 t f) = Moba.cosine t f := fun f => by
    show Ideal.cos (angles (ix2 t f)) = _
    rw [angles_apply]; rfl
  by_cases hd : d.val < 64
  · refine (concatenate_pair_apply_left (t := S2048x128) (s₁ := S2048x64) (s₂ := S2048x64) 1 _ _ _ _ rfl (ix2 t ⟨d.val % 64, by omega⟩) fun a => ?_).trans (hv _)
    match a with
    | ⟨0, _⟩ => rfl
    | ⟨1, _⟩ => exact Nat.mod_eq_of_lt hd
  · refine (concatenate_pair_apply_right (t := S2048x128) (s₁ := S2048x64) (s₂ := S2048x64) 1 _ _ _ _ rfl rfl (ix2 t ⟨d.val % 64, by omega⟩) ?_ ?_).trans (hv _)
    · intro a ha
      match a with
      | ⟨0, _⟩ => rfl
      | ⟨1, _⟩ => exact absurd rfl ha
    · show d.val % 64 + 64 = d.val; omega

theorem sin_table (t : Fin 2048) (d : Fin 128) :
    V m c main_v30 (ix2 t d) = if d.val < 64 then -Moba.sine t ⟨d.val % 64, by omega⟩ else Moba.sine t ⟨d.val % 64, by omega⟩ := by
  have e : V m c main_v30 = concatenate (α := Ideal .f32) S2048x128 1 [⟨S2048x64, Host.negf (Host.sin angles)⟩, ⟨S2048x64, Host.sin angles⟩] concatenates_S2048x64_S2048x64_S2048x128_d1 := by
    unfold_abbrev_sides
    simp only [hostOps0, hostOps0_1, hostOps0_2, hostOps0_3, hostOps0_4, List.flatten_cons, List.flatten_nil, List.append_nil, List.cons_append, List.nil_append]
    after_results
    rfl
  rw [e]
  have hv : ∀ f, (Host.sin angles) (ix2 t f) = Moba.sine t f := fun f => by
    show Ideal.sin (angles (ix2 t f)) = _
    rw [angles_apply]; rfl
  by_cases hd : d.val < 64
  · rw [if_pos hd]
    refine (concatenate_pair_apply_left (t := S2048x128) (s₁ := S2048x64) (s₂ := S2048x64) 1 _ _ _ _ rfl (ix2 t ⟨d.val % 64, by omega⟩) fun a => ?_).trans (congrArg (fun x : EReal => -x) (hv _))
    match a with
    | ⟨0, _⟩ => rfl
    | ⟨1, _⟩ => exact Nat.mod_eq_of_lt hd
  · rw [if_neg hd]
    refine (concatenate_pair_apply_right (t := S2048x128) (s₁ := S2048x64) (s₂ := S2048x64) 1 _ _ _ _ rfl rfl (ix2 t ⟨d.val % 64, by omega⟩) ?_ ?_).trans (hv _)
    · intro a ha
      match a with
      | ⟨0, _⟩ => rfl
      | ⟨1, _⟩ => exact absurd rfl ha
    · show d.val % 64 + 64 = d.val; omega

/-- One head's rotation, from the tables. -/
theorem rope_tables (x : Fin 2048 → Fin 128 → EReal) (t : Fin 2048) (d : Fin 128) :
    (x t d * V m c main_v26 (ix2 t d) + x t (turn d) * V m c main_v30 (ix2 t d) : EReal) = Moba.rope Moba.cosine Moba.sine x t d := by
  rw [cos_table, sin_table]
  unfold Moba.rope
  by_cases hd : d.val < 64
  · rw [if_pos hd, dif_pos hd]
    have e1 : (⟨d.val % 64, by omega⟩ : Fin 64) = ⟨d.val, hd⟩ := Fin.ext (Nat.mod_eq_of_lt hd)
    have e2 : turn d = ⟨d.val + 64, by omega⟩ := Fin.ext (by show (d.val + 64) % 128 = d.val + 64; omega)
    rw [e1, e2, mul_neg, sub_eq_add_neg]
  · rw [if_neg hd, dif_neg hd]
    have e1 : (⟨d.val % 64, by omega⟩ : Fin 64) = ⟨d.val - 64, by omega⟩ := Fin.ext (by show d.val % 64 = d.val - 64; omega)
    have e2 : turn d = ⟨d.val - 64, by omega⟩ := Fin.ext (by show (d.val + 64) % 128 = d.val - 64; omega)
    rw [e1, e2]

end Cert.KernelIdeal.Tiles

end
-- ==== Proof.KernelValue.lean ====
/- What the kernel's result array holds after the run: the attention of `Moba.result` of the argument. -/
module

public import proofs.«01_k».proof.Proof.KernelHost

@[expose] public section

set_option maxRecDepth 16384

noncomputable section

namespace Cert.KernelIdeal.Tiles

open Cert.KernelIdeal Cert.KernelIdeal.Gen Idealize.ShloMosaic Idealize.ShloMosaic.TcCoe Idealize.SL.Sem Idealize.ShloMosaic.ValueIdx
open Cert

variable (m : (ℓ : Loc nD τ sig) → Buf (Elt Ideal) ℓ) (c : Dev nD)

/-- The argument as a function of its coordinates. -/
def arg (b : Fin 4) (t : Fin 2048) (x : Fin 13024) : EReal := m ((c : Thread nD τ).loc main_arg0) (ix3 b t x)

/-- The windows' blocks at a grid point, against the result window's: decided over the 64 points. -/
theorem index_facts : ∀ t : Fin grid0.N,
    (win0_0.index t 0 = win0_5.index t 0 ∧ win0_0.index t 1 = 0 ∧ win0_0.index t 2 = 54 + win0_5.index t 2)
    ∧ (win0_1.index t 0 = win0_5.index t 0 ∧ win0_1.index t 1 = 0 ∧ win0_1.index t 2 = 70 + win0_5.index t 2)
    ∧ (win0_2.index t 0 = win0_5.index t 0 ∧ win0_2.index t 1 = 0 ∧ win0_2.index t 2 = 86 + win0_5.index t 2)
    ∧ (win0_3.index t 0 = 0 ∧ win0_3.index t 1 = 0) ∧ (win0_4.index t 0 = 0 ∧ win0_4.index t 1 = 0)
    ∧ win0_5.index t 0 < 4 ∧ win0_5.index t 1 = 0 ∧ win0_5.index t 2 < 16 := by
  decide +kernel

theorem query_block (t : Fin grid0.N) (b : Fin 4) (h : Fin 16) (hb : win0_5.index t 0 = b.val) (hh : win0_5.index t 2 = h.val)
    (r : Fin 2048) (d : Fin 128) :
    iblk m c 0 t (ix3 0 r d) = Moba.head (arg m c) 6880 (by decide) b h r d := by
  have e : iblk m c 0 t (ix3 0 r d) = V m c main_v7 ((win0_0.rect t).emb (ix3 0 r d)) := rfl
  obtain ⟨⟨h0, h1, h2⟩, _⟩ := index_facts t
  have hk : (win0_0.rect t).emb (ix3 0 r d) = ix3 b r (⟨6912 + (h.val * 128 + d.val), by omega⟩ : Fin 13312) := by
    funext a
    match a with
    | ⟨0, _⟩ => exact Fin.ext ((Pipeline.Window.rect_emb_val win0_0 t _ 0).trans (by show win0_0.index t 0 * 1 + 0 = b.val; omega))
    | ⟨1, _⟩ => exact Fin.ext ((Pipeline.Window.rect_emb_val win0_0 t _ 1).trans (by show win0_0.index t 1 * 2048 + r.val = r.val; omega))
    | ⟨2, _⟩ => exact Fin.ext ((Pipeline.Window.rect_emb_val win0_0 t _ 2).trans (by show win0_0.index t 2 * 128 + d.val = 6912 + (h.val * 128 + d.val); omega))
  rw [e, hk]
  exact v7_apply m c b r ⟨h.val * 128 + d.val, by omega⟩

theorem key_block (t : Fin grid0.N) (b : Fin 4) (h : Fin 16) (hb : win0_5.index t 0 = b.val) (hh : win0_5.index t 2 = h.val)
    (r : Fin 2048) (d : Fin 128) :
    iblk m c 1 t (ix3 0 r d) = Moba.head (arg m c) 8928 (by decide) b h r d := by
  have e : iblk m c 1 t (ix3 0 r d) = V m c main_v7 ((win0_1.rect t).emb (ix3 0 r d)) := rfl
  obtain ⟨_, ⟨h0, h1, h2⟩, _⟩ := index_facts t
  have hk : (win0_1.rect t).emb (ix3 0 r d) = ix3 b r (⟨6912 + (2048 + (h.val * 128 + d.val)), by omega⟩ : Fin 13312) := by
    funext a
    match a with
    | ⟨0, _⟩ => exact Fin.ext ((Pipeline.Window.rect_emb_val win0_1 t _ 0).trans (by show win0_1.index t 0 * 1 + 0 = b.val; omega))
    | ⟨1, _⟩ => exact Fin.ext ((Pipeline.Window.rect_emb_val win0_1 t _ 1).trans (by show win0_1.index t 1 * 2048 + r.val = r.val; omega))
    | ⟨2, _⟩ => exact Fin.ext ((Pipeline.Window.rect_emb_val win0_1 t _ 2).trans (by show win0_1.index t 2 * 128 + d.val = 6912 + (2048 + (h.val * 128 + d.val)); omega))
  rw [e, hk]
  refine (v7_apply m c b r ⟨2048 + (h.val * 128 + d.val), by omega⟩).trans ?_
  exact congrArg (arg m c b r) (Fin.ext (by show 6880 + (2048 + (h.val * 128 + d.val)) = 8928 + (h.val * 128 + d.val); omega))

theorem value_block (t : Fin grid0.N) (b : Fin 4) (h : Fin 16) (hb : win0_5.index t 0 = b.val) (hh : win0_5.index t 2 = h.val)
    (r : Fin 2048) (d : Fin 128) :
    iblk m c 2 t (ix3 0 r d) = Moba.head (arg m c) 10976 (by decide) b h r d := by
  have e : iblk m c 2 t (ix3 0 r d) = V m c main_v7 ((win0_2.rect t).emb (ix3 0 r d)) := rfl
  obtain ⟨_, _, ⟨h0, h1, h2⟩, _⟩ := index_facts t
  have hk : (win0_2.rect t).emb (ix3 0 r d) = ix3 b r (⟨6912 + (4096 + (h.val * 128 + d.val)), by omega⟩ : Fin 13312) := by
    funext a
    match a with
    | ⟨0, _⟩ => exact Fin.ext ((Pipeline.Window.rect_emb_val win0_2 t _ 0).trans (by show win0_2.index t 0 * 1 + 0 = b.val; omega))
    | ⟨1, _⟩ => exact Fin.ext ((Pipeline.Window.rect_emb_val win0_2 t _ 1).trans (by show win0_2.index t 1 * 2048 + r.val = r.val; omega))
    | ⟨2, _⟩ => exact Fin.ext ((Pipeline.Window.rect_emb_val win0_2 t _ 2).trans (by show win0_2.index t 2 * 128 + d.val = 6912 + (4096 + (h.val * 128 + d.val)); omega))
  rw [e, hk]
  refine (v7_apply m c b r ⟨4096 + (h.val * 128 + d.val), by omega⟩).trans ?_
  exact congrArg (arg m c b r) (Fin.ext (by show 6880 + (4096 + (h.val * 128 + d.val)) = 10976 + (h.val * 128 + d.val); omega))

theorem cos_block (t : Fin grid0.N) (r : Fin 2048) (d : Fin 128) : iblk m c 3 t (ix2 r d) = V m c main_v26 (ix2 r d) := by
  have e : iblk m c 3 t (ix2 r d) = V m c main_v26 ((win0_3.rect t).emb (ix2 r d)) := rfl
  obtain ⟨_, _, _, ⟨h0, h1⟩, _⟩ := index_facts t
  rw [e]
  refine congrArg _ (funext fun a => ?_)
  match a with
  | ⟨0, _⟩ => exact Fin.ext (Pipeline.Window.rect_emb_val_of_index_zero win0_3 t 0 h0 _)
  | ⟨1, _⟩ => exact Fin.ext (Pipeline.Window.rect_emb_val_of_index_zero win0_3 t 1 h1 _)

theorem sin_block (t : Fin grid0.N) (r : Fin 2048) (d : Fin 128) : iblk m c 4 t (ix2 r d) = V m c main_v30 (ix2 r d) := by
  have e : iblk m c 4 t (ix2 r d) = V m c main_v30 ((win0_4.rect t).emb (ix2 r d)) := rfl
  obtain ⟨_, _, _, _, ⟨h0, h1⟩, _⟩ := index_facts t
  rw [e]
  refine congrArg _ (funext fun a => ?_)
  match a with
  | ⟨0, _⟩ => exact Fin.ext (Pipeline.Window.rect_emb_val_of_index_zero win0_4 t 0 h0 _)
  | ⟨1, _⟩ => exact Fin.ext (Pipeline.Window.rect_emb_val_of_index_zero win0_4 t 1 h1 _)

/-- What grid point `t` leaves in its block: the attention of its batch entry and head. -/
theorem point_apply (t : Fin grid0.N) (b : Fin 4) (h : Fin 16) (hb : win0_5.index t 0 = b.val) (hh : win0_5.index t 2 = h.val)
    (z : Fin 1) (r : Fin 2048) (d : Fin 128) :
    out0_5 (iblk m c 0 t) (iblk m c 1 t) (iblk m c 2 t) (iblk m c 3 t) (iblk m c 4 t) (ix3 z r d)
      = Moba.out Moba.scale (Moba.query (arg m c) b h) (Moba.key (arg m c) b h) (Moba.value (arg m c) b h)
          (Moba.blk r) (Moba.off r) d := by
  refine (body_apply (iblk m c 0 t) (iblk m c 1 t) (iblk m c 2 t) (iblk m c 3 t) (iblk m c 4 t) (ix3 z r d)).trans ?_
  have hq : (fun r d => k0_pay162 (iblk m c 0 t) (iblk m c 1 t) (iblk m c 2 t) (iblk m c 3 t) (iblk m c 4 t) (ix2 r d)) = Moba.query (arg m c) b h := by
    funext r d
    refine (query_apply _ _ _ _ _ r d).trans ?_
    rw [query_block m c t b h hb hh, query_block m c t b h hb hh, cos_block, sin_block]
    exact rope_tables m c _ r d
  have hkk : (fun r d => k0_pay163 (iblk m c 0 t) (iblk m c 1 t) (iblk m c 2 t) (iblk m c 3 t) (iblk m c 4 t) (ix2 r d)) = Moba.key (arg m c) b h := by
    funext r d
    refine (key_apply _ _ _ _ _ r d).trans ?_
    rw [key_block m c t b h hb hh, key_block m c t b h hb hh, cos_block, sin_block]
    exact rope_tables m c _ r d
  have hv : (fun r d => k0_pay170 (iblk m c 0 t) (iblk m c 1 t) (iblk m c 2 t) (iblk m c 3 t) (iblk m c 4 t) (ix2 r d)) = Moba.value (arg m c) b h := by
    funext r d
    exact (value_apply _ _ _ _ _ r d).trans (value_block m c t b h hb hh r d)
  rw [hq, hkk, hv]
  rfl

set_option maxHeartbeats 2000000 in
/-- The result array after the run. -/
theorem array_eq :
    (dats m 0 c).arrAt 5 cfg0.N = fun y : S4x2048x2048.Idx => (show Elt Ideal .bf16 from Moba.result (arg m c) (y 0) (y 1) (y 2)) := by
  refine (dats m 0 c).arrAt_eq_of_covers 5 _ (by decide +kernel) fun t hf y => ?_
  rw [after0_5]
  obtain ⟨_, _, _, _, _, h0, h1, h2⟩ := index_facts t
  have key : ∀ (z : Fin 1) (r : Fin 2048) (d : Fin 128) (b : Fin 4) (r' w : Fin 2048), win0_5.index t 0 = b.val → r' = r →
      w.val = win0_5.index t 2 * 128 + d.val →
      out0_5 (iblk m c 0 t) (iblk m c 1 t) (iblk m c 2 t) (iblk m c 3 t) (iblk m c 4 t) (ix3 z r d) = Moba.result (arg m c) b r' w := by
    rintro z r d b _ w hb rfl hw
    have e1 : win0_5.index t 2 = w.val / 128 := by omega
    have e2 : (⟨w.val % 128, by omega⟩ : Fin 128) = d := Fin.ext (by show w.val % 128 = d.val; omega)
    unfold Moba.result
    rw [e2]
    exact point_apply m c t b ⟨w.val / 128, by omega⟩ hb e1 z _ d
  have ey : ((cfg0.win 5).xinj (cfg0.grid.coords t) y) = ix3 (y 0) (y 1) (y 2) := eq_ix3 (n0 := 1) (n1 := 2048) (n2 := 128) y
  refine Eq.trans (congrArg (out0_5 (iblk m c 0 t) (iblk m c 1 t) (iblk m c 2 t) (iblk m c 3 t) (iblk m c 4 t)) ey) ?_
  refine key (y 0) (y 1) (y 2) _ _ _ ?_ ?_ ?_
  · exact ((Pipeline.Window.rect_emb_val win0_5 t y 0).trans (by
      have : (y 0).val < 1 := (y 0).isLt
      show win0_5.index t 0 * 1 + (y 0).val = win0_5.index t 0; omega)).symm
  · exact Fin.ext (Pipeline.Window.rect_emb_val_of_index_zero win0_5 t 1 h1 y)
  · exact Pipeline.Window.rect_emb_val win0_5 t y 2

end Cert.KernelIdeal.Tiles

end
-- ==== Proof.Softmax.lean ====
/- A softmax over the own block's scores and three selected blocks' scores is the softmax over the own block and all
   earlier blocks with the blocks not selected masked. -/
module

public import proofs.«01_k».proof.Proof.Spec

@[expose] public section

noncomputable section

namespace Cert.Moba

open Idealize.ShloMosaic

/-- An extended real that is a real number. -/
def IsReal (x : EReal) : Prop := ∃ r : ℝ, x = (r : EReal)

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ x ∈ s, IsReal (f x)) : IsReal (∑ x ∈ s, f x) := by
  classical
  induction s using Finset.induction_on with
  | empty => exact ⟨0, by simp⟩
  | insert a s ha ih =>
    obtain ⟨r, hr⟩ := ih fun x hx => h x (Finset.mem_insert_of_mem hx)
    obtain ⟨p, hp⟩ := h a (Finset.mem_insert_self a s)
    exact ⟨p + r, by rw [Finset.sum_insert ha, hr, hp, EReal.coe_add]⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_coe (r : ℝ) : IsReal (r : EReal) := ⟨r, rfl⟩

/-- The three slots hold the selected blocks: the first `min 3 i` of them, each one once. -/
def Selects (C : Fin 8 → Prop) (i : Fin 8) (X : Fin 3 → Fin 8) : Prop :=
  (∀ s : Fin 3, s.val < i.val → C (X s)) ∧ (∀ s s' : Fin 3, s.val < i.val → s'.val < i.val → X s = X s' → s = s') ∧
    ∀ n, C n → ∃ s : Fin 3, s.val < i.val ∧ X s = n

/-- A column of the own block's scores. -/
def ownCol (u : Fin 256) : Fin 1024 := ⟨u.val, by omega⟩

/-- A column of a slot's scores. -/
def slotCol (s : Fin 3) (u : Fin 256) : Fin 1024 := ⟨256 + (s.val * 256 + u.val), by omega⟩

/-- The columns are the own block's and the slots'. -/
def colEquiv : Fin 256 ⊕ (Fin 3 × Fin 256) ≃ Fin 1024 where
  toFun := Sum.elim ownCol fun p => slotCol p.1 p.2
  invFun w := if h : w.val < 256 then Sum.inl ⟨w.val, h⟩
    else Sum.inr (⟨(w.val - 256) / 256, by omega⟩, ⟨(w.val - 256) % 256, by omega⟩)
  left_inv x := by
    rcases x with u | ⟨s, u⟩
    · simp [ownCol]
    · have h : ¬ (256 + (s.val * 256 + u.val) < 256) := by omega
      refine (dif_neg h).trans (congrArg Sum.inr (Prod.ext (Fin.ext ?_) (Fin.ext ?_)))
      · show (256 + (s.val * 256 + u.val) - 256) / 256 = s.val
        omega
      · show (256 + (s.val * 256 + u.val) - 256) % 256 = u.val
        omega
  right_inv w := by
    by_cases h : w.val < 256
    · simp [h, ownCol]
    · simp only [h, dite_false, Sum.elim_inr, slotCol]
      ext
      simp
      omega

theorem sum_cols (f : Fin 1024 → EReal) : ∑ w, f w = ∑ u, f (ownCol u) + ∑ s, ∑ u, f (slotCol s u) := by
  rw [← Equiv.sum_comp colEquiv f, Fintype.sum_sum_type, Fintype.sum_prod_type]; rfl

theorem exists_col (w : Fin 1024) : (∃ u, w = ownCol u) ∨ ∃ s u, w = slotCol s u := by
  obtain ⟨x, rfl⟩ := colEquiv.surjective w
  rcases x with u | ⟨s, u⟩
  · exact Or.inl ⟨u, rfl⟩
  · exact Or.inr ⟨s, u, rfl⟩

/-- A softmax over all the columns, normalised before the values. -/
def soft (S : Fin 1024 → EReal) (vo : Fin 256 → EReal) (vs : Fin 3 → Fin 256 → EReal) : EReal :=
  ∑ u, Ideal.div (Ideal.exp (S (ownCol u) - Finset.univ.sup S)) (∑ w, Ideal.exp (S w - Finset.univ.sup S)) * vo u +
    ∑ s, ∑ u, Ideal.div (Ideal.exp (S (slotCol s u) - Finset.univ.sup S)) (∑ w, Ideal.exp (S w - Finset.univ.sup S)) * vs s u

/-- A sum over the slots in use is the sum over the selected blocks. -/
theorem sum_slots {M : Type*} [AddCommMonoid M] (C : Fin 8 → Prop) [DecidablePred C] (i : Fin 8) (X : Fin 3 → Fin 8)
    (h : Selects C i X) (hC : ∀ j, C j → j < i) (f : Fin 8 → M) :
    ∑ s : Fin 3, (if s.val < i.val then f (X s) else 0) = ∑ j ∈ Finset.Iio i, if C j then f j else 0 := by
  rw [← Finset.sum_filter, ← Finset.sum_filter]
  refine Finset.sum_nbij X ?_ ?_ ?_ fun _ _ => rfl
  · intro s hs
    have hs' := (Finset.mem_filter.1 hs).2
    exact Finset.mem_filter.2 ⟨Finset.mem_Iio.2 (hC _ (h.1 s hs')), h.1 s hs'⟩
  · intro s hs s' hs' he
    exact h.2.1 s s' (Finset.mem_filter.1 (Finset.mem_coe.1 hs)).2 (Finset.mem_filter.1 (Finset.mem_coe.1 hs')).2 he
  · intro n hn
    obtain ⟨s, hs, he⟩ := h.2.2 n (Finset.mem_filter.1 (Finset.mem_coe.1 hn)).2
    exact ⟨s, Finset.mem_coe.2 (Finset.mem_filter.2 ⟨Finset.mem_univ _, hs⟩), he⟩

/-- Real or minus infinity. -/
def IsLow (x : EReal) : Prop := x = ⊥ ∨ IsReal x

theorem IsLow.exp {x : EReal} (h : IsLow x) (m : ℝ) : IsReal (Ideal.exp (x - (m : EReal))) ∧ 0 ≤ Ideal.exp (x - (m : EReal)) := by
  rcases h with rfl | ⟨r, rfl⟩
  · rw [EReal.bot_sub]; exact ⟨⟨0, rfl⟩, le_refl _⟩
  · rw [← EReal.coe_sub]; exact ⟨⟨_, rfl⟩, EReal.coe_nonneg.2 (Real.exp_pos _).le⟩

theorem IsLow.sup {ι : Type*} (s : Finset ι) (f : ι → EReal) (h : ∀ x ∈ s, IsLow (f x)) : IsLow (s.sup f) := by
  classical
  induction s using Finset.induction_on with
  | empty => exact Or.inl rfl
  | insert a s ha ih =>
    rw [Finset.sup_insert]
    rcases le_total (f a) (s.sup f) with hle | hle
    · rw [sup_eq_right.2 hle]; exact ih fun x hx => h x (Finset.mem_insert_of_mem hx)
    · rw [sup_eq_left.2 hle]; exact h a (Finset.mem_insert_self a s)

open Classical in
/-- The greatest score, over the columns, is the greatest score over the own block and the earlier blocks. -/
theorem sup_cols (C : Fin 8 → Prop) (i : Fin 8) (X : Fin 3 → Fin 8) (h : Selects C i X) (hC : ∀ j, C j → j < i)
    (S : Fin 1024 → EReal) (o : Fin 256 → EReal) (z : Fin 8 → Fin 256 → EReal) (hown : ∀ u, S (ownCol u) = o u)
    (hslot : ∀ s u, S (slotCol s u) = if s.val < i.val then z (X s) u else ⊥) :
    Finset.univ.sup S = top i o fun j u => if C j then z j u else ⊥ := by
  refine le_antisymm (Finset.sup_le fun w _ => ?_) (Finset.sup_le fun u _ => sup_le ?_ (Finset.sup_le fun j hj => ?_))
  · rcases exists_col w with ⟨u, rfl⟩ | ⟨s, u, rfl⟩
    · rw [hown]
      exact le_trans le_sup_left (Finset.le_sup (f := fun u => o u ⊔ (Finset.Iio i).sup fun j => if C j then z j u else ⊥)
        (Finset.mem_univ u))
    · rw [hslot]
      split_ifs with hs
      · have hc := h.1 s hs
        refine le_trans ?_ (le_trans (le_sup_right (a := o u)) (Finset.le_sup
          (f := fun u => o u ⊔ (Finset.Iio i).sup fun j => if C j then z j u else ⊥) (Finset.mem_univ u)))
        refine le_trans ?_ (Finset.le_sup (f := fun j => if C j then z j u else ⊥) (Finset.mem_Iio.2 (hC _ hc)))
        show _ ≤ if C (X s) then z (X s) u else ⊥
        rw [if_pos hc]
      · exact bot_le
  · rw [← hown]; exact Finset.le_sup (Finset.mem_univ _)
  · show (if C j then z j u else ⊥) ≤ _
    split_ifs with hc
    · obtain ⟨s, hs, rfl⟩ := h.2.2 j hc
      have := hslot s u
      rw [if_pos hs] at this
      rw [← this]; exact Finset.le_sup (Finset.mem_univ _)
    · exact bot_le

open Classical in
/-- The two softmaxes are equal, for real scores and values. -/
theorem soft_eq (C : Fin 8 → Prop) (i : Fin 8) (X : Fin 3 → Fin 8) (h : Selects C i X) (hC : ∀ j, C j → j < i)
    (S : Fin 1024 → EReal) (o : Fin 256 → EReal) (z v : Fin 8 → Fin 256 → EReal) (hown : ∀ u, S (ownCol u) = o u)
    (hslot : ∀ s u, S (slotCol s u) = if s.val < i.val then z (X s) u else ⊥)
    (ho : ∀ u, IsLow (o u)) (ho' : ∃ u, IsReal (o u)) (hz : ∀ j u, IsReal (z j u)) (hv : ∀ j u, IsReal (v j u)) :
    soft S (v i) (fun s => v (X s)) = attend i o (fun j u => if C j then z j u else ⊥) v := by
  have hM := sup_cols C i X h hC S o z hown hslot
  have hS : ∀ w, IsLow (S w) := fun w => by
    rcases exists_col w with ⟨u, rfl⟩ | ⟨s, u, rfl⟩
    · rw [hown]; exact ho u
    · rw [hslot]; split_ifs
      · exact Or.inr (hz _ _)
      · exact Or.inl rfl
  obtain ⟨m, hm⟩ : IsReal (Finset.univ.sup S) := by
    rcases IsLow.sup Finset.univ S fun w _ => hS w with hb | hr
    · obtain ⟨u, r, hu⟩ := ho'
      have hle : S (ownCol u) ≤ Finset.univ.sup S := Finset.le_sup (Finset.mem_univ _)
      rw [hb, hown, hu] at hle
      exact absurd (le_bot_iff.1 hle) (EReal.coe_ne_bot r)
    · exact hr
  unfold soft attend
  rw [← hM, hm]
  choose vr hvr using hv
  choose e he using fun u => ((ho u).exp m).1
  choose y hy using fun j u => (IsLow.exp (Or.inr (hz j u)) m).1
  obtain ⟨u₀, r₀, hu₀⟩ := ho'
  have he0 : ∀ u, 0 ≤ e u := fun u => by have := he u; have h2 := ((ho u).exp m).2; rw [this] at h2; exact EReal.coe_nonneg.1 h2
  have hy0 : ∀ j u, 0 ≤ y j u := fun j u => by
    have h2 := (IsLow.exp (Or.inr (hz j u)) m).2; rw [hy j u] at h2; exact EReal.coe_nonneg.1 h2
  have hep : 0 < e u₀ := by
    have h1 := he u₀
    rw [hu₀, ← EReal.coe_sub, Ideal.exp_coe] at h1
    rw [← EReal.coe_injective h1]; exact Real.exp_pos _
  have hexpOwn : ∀ u, Ideal.exp (S (ownCol u) - (m : EReal)) = (e u : EReal) := fun u => by rw [hown, he]
  have hexpSlot : ∀ s u, Ideal.exp (S (slotCol s u) - (m : EReal)) = ((if s.val < i.val then y (X s) u else 0 : ℝ) : EReal) :=
    fun s u => by
      rw [hslot]; split_ifs
      · exact hy _ _
      · rw [EReal.bot_sub]; rfl
  have hexpOther : ∀ j u, Ideal.exp ((if C j then z j u else ⊥) - (m : EReal)) = ((if C j then y j u else 0 : ℝ) : EReal) :=
    fun j u => by
      split_ifs
      · exact hy _ _
      · rw [EReal.bot_sub]; rfl
  have hL : ∑ w, Ideal.exp (S w - (m : EReal)) =
      ((∑ u, e u + ∑ s : Fin 3, ∑ u, (if s.val < i.val then y (X s) u else 0) : ℝ) : EReal) := by
    rw [sum_cols, EReal.coe_add, coe_sum, coe_sum]
    refine congrArg₂ (· + ·) (Finset.sum_congr rfl fun u _ => hexpOwn u) (Finset.sum_congr rfl fun s _ => ?_)
    rw [coe_sum]; exact Finset.sum_congr rfl fun u _ => hexpSlot s u
  have hL' : ∑ u, (Ideal.exp (o u - (m : EReal)) + ∑ j ∈ Finset.Iio i, Ideal.exp ((if C j then z j u else ⊥) - (m : EReal))) =
      ((∑ u, e u + ∑ s : Fin 3, ∑ u, (if s.val < i.val then y (X s) u else 0) : ℝ) : EReal) := by
    have h1 : ∑ s : Fin 3, ∑ u, (if s.val < i.val then y (X s) u else 0) = ∑ u, ∑ j ∈ Finset.Iio i, if C j then y j u else 0 := by
      rw [Finset.sum_comm]
      exact Finset.sum_congr rfl fun u _ => sum_slots C i X h hC fun j => y j u
    rw [h1, ← Finset.sum_add_distrib, coe_sum]
    refine Finset.sum_congr rfl fun u _ => ?_
    rw [EReal.coe_add, coe_sum]
    exact congrArg₂ (· + ·) (he u) (Finset.sum_congr rfl fun j _ => hexpOther j u)
  have hpos : (∑ u, e u + ∑ s : Fin 3, ∑ u, (if s.val < i.val then y (X s) u else 0) : ℝ) ≠ 0 := by
    have h1 : 0 < ∑ u, e u := Finset.sum_pos' (fun u _ => he0 u) ⟨u₀, Finset.mem_univ _, hep⟩
    have h2 : 0 ≤ ∑ s : Fin 3, ∑ u, (if s.val < i.val then y (X s) u else 0) :=
      Finset.sum_nonneg fun s _ => Finset.sum_nonneg fun u _ => by split_ifs; exacts [hy0 _ _, le_refl _]
    exact (add_pos_of_pos_of_nonneg h1 h2).ne'
  generalize (∑ u, e u + ∑ s : Fin 3, ∑ u, (if s.val < i.val then y (X s) u else 0) : ℝ) = D at hL hL' hpos
  rw [hL, hL', Ideal.div_coe hpos]
  generalize hl : (1 / D : ℝ) = l
  have left : ∀ x : ℝ, Ideal.div (x : EReal) (D : EReal) =
      ((x * l : ℝ) : EReal) := fun x => by rw [Ideal.div_coe hpos, hl, EReal.coe_mul]
  have hA : ∑ u, Ideal.exp (o u - (m : EReal)) * v i u + ∑ j ∈ Finset.Iio i, ∑ u,
      Ideal.exp ((if C j then z j u else ⊥) - (m : EReal)) * v j u =
      ((∑ u, e u * vr i u + ∑ j ∈ Finset.Iio i, if C j then ∑ u, y j u * vr j u else 0 : ℝ) : EReal) := by
    rw [EReal.coe_add, coe_sum, coe_sum]
    refine congrArg₂ (· + ·) (Finset.sum_congr rfl fun u _ => ?_) (Finset.sum_congr rfl fun j _ => ?_)
    · rw [he u, hvr, EReal.coe_mul]
    · rw [show (if C j then ∑ u, y j u * vr j u else 0 : ℝ) = ∑ u, (if C j then y j u else 0) * vr j u by split_ifs <;> simp, coe_sum]
      exact Finset.sum_congr rfl fun u _ => by rw [hexpOther j u, hvr, EReal.coe_mul]
  have hB : ∑ u, Ideal.div (Ideal.exp (S (ownCol u) - (m : EReal)))
        (D : EReal) * v i u +
      ∑ s, ∑ u, Ideal.div (Ideal.exp (S (slotCol s u) - (m : EReal)))
        (D : EReal) * v (X s) u =
      ((∑ u, e u * l * vr i u + ∑ s : Fin 3, (if s.val < i.val then ∑ u, y (X s) u * l * vr (X s) u else 0) : ℝ) : EReal) := by
    rw [EReal.coe_add, coe_sum, coe_sum]
    refine congrArg₂ (· + ·) (Finset.sum_congr rfl fun u _ => ?_) (Finset.sum_congr rfl fun s _ => ?_)
    · rw [hexpOwn u, left, hvr, EReal.coe_mul (e u * l)]
    · rw [show (if s.val < i.val then ∑ u, y (X s) u * l * vr (X s) u else 0 : ℝ) =
        ∑ u, (if s.val < i.val then y (X s) u else 0) * l * vr (X s) u by split_ifs <;> simp, coe_sum]
      exact Finset.sum_congr rfl fun u _ => by rw [hexpSlot s u, left, hvr, ← EReal.coe_mul]
  rw [hA, hB, ← EReal.coe_mul]
  refine congrArg _ ?_
  rw [sum_slots C i X h hC fun j => ∑ u, y j u * l * vr j u, add_mul, Finset.sum_mul, Finset.sum_mul]
  refine congrArg₂ (· + ·) (Finset.sum_congr rfl fun u _ => by ring) (Finset.sum_congr rfl fun j _ => ?_)
  split_ifs
  · rw [Finset.sum_mul]; exact Finset.sum_congr rfl fun u _ => by ring
  · simp

open Classical in
/-- The blocks the gate selects are before the own block. -/
theorem chosen_lt {g : Fin 8 → EReal} {i n : Fin 8} (h : Chosen g i n) : n < i := h.1

end Cert.Moba

end
-- ==== Proof.Select.lean ====
/- The three greatest masked gates, in order, are at the blocks the gate selects. -/
module

public import proofs.«01_k».proof.Proof.Softmax
public import Idealize.ShloMosaic.Lib.SortFacts
public import Idealize.ShloMosaic.Lib.SortPrefix

@[expose] public section

noncomputable section

namespace Cert.Moba

open Idealize.ShloMosaic

open Classical in
/-- The greater value first. -/
def greater (x : Fin 8 → EReal) (k k' : Fin 8) : Bool := decide (x k' < x k)

open Classical in
/-- The greater value first, and among equals the earlier position. -/
def before (x : Fin 8 → EReal) (k k' : Fin 8) : Bool := decide (x k' < x k) || (decide (x k = x k') && decide (k < k'))

theorem before_iff (x : Fin 8 → EReal) (k k' : Fin 8) : before x k k' = true ↔ Ahead x k k' := by
  simp [before, Ahead]

theorem before_strict (x : Fin 8 → EReal) : StrictTotalBefore (before x) := by
  classical
  have h := StrictTotalBefore.of_key_then_position (n := 8) (fun a b : EReal => decide (b < a)) x (fun a => by simp)
    (fun a b c hab hbc => by simp only [decide_eq_true_eq] at hab hbc ⊢; exact lt_trans hbc hab)
    (fun a b => by simp only [decide_eq_true_eq]; rcases lt_trichotomy a b with h | h | h <;> simp [h])
  refine ⟨fun a => ?_, fun a b c hab hbc => ?_, fun a b hab => ?_⟩
  · have := h.irrefl a; simpa [before] using this
  · have := h.trans a b c (by simpa [before] using hab) (by simpa [before] using hbc); simpa [before] using this
  · have := h.total a b hab; simpa [before] using this

/-- Insertion in front of a list of later positions: among equals the position is put first either way. -/
theorem insertBefore_greater (x : Fin 8 → EReal) (a : Fin 8) (l : List (Fin 8)) (h : ∀ b ∈ l, a < b) :
    insertBefore (greater x) a l = insertBefore (before x) a l := by
  induction l with
  | nil => rfl
  | cons b l ih =>
    have hb : before x b a = greater x b a := by
      have : ¬ b < a := not_lt.2 (h b (List.mem_cons_self ..)).le
      simp [before, greater, this]
    unfold insertBefore
    rw [hb, ih fun c hc => h c (List.mem_cons_of_mem _ hc)]

theorem stableSort_greater (x : Fin 8 → EReal) (l : List (Fin 8)) (h : l.Pairwise (· < ·)) :
    stableSort (greater x) l = stableSort (before x) l := by
  induction l with
  | nil => rfl
  | cons a l ih =>
    have hp := List.pairwise_cons.1 h
    unfold stableSort
    rw [ih hp.2]
    exact insertBefore_greater x a _ fun b hb => hp.1 b ((perm_stableSort _ l).mem_iff.1 hb)

/-- The stable sort by the value is the sort by the value and then the position. -/
theorem sortedFrom_greater (x : Fin 8 → EReal) : sortedFrom (greater x) = sortedFrom (before x) := by
  funext k
  unfold sortedFrom
  have h : sortPositions 8 (greater x) = sortPositions 8 (before x) :=
    stableSort_greater x _ (List.pairwise_lt_finRange 8)
  rw [List.get_of_eq h]
  rfl

/-- The position of rank `k` has `k` positions before it. -/
theorem card_before (x : Fin 8 → EReal) (k : Fin 8) :
    (Finset.univ.filter fun j => before x j (sortedFrom (before x) k) = true).card = k.val := by
  have hs := before_strict x
  have key : ∀ i : Fin 8, before x (sortedFrom (before x) i) (sortedFrom (before x) k) = true ↔ i < k := fun i => by
    have hno := fun i j => sortedFrom_noInversion (before x) (before x) (fun a b h => hs.asymm a b h) (fun _ _ h => h)
      hs.negTrans i j
    constructor
    · intro h
      by_contra hik
      rcases (not_lt.1 hik).lt_or_eq with hlt | heq
      · rw [hno k i hlt] at h; exact absurd h (by decide)
      · rw [heq, hs.irrefl] at h; exact absurd h (by decide)
    · intro hik
      have hne : sortedFrom (before x) i ≠ sortedFrom (before x) k := fun he => hik.ne (sortedFrom_injective _ he)
      rcases hs.total _ _ hne with h | h
      · exact h
      · rw [hno i k hik] at h; exact absurd h (by decide)
  have h : (Finset.univ.filter fun j => before x j (sortedFrom (before x) k) = true) =
      (Finset.Iio k).image (sortedFrom (before x)) := by
    ext j
    simp only [Finset.mem_filter, Finset.mem_univ, true_and, Finset.mem_image, Finset.mem_Iio]
    constructor
    · intro hj
      obtain ⟨i, rfl⟩ := sortedFrom_surjective (before x) j
      exact ⟨i, (key i).1 hj, rfl⟩
    · rintro ⟨i, hi, rfl⟩
      exact (key i).2 hi
  rw [h, Finset.card_image_of_injective _ (sortedFrom_injective _), Fin.card_Iio]

open Classical in
/-- The gates of the earlier blocks. -/
def masked (g : Fin 8 → EReal) (i n : Fin 8) : EReal := if n < i then g n else ⊥

/-- The three greatest masked gates are at the selected blocks. -/
theorem selects_sorted (g : Fin 8 → EReal) (i : Fin 8) :
    Selects (Chosen g i) i fun s => sortedFrom (greater (masked g i)) (s.castLE (by omega)) := by
  classical
  rw [sortedFrom_greater]
  set x := masked g i with hx
  set f := sortedFrom (before x) with hf
  have hs := before_strict x
  -- an earlier block is before every block that is not earlier
  have hfar : ∀ j n : Fin 8, j < i → ¬ n < i → Ahead x j n := fun j n hj hn => by
    have h2 : x n = ⊥ := if_neg hn
    rcases (bot_le (a := x j)).lt_or_eq with h | h
    · exact Or.inl (by rw [h2]; exact h)
    · exact Or.inr ⟨by rw [h2, ← h], lt_of_lt_of_le hj (not_lt.1 hn)⟩
  have hnear : ∀ j n : Fin 8, j < i → n < i → (Ahead x j n ↔ Ahead g j n) := fun j n hj hn => by
    unfold Ahead
    rw [show x j = g j from if_pos hj, show x n = g n from if_pos hn]
  -- for an earlier block, what is ahead of it is among the earlier blocks
  have hcount : ∀ n : Fin 8, n < i → ((Finset.Iio i).filter fun j => Ahead g j n) =
      Finset.univ.filter fun j => before x j n = true := fun n hn => by
    ext j
    simp only [Finset.mem_filter, Finset.mem_univ, true_and, Finset.mem_Iio, before_iff]
    constructor
    · rintro ⟨hj, ha⟩; exact (hnear j n hj hn).2 ha
    · intro ha
      by_cases hj : j < i
      · exact ⟨hj, (hnear j n hj hn).1 ha⟩
      · exfalso
        have h1 := (before_iff x j n).2 ha
        have h2 := hs.asymm _ _ ((before_iff x n j).2 (hfar n j hn hj))
        rw [h1] at h2; exact absurd h2 (by decide)
  have hchosen : ∀ k : Fin 8, f k < i → k.val < 3 → Chosen g i (f k) := fun k hk h3 => by
    refine ⟨hk, ?_⟩
    have := hcount (f k) hk
    rw [show (((Finset.Iio i).filter fun j => Ahead g j (f k)).card) = k.val by rw [this]; exact card_before x k]
    exact h3
  have hlt : ∀ k : Fin 8, k.val < i.val → f k < i := fun k hk => by
    by_contra hn
    have hsub : Finset.Iio i ⊆ Finset.univ.filter fun j => before x j (f k) = true := fun j hj =>
      Finset.mem_filter.2 ⟨Finset.mem_univ _, (before_iff x j _).2 (hfar j _ (Finset.mem_Iio.1 hj) hn)⟩
    have := Finset.card_le_card hsub
    rw [card_before, Fin.card_Iio] at this
    omega
  refine ⟨fun s h => hchosen _ (hlt _ h) s.isLt, fun s s' _ _ he => ?_, fun n hn => ?_⟩
  · have h1 := congrArg Fin.val (sortedFrom_injective (before x) he)
    exact Fin.ext h1
  · obtain ⟨k, rfl⟩ := sortedFrom_surjective (before x) n
    have h1 : k.val < 3 := by
      have h2 := hn.2
      rw [show (((Finset.Iio i).filter fun j => Ahead g j (sortedFrom (before x) k)).card) = k.val by
        rw [hcount _ hn.1]; exact card_before x k] at h2
      exact h2
    have hki : k.val < i.val := by
      have hsub : insert (f k) (Finset.univ.filter fun j => before x j (f k) = true) ⊆ Finset.Iio i := by
        rw [← hcount _ hn.1]
        intro j hj
        rcases Finset.mem_insert.1 hj with rfl | h
        · exact Finset.mem_Iio.2 hn.1
        · exact (Finset.mem_filter.1 h).1
      have hnot : f k ∉ Finset.univ.filter fun j => before x j (f k) = true := by
        simp [hs.irrefl]
      have := Finset.card_le_card hsub
      rw [Finset.card_insert_of_notMem hnot, card_before, Fin.card_Iio] at this
      omega
    exact ⟨⟨k.val, h1⟩, hki, rfl⟩

end Cert.Moba

end
-- ==== Proof.RefProj.lean ====
/- The reference's queries, keys and values, its scores with the own block and its gates. -/
module

public import proofs.«01_k».proof.Proof.Select
public import proofs.«01_k».proof.Proof.KernelHost
public import proofs.«01_k».proof.Proof.Gen.ReferenceIdeal.Read

@[expose] public section

set_option maxRecDepth 16384

noncomputable section

namespace Cert.ReferenceIdeal.Attention

open Cert.ReferenceIdeal Cert.ReferenceIdeal.Gen Cert.ReferenceIdeal.Read Idealize.ShloMosaic Idealize.ShloMosaic.TcCoe
open Idealize.ShloMosaic.ValueIdx

variable (x0 : (⟨S4x2048x13024, .f32⟩ : BufTy).Contents (Elt Ideal))

/-- The projections' entries. -/
def entry (b : Fin 4) (t : Fin 2048) (w : Fin 13024) : EReal := x0 (ix3 b t w)

theorem angle_apply (t : Fin 2048) (f : Fin 64) : val_main_v20 (F := Ideal) (ix2 t f) = (Moba.angle t f : EReal) :=
  Cert.KernelIdeal.Tiles.angle_arith t f

theorem angle_apply' (t : Fin 2048) (f : Fin 64) : val_main_v54 (F := Ideal) (ix2 t f) = (Moba.angle t f : EReal) :=
  Cert.KernelIdeal.Tiles.angle_arith t f

theorem cos_apply (t : Fin 2048) (f : Fin 64) : val_main_v21 (F := Ideal) (ix2 t f) = Moba.cosine t f := by
  show Ideal.cos (val_main_v20 (F := Ideal) (ix2 t f)) = _
  rw [angle_apply]; rfl

theorem sin_apply (t : Fin 2048) (f : Fin 64) : val_main_v23 (F := Ideal) (ix2 t f) = Moba.sine t f := by
  show Ideal.sin (val_main_v20 (F := Ideal) (ix2 t f)) = _
  rw [angle_apply]; rfl

theorem cos_apply' (t : Fin 2048) (f : Fin 64) : val_main_v55 (F := Ideal) (ix2 t f) = Moba.cosine t f := by
  show Ideal.cos (val_main_v54 (F := Ideal) (ix2 t f)) = _
  rw [angle_apply']; rfl

theorem sin_apply' (t : Fin 2048) (f : Fin 64) : val_main_v57 (F := Ideal) (ix2 t f) = Moba.sine t f := by
  show Ideal.sin (val_main_v54 (F := Ideal) (ix2 t f)) = _
  rw [angle_apply']; rfl

theorem heads_index (b : Fin 4) (t : Fin 2048) (h : Fin 16) (d : Fin 128) :
    idx_main_v4 (ix4 b t h d) = ix3 b t (⟨h.val * 128 + d.val, by omega⟩ : Fin 2048) := by
  funext a
  match a with
  | ⟨0, _⟩ => exact Fin.ext (by show (((b.val * 2048 + t.val) * 16 + h.val) * 128 + d.val) / 4194304 = b.val; omega)
  | ⟨1, _⟩ => exact Fin.ext (by show (((b.val * 2048 + t.val) * 16 + h.val) * 128 + d.val) / 2048 % 2048 = t.val; omega)
  | ⟨2, _⟩ => exact Fin.ext (by show (((b.val * 2048 + t.val) * 16 + h.val) * 128 + d.val) % 2048 = h.val * 128 + d.val; omega)

theorem part_index (i : S4x2048x6144.Idx) (b : Fin 4) (t : Fin 2048) (w : Fin 6144) (hi : i = ix3 b t w) :
    val_main_v0 (F := Ideal) x0 i = entry x0 b t ⟨6880 + w.val, by omega⟩ := by
  subst hi
  refine (val_main_v0_apply x0 _).trans (congrArg x0 ?_)
  funext a
  match a with
  | ⟨0, _⟩ => rfl
  | ⟨1, _⟩ => rfl
  | ⟨2, _⟩ => rfl

theorem entry_congr (b : Fin 4) (t : Fin 2048) (w w' : Fin 13024) (h : w.val = w'.val) : entry x0 b t w = entry x0 b t w' := by
  rw [Fin.ext h]

theorem qhead_apply (b : Fin 4) (t : Fin 2048) (h : Fin 16) (d : Fin 128) :
    val_main_v4 (F := Ideal) x0 (ix4 b t h d) = Moba.head (entry x0) 6880 (by decide) b h t d := by
  rw [val_main_v4_apply, heads_index, val_main_v1_apply]
  refine (part_index x0 _ b t ⟨h.val * 128 + d.val, by omega⟩ ?_).trans (entry_congr x0 b t _ _ rfl)
  funext a
  match a with
  | ⟨0, _⟩ => rfl
  | ⟨1, _⟩ => rfl
  | ⟨2, _⟩ => rfl

theorem khead_apply (b : Fin 4) (t : Fin 2048) (h : Fin 16) (d : Fin 128) :
    val_main_v38 (F := Ideal) x0 (ix4 b t h d) = Moba.head (entry x0) 8928 (by decide) b h t d := by
  rw [val_main_v38_apply]
  rw [show idx_main_v38 (ix4 b t h d) = _ from heads_index b t h d, val_main_v2_apply]
  refine (part_index x0 _ b t ⟨2048 + (h.val * 128 + d.val), by omega⟩ ?_).trans
    (entry_congr x0 b t _ _ (by show 6880 + (2048 + (h.val * 128 + d.val)) = 8928 + (h.val * 128 + d.val); omega))
  funext a
  match a with
  | ⟨0, _⟩ => rfl
  | ⟨1, _⟩ => rfl
  | ⟨2, _⟩ => rfl

theorem vhead_apply (b : Fin 4) (t : Fin 2048) (h : Fin 16) (d : Fin 128) :
    val_main_v72 (F := Ideal) x0 (ix4 b t h d) = Moba.value (entry x0) b h t d := by
  rw [val_main_v72_apply]
  rw [show idx_main_v72 (ix4 b t h d) = _ from heads_index b t h d, val_main_v3_apply]
  refine (part_index x0 _ b t ⟨4096 + (h.val * 128 + d.val), by omega⟩ ?_).trans
    (entry_congr x0 b t _ _ (by show 6880 + (4096 + (h.val * 128 + d.val)) = 10976 + (h.val * 128 + d.val); omega))
  funext a
  match a with
  | ⟨0, _⟩ => rfl
  | ⟨1, _⟩ => rfl
  | ⟨2, _⟩ => rfl

/-- Two halves joined on the features. -/
theorem halves_left (y y' : S4x2048x16x64.Idx → EReal) (hc) (b : Fin 4) (t : Fin 2048) (h : Fin 16) (d : Fin 128) (hd : d.val < 64) :
    concatenate S4x2048x16x128 3 [⟨S4x2048x16x64, y⟩, ⟨S4x2048x16x64, y'⟩] hc (ix4 b t h d) = y (ix4 b t h ⟨d.val, hd⟩) := by
  refine concatenate_apply_piece (t := S4x2048x16x128) 3 _ hc _ 0 (by decide : 0 < 2) S4x2048x16x64 y rfl rfl 0 rfl _ ?_ ?_
  · intro a ha
    match a with
    | ⟨0, _⟩ => rfl
    | ⟨1, _⟩ => rfl
    | ⟨2, _⟩ => rfl
    | ⟨3, _⟩ => exact absurd rfl ha
  · show 0 + d.val = d.val
    omega

theorem halves_right (y y' : S4x2048x16x64.Idx → EReal) (hc) (b : Fin 4) (t : Fin 2048) (h : Fin 16) (d : Fin 128) (hd : ¬ d.val < 64) :
    concatenate S4x2048x16x128 3 [⟨S4x2048x16x64, y⟩, ⟨S4x2048x16x64, y'⟩] hc (ix4 b t h d) =
      y' (ix4 b t h ⟨d.val - 64, by omega⟩) := by
  refine concatenate_apply_piece (t := S4x2048x16x128) 3 _ hc _ 1 (by decide : 1 < 2) S4x2048x16x64 y' rfl rfl 64 rfl _ ?_ ?_
  · intro a ha
    match a with
    | ⟨0, _⟩ => rfl
    | ⟨1, _⟩ => rfl
    | ⟨2, _⟩ => rfl
    | ⟨3, _⟩ => exact absurd rfl ha
  · show 64 + (d.val - 64) = d.val
    omega

/-- The rotation, of any heads. -/
theorem rope_apply (y y' u u' : S4x2048x16x64.Idx → EReal) (hd : S4x2048x16x128.Idx → EReal) (cs sn : Fin 2048 → Fin 64 → EReal) (hc)
    (b : Fin 4) (h : Fin 16)
    (hy : ∀ t f, y (ix4 b t h f) = hd (ix4 b t h ⟨f.val, by omega⟩) * cs t f - hd (ix4 b t h ⟨f.val + 64, by omega⟩) * sn t f)
    (hy' : ∀ t f, y' (ix4 b t h f) = hd (ix4 b t h ⟨f.val + 64, by omega⟩) * cs t f + hd (ix4 b t h ⟨f.val, by omega⟩) * sn t f)
    (t : Fin 2048) (d : Fin 128) :
    concatenate S4x2048x16x128 3 [⟨S4x2048x16x64, y⟩, ⟨S4x2048x16x64, y'⟩] hc (ix4 b t h d) =
      Moba.rope cs sn (fun t d => hd (ix4 b t h d)) t d := by
  unfold Moba.rope
  by_cases hlt : d.val < 64
  · rw [halves_left y y' hc b t h d hlt, dif_pos hlt, hy]
  · rw [halves_right y y' hc b t h d hlt, dif_neg hlt, hy']
    have e : (⟨(⟨d.val - 64, by omega⟩ : Fin 64).val + 64, by omega⟩ : Fin 128) = d := Fin.ext (by show d.val - 64 + 64 = d.val; omega)
    rw [e]

theorem first_half (y : S4x2048x16x128.Idx → EReal) (i : S4x2048x16x64.Idx) (b : Fin 4) (t : Fin 2048) (h : Fin 16) (f : Fin 64)
    (hi : i = ix4 b t h f) : y (idx_main_v25 i) = y (ix4 b t h ⟨f.val, by omega⟩) := by
  subst hi
  congr 1
  funext a
  match a with
  | ⟨0, _⟩ => rfl
  | ⟨1, _⟩ => rfl
  | ⟨2, _⟩ => rfl
  | ⟨3, _⟩ => rfl

theorem second_half (y : S4x2048x16x128.Idx → EReal) (i : S4x2048x16x64.Idx) (b : Fin 4) (t : Fin 2048) (h : Fin 16) (f : Fin 64)
    (hi : i = ix4 b t h f) : y (idx_main_v26 i) = y (ix4 b t h ⟨f.val + 64, by omega⟩) := by
  subst hi
  congr 1
  funext a
  match a with
  | ⟨0, _⟩ => rfl
  | ⟨1, _⟩ => rfl
  | ⟨2, _⟩ => rfl
  | ⟨3, _⟩ => exact Fin.ext (by show 64 + f.val = f.val + 64; omega)

theorem spread_apply (y : S2048x64.Idx → EReal) (b : Fin 4) (t : Fin 2048) (h : Fin 16) (f : Fin 64) :
    broadcastInDim S4x2048x16x64 ![0, 1, 2, 3] bcast_S1x2048x1x64_S4x2048x16x64_0_1_2_3
      (broadcastInDim S1x2048x1x64 ![1, 3] bcast_S2048x64_S1x2048x1x64_1_3 y) (ix4 b t h f) = y (ix2 t f) := by
  show y _ = y _
  congr 1
  funext a
  match a with
  | ⟨0, _⟩ => rfl
  | ⟨1, _⟩ => rfl

theorem query_apply (b : Fin 4) (t : Fin 2048) (h : Fin 16) (d : Fin 128) :
    val_main_v37 (F := Ideal) x0 (ix4 b t h d) = Moba.query (entry x0) b h t d := by
  unfold val_main_v37
  refine (rope_apply _ _ (fun _ => 0) (fun _ => 0) (val_main_v4 (F := Ideal) x0) Moba.cosine Moba.sine _ b h ?_ ?_ t d).trans ?_
  · intro t f
    show val_main_v25 (F := Ideal) x0 (ix4 b t h f) * val_main_v27 (F := Ideal) (ix4 b t h f) -
      val_main_v26 (F := Ideal) x0 (ix4 b t h f) * val_main_v29 (F := Ideal) (ix4 b t h f) = _
    rw [val_main_v25_apply, val_main_v26_apply]
    rw [show (val_main_v4 (F := Ideal) x0) (idx_main_v25 (ix4 b t h f)) = _ from first_half _ _ b t h f rfl,
      show (val_main_v4 (F := Ideal) x0) (idx_main_v26 (ix4 b t h f)) = _ from second_half _ _ b t h f rfl]
    rw [show val_main_v27 (F := Ideal) (ix4 b t h f) = _ from spread_apply (val_main_v21 (F := Ideal)) b t h f,
      show val_main_v29 (F := Ideal) (ix4 b t h f) = _ from spread_apply (val_main_v23 (F := Ideal)) b t h f, cos_apply, sin_apply]
  · intro t f
    show val_main_v26 (F := Ideal) x0 (ix4 b t h f) * val_main_v32 (F := Ideal) (ix4 b t h f) +
      val_main_v25 (F := Ideal) x0 (ix4 b t h f) * val_main_v34 (F := Ideal) (ix4 b t h f) = _
    rw [val_main_v25_apply, val_main_v26_apply]
    rw [show (val_main_v4 (F := Ideal) x0) (idx_main_v25 (ix4 b t h f)) = _ from first_half _ _ b t h f rfl,
      show (val_main_v4 (F := Ideal) x0) (idx_main_v26 (ix4 b t h f)) = _ from second_half _ _ b t h f rfl]
    rw [show val_main_v32 (F := Ideal) (ix4 b t h f) = _ from spread_apply (val_main_v21 (F := Ideal)) b t h f,
      show val_main_v34 (F := Ideal) (ix4 b t h f) = _ from spread_apply (val_main_v23 (F := Ideal)) b t h f, cos_apply, sin_apply]
  · unfold Moba.query
    refine congrArg (fun y => Moba.rope Moba.cosine Moba.sine y t d) ?_
    funext t d
    exact qhead_apply x0 b t h d

theorem key_apply (b : Fin 4) (t : Fin 2048) (h : Fin 16) (d : Fin 128) :
    val_main_v71 (F := Ideal) x0 (ix4 b t h d) = Moba.key (entry x0) b h t d := by
  unfold val_main_v71
  refine (rope_apply _ _ (fun _ => 0) (fun _ => 0) (val_main_v38 (F := Ideal) x0) Moba.cosine Moba.sine _ b h ?_ ?_ t d).trans ?_
  · intro t f
    show val_main_v59 (F := Ideal) x0 (ix4 b t h f) * val_main_v61 (F := Ideal) (ix4 b t h f) -
      val_main_v60 (F := Ideal) x0 (ix4 b t h f) * val_main_v63 (F := Ideal) (ix4 b t h f) = _
    rw [val_main_v59_apply, val_main_v60_apply]
    rw [show (val_main_v38 (F := Ideal) x0) (idx_main_v59 (ix4 b t h f)) = _ from first_half _ _ b t h f rfl,
      show (val_main_v38 (F := Ideal) x0) (idx_main_v60 (ix4 b t h f)) = _ from second_half _ _ b t h f rfl]
    rw [show val_main_v61 (F := Ideal) (ix4 b t h f) = _ from spread_apply (val_main_v55 (F := Ideal)) b t h f,
      show val_main_v63 (F := Ideal) (ix4 b t h f) = _ from spread_apply (val_main_v57 (F := Ideal)) b t h f, cos_apply', sin_apply']
  · intro t f
    show val_main_v60 (F := Ideal) x0 (ix4 b t h f) * val_main_v66 (F := Ideal) (ix4 b t h f) +
      val_main_v59 (F := Ideal) x0 (ix4 b t h f) * val_main_v68 (F := Ideal) (ix4 b t h f) = _
    rw [val_main_v59_apply, val_main_v60_apply]
    rw [show (val_main_v38 (F := Ideal) x0) (idx_main_v59 (ix4 b t h f)) = _ from first_half _ _ b t h f rfl,
      show (val_main_v38 (F := Ideal) x0) (idx_main_v60 (ix4 b t h f)) = _ from second_half _ _ b t h f rfl]
    rw [show val_main_v66 (F := Ideal) (ix4 b t h f) = _ from spread_apply (val_main_v55 (F := Ideal)) b t h f,
      show val_main_v68 (F := Ideal) (ix4 b t h f) = _ from spread_apply (val_main_v57 (F := Ideal)) b t h f, cos_apply', sin_apply']
  · unfold Moba.key
    refine congrArg (fun y => Moba.rope Moba.cosine Moba.sine y t d) ?_
    funext t d
    exact khead_apply x0 b t h d

end Cert.ReferenceIdeal.Attention

end
-- ==== Proof.RefScores.lean ====
/- The reference's scores with the own block, and its gates with the blocks that are not earlier masked. -/
module

public import proofs.«01_k».proof.Proof.RefProj
public import Idealize.ShloMosaic.Lib.WordCmp

@[expose] public section

set_option maxRecDepth 16384

noncomputable section

namespace Cert.ReferenceIdeal.Attention

open Cert.ReferenceIdeal Cert.ReferenceIdeal.Gen Cert.ReferenceIdeal.Read Idealize.ShloMosaic Idealize.ShloMosaic.TcCoe
open Idealize.ShloMosaic.ValueIdx
open Idealize.ShloMosaic.WordCmp hiding select_one select_zero

variable (x0 : (⟨S4x2048x13024, .f32⟩ : BufTy).Contents (Elt Ideal))

theorem headq_apply (b : Fin 4) (h : Fin 16) (t : Fin 2048) (d : Fin 128) (i : S4x16x2048x128.Idx) (hi : i = ix4 b h t d) :
    val_main_v73 (F := Ideal) x0 i = Moba.query (entry x0) b h t d := by
  subst hi
  rw [val_main_v73_apply, ← query_apply]
  congr 1
  funext a
  match a with
  | ⟨0, _⟩ => rfl
  | ⟨1, _⟩ => rfl
  | ⟨2, _⟩ => rfl
  | ⟨3, _⟩ => rfl

theorem headk_apply (b : Fin 4) (h : Fin 16) (t : Fin 2048) (d : Fin 128) (i : S4x16x2048x128.Idx) (hi : i = ix4 b h t d) :
    val_main_v74 (F := Ideal) x0 i = Moba.key (entry x0) b h t d := by
  subst hi
  rw [val_main_v74_apply, ← key_apply]
  congr 1
  funext a
  match a with
  | ⟨0, _⟩ => rfl
  | ⟨1, _⟩ => rfl
  | ⟨2, _⟩ => rfl
  | ⟨3, _⟩ => rfl

theorem headv_apply (b : Fin 4) (h : Fin 16) (t : Fin 2048) (d : Fin 128) (i : S4x16x2048x128.Idx) (hi : i = ix4 b h t d) :
    val_main_v75 (F := Ideal) x0 i = Moba.value (entry x0) b h t d := by
  subst hi
  rw [val_main_v75_apply, ← vhead_apply]
  congr 1
  funext a
  match a with
  | ⟨0, _⟩ => rfl
  | ⟨1, _⟩ => rfl
  | ⟨2, _⟩ => rfl
  | ⟨3, _⟩ => rfl

/-- The positions cut into blocks. -/
theorem blocks_index (b : Fin 4) (h : Fin 16) (n : Fin 8) (u : Fin 256) (d : Fin 128) :
    idx_main_v76 (ix5 b h n u d) = ix4 b h (Moba.pos n u) d := by
  funext a
  match a with
  | ⟨0, _⟩ => exact Fin.ext (by show ((((b.val * 16 + h.val) * 8 + n.val) * 256 + u.val) * 128 + d.val) / 4194304 = b.val; omega)
  | ⟨1, _⟩ => exact Fin.ext (by show ((((b.val * 16 + h.val) * 8 + n.val) * 256 + u.val) * 128 + d.val) / 262144 % 16 = h.val; omega)
  | ⟨2, _⟩ => exact Fin.ext (by show ((((b.val * 16 + h.val) * 8 + n.val) * 256 + u.val) * 128 + d.val) / 128 % 2048 = 256 * n.val + u.val; omega)
  | ⟨3, _⟩ => exact Fin.ext (by show ((((b.val * 16 + h.val) * 8 + n.val) * 256 + u.val) * 128 + d.val) % 128 = d.val; omega)

theorem blockq_apply (b : Fin 4) (h : Fin 16) (n : Fin 8) (u : Fin 256) (d : Fin 128) (i : S4x16x8x256x128.Idx) (hi : i = ix5 b h n u d) :
    val_main_v81 (F := Ideal) x0 i = Moba.query (entry x0) b h (Moba.pos n u) d := by
  subst hi
  rw [val_main_v81_apply]
  exact headq_apply x0 b h _ d _ (blocks_index b h n u d)

theorem blockk_apply (b : Fin 4) (h : Fin 16) (n : Fin 8) (u : Fin 256) (d : Fin 128) (i : S4x16x8x256x128.Idx) (hi : i = ix5 b h n u d) :
    val_main_v76 (F := Ideal) x0 i = Moba.key (entry x0) b h (Moba.pos n u) d := by
  subst hi
  rw [val_main_v76_apply]
  exact headk_apply x0 b h _ d _ (blocks_index b h n u d)

theorem blockv_apply (b : Fin 4) (h : Fin 16) (n : Fin 8) (u : Fin 256) (d : Fin 128) (i : S4x16x8x256x128.Idx) (hi : i = ix5 b h n u d) :
    val_main_v77 (F := Ideal) x0 i = Moba.value (entry x0) b h (Moba.pos n u) d := by
  subst hi
  rw [val_main_v77_apply]
  exact headv_apply x0 b h _ d _ (blocks_index b h n u d)

theorem ofBits_count : Ideal.ofBits .f32 0x43800000#32 = ((256 : ℝ) : EReal) := by
  simp [Ideal.ofBits, Ideal.ieee]
  rw [← EReal.coe_mul]
  norm_num

theorem ofBits_low : Ideal.ofBits .f32 0xFF800000#32 = (⊥ : EReal) := by
  simp [Ideal.ofBits, Ideal.ieee]

theorem pooled_apply (b : Fin 4) (h : Fin 16) (n : Fin 8) (d : Fin 128) (i : S4x16x8x128.Idx) (hi : i = ix4 b h n d) :
    val_main_v80 (F := Ideal) x0 i = Moba.pooled (Moba.key (entry x0) b h) n d := by
  subst hi
  rw [val_main_v80_apply, val_main_v79_apply, val_main_cst_8_apply, val_main_v78_apply, val_main_cst_7_apply, Ideal.hostDivf_def,
    Ideal.ofBits_def, Ideal.ofBits_def, ofBits_count, Ideal.div_coe (by norm_num), Ideal.ofBits_zero_f32, zero_add]
  unfold Moba.pooled
  refine congrArg (· * _) (Finset.sum_congr rfl fun u _ => ?_)
  refine blockk_apply x0 b h n u d _ ?_
  funext a
  match a with
  | ⟨0, _⟩ => rfl
  | ⟨1, _⟩ => rfl
  | ⟨2, _⟩ => rfl
  | ⟨3, _⟩ => rfl
  | ⟨4, _⟩ => rfl

theorem ownScore_apply (b : Fin 4) (h : Fin 16) (n : Fin 8) (r u : Fin 256) :
    val_main_v84 (F := Ideal) x0 (ix5 b h n r u) =
      Moba.score Moba.scale (Moba.query (entry x0) b h) (Moba.key (entry x0) b h) (Moba.pos n r) (Moba.pos n u) := by
  rw [val_main_v84_apply, val_main_v83_apply, val_main_cst_9_apply, Ideal.mulf_def, Ideal.ofBits_def, val_main_v82_apply]
  unfold Moba.score Moba.scale
  refine congrArg (· * _) (Finset.sum_congr rfl fun d _ => ?_)
  refine congrArg₂ (· * ·) (blockq_apply x0 b h n r d _ ?_) (blockk_apply x0 b h n u d _ ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The own block's scores, later keys masked. -/
theorem own_apply (b : Fin 4) (h : Fin 16) (n : Fin 8) (r u : Fin 256) :
    val_main_v91 (F := Ideal) x0 (ix5 b h n r u) =
      Moba.own Moba.scale (Moba.query (entry x0) b h) (Moba.key (entry x0) b h) n r u := by
  rw [val_main_v91_apply, ownScore_apply]
  show Scalar.select (IntOp.cmpi .sle (BitVec.ofNat 32 u.val) (BitVec.ofNat 32 r.val)) _ (Ideal.ofBits .f32 0xFF800000#32) = _
  rw [cmpi_sle_ofNat (by omega) (by omega), select_decide, ofBits_low]
  rfl

theorem gate_apply (b : Fin 4) (h : Fin 16) (t : Fin 2048) (n : Fin 8) :
    val_main_v92 (F := Ideal) x0 (ix4 b h t n) = Moba.gate (Moba.query (entry x0) b h) (Moba.key (entry x0) b h) t n := by
  rw [val_main_v92_apply]
  unfold Moba.gate
  refine Finset.sum_congr rfl fun d _ => congrArg₂ (· * ·) (headq_apply x0 b h t d _ ?_) (pooled_apply x0 b h n d _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The block of a position, as a word. -/
theorem blk_word : ∀ t : Fin 2048, IntOp.divsi .host (BitVec.ofNat 32 t.val) 256#32 = BitVec.ofNat 32 (Moba.blk t).val := by
  decide +kernel

theorem masked_apply (b : Fin 4) (h : Fin 16) (t : Fin 2048) (n : Fin 8) :
    val_main_v102 (F := Ideal) x0 (ix4 b h t n) =
      Moba.masked (Moba.gate (Moba.query (entry x0) b h) (Moba.key (entry x0) b h) t) (Moba.blk t) n := by
  rw [val_main_v102_apply, gate_apply]
  show Scalar.select (IntOp.cmpi .slt (BitVec.ofNat 32 n.val) (IntOp.divsi .host (BitVec.ofNat 32 t.val) 256#32)) _
    (Ideal.ofBits .f32 0xFF800000#32) = _
  rw [blk_word, cmpi_slt_ofNat (by omega) (by omega), select_decide, ofBits_low]
  rfl

end Cert.ReferenceIdeal.Attention

end
-- ==== Proof.RefBlocks.lean ====
/- The reference's selection: the positions of the three greatest gates, and the keys and values read there. -/
module

public import proofs.«01_k».proof.Proof.RefScores
public import Idealize.ShloMosaic.Lib.ValueIdxRank6

@[expose] public section

set_option maxRecDepth 16384

noncomputable section

namespace Cert.ReferenceIdeal.Attention

open Cert.ReferenceIdeal Cert.ReferenceIdeal.Gen Cert.ReferenceIdeal.Read Idealize.ShloMosaic Idealize.ShloMosaic.TcCoe
open Idealize.ShloMosaic.ValueIdx
open Idealize.ShloMosaic.WordCmp hiding select_one select_zero

variable (x0 : (⟨S4x2048x13024, .f32⟩ : BufTy).Contents (Elt Ideal))

/-- The position of the `s`-th greatest entry. -/
theorem topK_apply (x : S4x16x2048x8.Idx → EReal) (hs) (b : Fin 4) (h : Fin 16) (t : Fin 2048) (s : Fin 3) :
    (Host.topK S4x16x2048x3 3 (FloatOps.cmpfTotal (F := Ideal) (φ := .f32) .gt) x hs).2 (ix4 b h t s) =
      BitVec.ofNat 32 (sortedFrom (Moba.greater fun n => x (ix4 b h t n)) (s.castLE (by omega))).val := by
  have along : ∀ (n k : Fin 8), Shape.Idx.along (s := S4x16x2048x8) (ix4 b h t n) (3 : Fin 4) k = ix4 b h t k := fun n k => by
    funext a
    match a with
    | ⟨0, _⟩ => rfl
    | ⟨1, _⟩ => rfl
    | ⟨2, _⟩ => rfl
    | ⟨3, _⟩ => rfl
  show extractStridedSlice S4x16x2048x3 (fun _ => 0) (Host.sort2 S4x16x2048x8 3
    (fun l r => FloatOps.cmpfTotal (F := Ideal) (φ := .f32) .gt l.1 r.1) x
    (fun i => if hd : 3 < S4x16x2048x8.rank then iotaInDim S4x16x2048x8 32 ⟨3, hd⟩ i else 0#32)).2 hs (ix4 b h t s) = _
  refine (extractStridedSlice_apply (s := S4x16x2048x8) (t := S4x16x2048x3) (fun _ => 0) _ hs (ix4 b h t s)
    (ix4 b h t (s.castLE (by omega) : Fin 8)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold Host.sort2
    rw [dif_pos (show 3 < S4x16x2048x8.rank by decide)]
    show BitVec.ofNat 32 (sortedFrom _ (s.castLE (by omega) : Fin 8)).val = _
    refine congrArg (fun f => BitVec.ofNat 32 (sortedFrom f (s.castLE (by omega) : Fin 8)).val) ?_
    refine funext fun (k : Fin 8) => funext fun (k' : Fin 8) => ?_
    refine (congrArg₂ (fun p q : EReal => (Ideal.cmp CmpDirection.gt.ordered p q == 1#1))
      (congrArg x (along (s.castLE (by omega)) k)) (congrArg x (along (s.castLE (by omega)) k'))).trans ?_
    show (Ideal.cmp CmpDirection.gt.ordered (x (ix4 b h t k)) (x (ix4 b h t k')) == 1#1) =
      decide (x (ix4 b h t k') < x (ix4 b h t k))
    by_cases hlt : x (ix4 b h t k') < x (ix4 b h t k)
    · simp [Ideal.cmp, CmpDirection.ordered, hlt]
    · simp [Ideal.cmp, CmpDirection.ordered, hlt]

/-- The block in slot `s` of query `t`. -/
def slot (b : Fin 4) (h : Fin 16) (t : Fin 2048) (s : Fin 3) : Fin 8 :=
  sortedFrom (Moba.greater (Moba.masked (Moba.gate (Moba.query (entry x0) b h) (Moba.key (entry x0) b h) t) (Moba.blk t)))
    (s.castLE (by omega))

theorem slot_selects (b : Fin 4) (h : Fin 16) (t : Fin 2048) :
    Moba.Selects (Moba.Chosen (Moba.gate (Moba.query (entry x0) b h) (Moba.key (entry x0) b h) t) (Moba.blk t)) (Moba.blk t)
      (slot x0 b h t) :=
  Moba.selects_sorted _ _

theorem indices_apply (b : Fin 4) (h : Fin 16) (t : Fin 2048) (s : Fin 3) :
    val_main_indices (F := Ideal) x0 (ix4 b h t s) = BitVec.ofNat 32 (slot x0 b h t s).val := by
  unfold val_main_indices
  rw [topK_apply]
  unfold slot
  simp only [masked_apply]

/-- Three words side by side. -/
theorem triple_apply (y0 y1 y2 : S4x16x2048x3x1.Idx → BitVec 32) (hc) (b : Fin 4) (h : Fin 16) (t : Fin 2048) (s : Fin 3) :
    concatenate S4x16x2048x3x3 4 [⟨S4x16x2048x3x1, y0⟩, ⟨S4x16x2048x3x1, y1⟩, ⟨S4x16x2048x3x1, y2⟩] hc (ix5 b h t s (0 : Fin 3)) =
        y0 (ix5 b h t s (0 : Fin 1)) ∧
      concatenate S4x16x2048x3x3 4 [⟨S4x16x2048x3x1, y0⟩, ⟨S4x16x2048x3x1, y1⟩, ⟨S4x16x2048x3x1, y2⟩] hc (ix5 b h t s (1 : Fin 3)) =
        y1 (ix5 b h t s (0 : Fin 1)) ∧
      concatenate S4x16x2048x3x3 4 [⟨S4x16x2048x3x1, y0⟩, ⟨S4x16x2048x3x1, y1⟩, ⟨S4x16x2048x3x1, y2⟩] hc (ix5 b h t s (2 : Fin 3)) =
        y2 (ix5 b h t s (0 : Fin 1)) := by
  refine ⟨?_, ?_, ?_⟩
  · refine concatenate_apply_piece (t := S4x16x2048x3x3) 4 _ hc _ 0 (by decide : 0 < 3) S4x16x2048x3x1 y0 rfl rfl 0 rfl _ ?_ rfl
    intro a ha
    match a with
    | ⟨0, _⟩ => rfl
    | ⟨1, _⟩ => rfl
    | ⟨2, _⟩ => rfl
    | ⟨3, _⟩ => rfl
    | ⟨4, _⟩ => exact absurd rfl ha
  · refine concatenate_apply_piece (t := S4x16x2048x3x3) 4 _ hc _ 1 (by decide : 1 < 3) S4x16x2048x3x1 y1 rfl rfl 1 rfl _ ?_ rfl
    intro a ha
    match a with
    | ⟨0, _⟩ => rfl
    | ⟨1, _⟩ => rfl
    | ⟨2, _⟩ => rfl
    | ⟨3, _⟩ => rfl
    | ⟨4, _⟩ => exact absurd rfl ha
  · refine concatenate_apply_piece (t := S4x16x2048x3x3) 4 _ hc _ 2 (by decide : 2 < 3) S4x16x2048x3x1 y2 rfl rfl 2 rfl _ ?_ rfl
    intro a ha
    match a with
    | ⟨0, _⟩ => rfl
    | ⟨1, _⟩ => rfl
    | ⟨2, _⟩ => rfl
    | ⟨3, _⟩ => rfl
    | ⟨4, _⟩ => exact absurd rfl ha

/-- An index that is not negative stays as it is. -/
theorem kept_word (n k : ℕ) (hn : n < 2 ^ 31) :
    Scalar.select (IntOp.cmpi .slt (BitVec.ofNat 32 n) 0#32) (IntOp.addi (BitVec.ofNat 32 n) (BitVec.ofNat 32 k)) (BitVec.ofNat 32 n) =
      BitVec.ofNat 32 n := by
  rw [show (0#32) = BitVec.ofNat 32 0 from rfl, cmpi_slt_ofNat (by omega) (by omega), select_decide, if_neg (by omega)]

theorem table_apply (b : Fin 4) (h : Fin 16) (t : Fin 2048) (s : Fin 3) :
    val_main_v127 (F := Ideal) x0 (ix5 b h t s (0 : Fin 3)) = BitVec.ofNat 32 b.val ∧
      val_main_v127 (F := Ideal) x0 (ix5 b h t s (1 : Fin 3)) = BitVec.ofNat 32 h.val ∧
      val_main_v127 (F := Ideal) x0 (ix5 b h t s (2 : Fin 3)) = BitVec.ofNat 32 (slot x0 b h t s).val := by
  unfold val_main_v127
  have h3 := triple_apply (val_main_v124 (F := Ideal)) (val_main_v125 (F := Ideal)) (val_main_v126 (F := Ideal) x0)
    concatenates_S4x16x2048x3x1_S4x16x2048x3x1_S4x16x2048x3x1_S4x16x2048x3x3_d4 b h t s
  refine ⟨h3.1.trans ?_, h3.2.1.trans ?_, h3.2.2.trans ?_⟩
  · exact kept_word b.val 4 (by omega)
  · exact kept_word h.val 16 (by omega)
  · rw [val_main_v126_apply, val_main_v121_apply]
    have e : val_main_indices (F := Ideal) x0 (idx_main_v126 (ix5 b h t s (0 : Fin 1))) = BitVec.ofNat 32 (slot x0 b h t s).val := by
      rw [← indices_apply]
      congr 1
      funext a
      match a with
      | ⟨0, _⟩ => rfl
      | ⟨1, _⟩ => rfl
      | ⟨2, _⟩ => rfl
      | ⟨3, _⟩ => rfl
    rw [val_main_v118_apply, val_main_v120_apply, e]
    exact kept_word _ 8 (by omega)

theorem table_apply' (b : Fin 4) (h : Fin 16) (t : Fin 2048) (s : Fin 3) :
    val_main_v149 (F := Ideal) x0 (ix5 b h t s (0 : Fin 3)) = BitVec.ofNat 32 b.val ∧
      val_main_v149 (F := Ideal) x0 (ix5 b h t s (1 : Fin 3)) = BitVec.ofNat 32 h.val ∧
      val_main_v149 (F := Ideal) x0 (ix5 b h t s (2 : Fin 3)) = BitVec.ofNat 32 (slot x0 b h t s).val := by
  unfold val_main_v149
  have h3 := triple_apply (val_main_v146 (F := Ideal)) (val_main_v147 (F := Ideal)) (val_main_v148 (F := Ideal) x0)
    concatenates_S4x16x2048x3x1_S4x16x2048x3x1_S4x16x2048x3x1_S4x16x2048x3x3_d4 b h t s
  refine ⟨h3.1.trans ?_, h3.2.1.trans ?_, h3.2.2.trans ?_⟩
  · exact kept_word b.val 4 (by omega)
  · exact kept_word h.val 16 (by omega)
  · rw [val_main_v148_apply, val_main_v143_apply]
    have e : val_main_indices (F := Ideal) x0 (idx_main_v148 (ix5 b h t s (0 : Fin 1))) = BitVec.ofNat 32 (slot x0 b h t s).val := by
      rw [← indices_apply]
      congr 1
      funext a
      match a with
      | ⟨0, _⟩ => rfl
      | ⟨1, _⟩ => rfl
      | ⟨2, _⟩ => rfl
      | ⟨3, _⟩ => rfl
    rw [val_main_v140_apply, val_main_v142_apply, e]
    exact kept_word _ 8 (by omega)

/-- The three coordinates an index vector names, and the two kept axes. -/
theorem gather_apply (x : S4x16x8x256x128.Idx → EReal) (idx : IVec S4x16x2048x3x3 32) (b : Fin 4) (h : Fin 16) (t : Fin 2048) (s : Fin 3)
    (n : Fin 8) (u : Fin 256) (d : Fin 128) (h0 : idx (ix5 b h t s (0 : Fin 3)) = BitVec.ofNat 32 b.val)
    (h1 : idx (ix5 b h t s (1 : Fin 3)) = BitVec.ofNat 32 h.val) (h2 : idx (ix5 b h t s (2 : Fin 3)) = BitVec.ofNat 32 n.val) :
    Host.gather gather_S4x16x8x256x128_S4x16x2048x3x3_S4x16x2048x3x256x128_45_012_n_n_012_4_111256128 x idx (ix6 b h t s u d) =
      x (ix5 b h n u d) := by
  unfold Host.gather
  congr 1
  funext a
  refine Fin.ext ?_
  set gd := gather_S4x16x8x256x128_S4x16x2048x3x3_S4x16x2048x3x256x128_45_012_n_n_012_4_111256128 with hgd
  show gd.start (ix6 b h t s u d) idx a + gd.batchCoord (ix6 b h t s u d) a + gd.offCoord (ix6 b h t s u d) a = _
  rw [GatherDims.batchCoord_eq_zero _ _ _ List.not_mem_nil, Nat.add_zero]
  have si : ∀ c : Fin 3, gd.siIdx (ix6 b h t s u d) c = ix5 b h t s c := fun c => by
    funext e
    refine Fin.ext ?_
    match e with
    | ⟨0, _⟩ => rfl
    | ⟨1, _⟩ => rfl
    | ⟨2, _⟩ => rfl
    | ⟨3, _⟩ => rfl
    | ⟨4, _⟩ => rfl
  have st0 : gd.start (ix6 b h t s u d) idx (0 : Fin 5) = b.val := by
    have hm : (0 : Fin 5) ∈ gd.startIndexMap := show (0 : Fin 5) ∈ [0, 1, 2] by decide
    unfold GatherDims.start
    rw [dif_pos hm]
    show min (idx (gd.siIdx (ix6 b h t s u d) (0 : Fin 3))).toInt.toNat (4 - 1) = b.val
    rw [si, h0, toInt_ofNat_of_lt (by omega)]
    omega
  have of0 : gd.offCoord (ix6 b h t s u d) (0 : Fin 5) = 0 :=
    GatherDims.offCoord_eq_zero _ _ _ (fun hm => ((GatherDims.mem_sKept _ _).mp hm).1 (show (0 : Fin 5) ∈ [0, 1, 2] by decide))
  have st1 : gd.start (ix6 b h t s u d) idx (1 : Fin 5) = h.val := by
    have hm : (1 : Fin 5) ∈ gd.startIndexMap := show (1 : Fin 5) ∈ [0, 1, 2] by decide
    unfold GatherDims.start
    rw [dif_pos hm]
    show min (idx (gd.siIdx (ix6 b h t s u d) (1 : Fin 3))).toInt.toNat (16 - 1) = h.val
    rw [si, h1, toInt_ofNat_of_lt (by omega)]
    omega
  have of1 : gd.offCoord (ix6 b h t s u d) (1 : Fin 5) = 0 :=
    GatherDims.offCoord_eq_zero _ _ _ (fun hm => ((GatherDims.mem_sKept _ _).mp hm).1 (show (1 : Fin 5) ∈ [0, 1, 2] by decide))
  have st2 : gd.start (ix6 b h t s u d) idx (2 : Fin 5) = n.val := by
    have hm : (2 : Fin 5) ∈ gd.startIndexMap := show (2 : Fin 5) ∈ [0, 1, 2] by decide
    unfold GatherDims.start
    rw [dif_pos hm]
    show min (idx (gd.siIdx (ix6 b h t s u d) (2 : Fin 3))).toInt.toNat (8 - 1) = n.val
    rw [si, h2, toInt_ofNat_of_lt (by omega)]
    omega
  have of2 : gd.offCoord (ix6 b h t s u d) (2 : Fin 5) = 0 :=
    GatherDims.offCoord_eq_zero _ _ _ (fun hm => ((GatherDims.mem_sKept _ _).mp hm).1 (show (2 : Fin 5) ∈ [0, 1, 2] by decide))
  have st3 : gd.start (ix6 b h t s u d) idx (3 : Fin 5) = 0 := by
    have hm : ¬ (3 : Fin 5) ∈ gd.startIndexMap := show ¬ (3 : Fin 5) ∈ [0, 1, 2] by decide
    unfold GatherDims.start
    rw [dif_neg hm]
  have of3 : gd.offCoord (ix6 b h t s u d) (3 : Fin 5) = u.val := by
    have hm : (3 : Fin 5) ∈ gd.sKept := (GatherDims.mem_sKept _ _).mpr ⟨show ¬ (3 : Fin 5) ∈ [0, 1, 2] by decide, List.not_mem_nil⟩
    unfold GatherDims.offCoord
    rw [dif_pos hm]
    rfl
  have st4 : gd.start (ix6 b h t s u d) idx (4 : Fin 5) = 0 := by
    have hm : ¬ (4 : Fin 5) ∈ gd.startIndexMap := show ¬ (4 : Fin 5) ∈ [0, 1, 2] by decide
    unfold GatherDims.start
    rw [dif_neg hm]
  have of4 : gd.offCoord (ix6 b h t s u d) (4 : Fin 5) = d.val := by
    have hm : (4 : Fin 5) ∈ gd.sKept := (GatherDims.mem_sKept _ _).mpr ⟨show ¬ (4 : Fin 5) ∈ [0, 1, 2] by decide, List.not_mem_nil⟩
    unfold GatherDims.offCoord
    rw [dif_pos hm]
    rfl
  match a with
  | ⟨0, _⟩ => exact congrArg₂ (· + ·) st0 of0
  | ⟨1, _⟩ => exact congrArg₂ (· + ·) st1 of1
  | ⟨2, _⟩ => exact congrArg₂ (· + ·) st2 of2
  | ⟨3, _⟩ => exact (congrArg₂ (· + ·) st3 of3).trans (Nat.zero_add _)
  | ⟨4, _⟩ => exact (congrArg₂ (· + ·) st4 of4).trans (Nat.zero_add _)

/-- The selected keys. -/
theorem slotk_apply (b : Fin 4) (h : Fin 16) (t : Fin 2048) (s : Fin 3) (u : Fin 256) (d : Fin 128) (i : S4x16x2048x3x256x128.Idx)
    (hi : i = ix6 b h t s u d) :
    val_main_v128 (F := Ideal) x0 i = Moba.key (entry x0) b h (Moba.pos (slot x0 b h t s) u) d := by
  subst hi
  have ht := table_apply x0 b h t s
  unfold val_main_v128
  rw [gather_apply _ _ b h t s (slot x0 b h t s) u d ht.1 ht.2.1 ht.2.2]
  exact blockk_apply x0 b h _ u d _ rfl

/-- The selected values. -/
theorem slotv_apply (b : Fin 4) (h : Fin 16) (t : Fin 2048) (s : Fin 3) (u : Fin 256) (d : Fin 128) (i : S4x16x2048x3x256x128.Idx)
    (hi : i = ix6 b h t s u d) :
    val_main_v150 (F := Ideal) x0 i = Moba.value (entry x0) b h (Moba.pos (slot x0 b h t s) u) d := by
  subst hi
  have ht := table_apply' x0 b h t s
  unfold val_main_v150
  rw [gather_apply _ _ b h t s (slot x0 b h t s) u d ht.1 ht.2.1 ht.2.2]
  exact blockv_apply x0 b h _ u d _ rfl

end Cert.ReferenceIdeal.Attention

end
-- ==== Proof.RefRow.lean ====
/- The reference's softmax over the own block and the selected blocks, against the values. -/
module

public import proofs.«01_k».proof.Proof.RefBlocks
public import proofs.«01_k».proof.Proof.Softmax
public import Idealize.ShloMosaic.Lib.TwoAxisContraction

@[expose] public section

set_option maxRecDepth 16384

noncomputable section

namespace Cert.ReferenceIdeal.Attention

open Cert.ReferenceIdeal Cert.ReferenceIdeal.Gen Cert.ReferenceIdeal.Read Idealize.ShloMosaic Idealize.ShloMosaic.TcCoe
open Idealize.ShloMosaic.ValueIdx
open Idealize.ShloMosaic.WordCmp hiding select_one select_zero

variable (x0 : (⟨S4x2048x13024, .f32⟩ : BufTy).Contents (Elt Ideal))

theorem slotDot_apply (b : Fin 4) (h : Fin 16) (t : Fin 2048) (s : Fin 3) (u : Fin 256) :
    val_main_v153 (F := Ideal) x0 (ix5 b h t s u) =
      Moba.score Moba.scale (Moba.query (entry x0) b h) (Moba.key (entry x0) b h) t (Moba.pos (slot x0 b h t s) u) := by
  rw [val_main_v153_apply, val_main_v152_apply, val_main_cst_24_apply, Ideal.mulf_def, Ideal.ofBits_def, val_main_v151_apply]
  unfold Moba.score Moba.scale
  refine congrArg (· * _) (Finset.sum_congr rfl fun d _ => ?_)
  refine congrArg₂ (· * ·) (headq_apply x0 b h t d _ ?_) (slotk_apply x0 b h t s u d _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

/-- A slot's scores, masked where the query's block has fewer blocks before it. -/
theorem slotScore_apply (b : Fin 4) (h : Fin 16) (t : Fin 2048) (s : Fin 3) (u : Fin 256) (i : S4x16x2048x3x256.Idx)
    (hi : i = ix5 b h t s u) :
    val_main_v161 (F := Ideal) x0 i = if s.val < (Moba.blk t).val then
      Moba.score Moba.scale (Moba.query (entry x0) b h) (Moba.key (entry x0) b h) t (Moba.pos (slot x0 b h t s) u) else ⊥ := by
  subst hi
  rw [val_main_v161_apply, slotDot_apply]
  show Scalar.select (IntOp.cmpi .slt (BitVec.ofNat 32 s.val) (IntOp.divsi .host (BitVec.ofNat 32 t.val) 256#32)) _
    (Ideal.ofBits .f32 0xFF800000#32) = _
  rw [blk_word, cmpi_slt_ofNat (by omega) (by omega), select_decide, ofBits_low]

/-- A query's scores. -/
def row (b : Fin 4) (h : Fin 16) (t : Fin 2048) (w : Fin 1024) : EReal := val_main_v164 (F := Ideal) x0 (ix4 b h t w)

theorem row_own (b : Fin 4) (h : Fin 16) (t : Fin 2048) (u : Fin 256) :
    row x0 b h t (Moba.ownCol u) =
      Moba.own Moba.scale (Moba.query (entry x0) b h) (Moba.key (entry x0) b h) (Moba.blk t) (Moba.off t) u := by
  unfold row val_main_v164
  refine (concatenate_apply_piece (t := S4x16x2048x1024) 3 [⟨S4x16x2048x256, (val_main_v162 (F := Ideal) x0)⟩, ⟨S4x16x2048x768, (val_main_v163 (F := Ideal) x0)⟩]
    concatenates_S4x16x2048x256_S4x16x2048x768_S4x16x2048x1024_d3 _ 0
    (by decide : 0 < 2) S4x16x2048x256 (val_main_v162 (F := Ideal) x0) rfl rfl 0 rfl (ix4 b h t u) ?_ (Nat.zero_add _)).trans ?_
  · intro a ha
    match a with
    | ⟨0, _⟩ => rfl
    | ⟨1, _⟩ => rfl
    | ⟨2, _⟩ => rfl
    | ⟨3, _⟩ => exact absurd rfl ha
  · rw [val_main_v162_apply, ← own_apply]
    congr 1
    funext a
    match a with
    | ⟨0, _⟩ => exact Fin.ext (by show (((b.val * 16 + h.val) * 2048 + t.val) * 256 + u.val) / 8388608 = b.val; omega)
    | ⟨1, _⟩ => exact Fin.ext (by show (((b.val * 16 + h.val) * 2048 + t.val) * 256 + u.val) / 524288 % 16 = h.val; omega)
    | ⟨2, _⟩ => exact Fin.ext (by show (((b.val * 16 + h.val) * 2048 + t.val) * 256 + u.val) / 65536 % 8 = t.val / 256; omega)
    | ⟨3, _⟩ => exact Fin.ext (by show (((b.val * 16 + h.val) * 2048 + t.val) * 256 + u.val) / 256 % 256 = t.val % 256; omega)
    | ⟨4, _⟩ => exact Fin.ext (by show (((b.val * 16 + h.val) * 2048 + t.val) * 256 + u.val) % 256 = u.val; omega)

theorem row_slot (b : Fin 4) (h : Fin 16) (t : Fin 2048) (s : Fin 3) (u : Fin 256) :
    row x0 b h t (Moba.slotCol s u) = if s.val < (Moba.blk t).val then
      Moba.score Moba.scale (Moba.query (entry x0) b h) (Moba.key (entry x0) b h) t (Moba.pos (slot x0 b h t s) u) else ⊥ := by
  unfold row val_main_v164
  refine (concatenate_apply_piece (t := S4x16x2048x1024) 3 [⟨S4x16x2048x256, (val_main_v162 (F := Ideal) x0)⟩, ⟨S4x16x2048x768, (val_main_v163 (F := Ideal) x0)⟩]
    concatenates_S4x16x2048x256_S4x16x2048x768_S4x16x2048x1024_d3 _ 1
    (by decide : 1 < 2) S4x16x2048x768 (val_main_v163 (F := Ideal) x0) rfl rfl 256 rfl
    (ix4 b h t (⟨s.val * 256 + u.val, by omega⟩ : Fin 768)) ?_ rfl).trans ?_
  · intro a ha
    match a with
    | ⟨0, _⟩ => rfl
    | ⟨1, _⟩ => rfl
    | ⟨2, _⟩ => rfl
    | ⟨3, _⟩ => exact absurd rfl ha
  · rw [val_main_v163_apply]
    refine slotScore_apply x0 b h t s u _ ?_
    funext a
    match a with
    | ⟨0, _⟩ => exact Fin.ext (by show (((b.val * 16 + h.val) * 2048 + t.val) * 768 + (s.val * 256 + u.val)) / 25165824 = b.val; omega)
    | ⟨1, _⟩ => exact Fin.ext (by show (((b.val * 16 + h.val) * 2048 + t.val) * 768 + (s.val * 256 + u.val)) / 1572864 % 16 = h.val; omega)
    | ⟨2, _⟩ => exact Fin.ext (by show (((b.val * 16 + h.val) * 2048 + t.val) * 768 + (s.val * 256 + u.val)) / 768 % 2048 = t.val; omega)
    | ⟨3, _⟩ => exact Fin.ext (by show (((b.val * 16 + h.val) * 2048 + t.val) * 768 + (s.val * 256 + u.val)) / 256 % 3 = s.val; omega)
    | ⟨4, _⟩ => exact Fin.ext (by show (((b.val * 16 + h.val) * 2048 + t.val) * 768 + (s.val * 256 + u.val)) % 256 = u.val; omega)

/-- A greatest entry along the last axis. -/
theorem greatest_apply (y : S4x16x2048x1024.Idx → EReal) (c : S_.Idx → EReal) (hc : ∀ i, c i = ⊥) (b : Fin 4) (h : Fin 16) (t : Fin 2048) :
    Host.reduce (max : EReal → EReal → EReal) y c reducesTo_S4x16x2048x1024_S4x16x2048_d3 h_S_ (ix3 b h t) =
      Finset.univ.sup fun w : Fin 1024 => y (ix4 b h t w) := by
  rw [Host.reduce_eq_fold_single _ _ _ reducesTo_S4x16x2048x1024_S4x16x2048_d3 (by decide), hc]
  refine congrArg (fun f => Finset.fold (max : EReal → EReal → EReal) ⊥ f (Finset.univ : Finset (Fin 1024))) ?_
  funext w
  refine congrArg y (funext fun a => Fin.ext ?_)
  match a with
  | ⟨0, _⟩ => rfl
  | ⟨1, _⟩ => rfl
  | ⟨2, _⟩ => rfl
  | ⟨3, _⟩ => rfl

theorem top_apply (b : Fin 4) (h : Fin 16) (t : Fin 2048) :
    val_main_v167 (F := Ideal) x0 (ix3 b h t) = Finset.univ.sup (row x0 b h t) := by
  rw [val_main_v167_apply, val_main_v166_apply, val_main_cst_27_apply, Ideal.maximumf_def, Ideal.ofBits_def, ofBits_low, max_bot_left]
  unfold val_main_v165
  refine greatest_apply _ _ (fun i => ?_) b h t
  rw [val_main_cst_26_apply, Ideal.ofBits_def, ofBits_low]

theorem shifted_apply (b : Fin 4) (h : Fin 16) (t : Fin 2048) (w : Fin 1024) (i : S4x16x2048x1024.Idx) (hi : i = ix4 b h t w) :
    val_main_v171 (F := Ideal) x0 i = Ideal.exp (row x0 b h t w - Finset.univ.sup (row x0 b h t)) := by
  subst hi
  rw [val_main_v171_apply, val_main_v170_apply, val_main_v169_apply, val_main_v168_apply, Ideal.subf_def, ← top_apply]
  show Ideal.exp _ = _
  refine congrArg (fun m => Ideal.exp (row x0 b h t w - m)) (congrArg (val_main_v167 (F := Ideal) x0) (funext fun a => ?_))
  match a with
  | ⟨0, _⟩ => rfl
  | ⟨1, _⟩ => rfl
  | ⟨2, _⟩ => rfl

theorem weight_apply (b : Fin 4) (h : Fin 16) (t : Fin 2048) (w : Fin 1024) (i : S4x16x2048x1024.Idx) (hi : i = ix4 b h t w) :
    val_main_v175 (F := Ideal) x0 i =
      Ideal.div (Ideal.exp (row x0 b h t w - Finset.univ.sup (row x0 b h t)))
        (∑ w', Ideal.exp (row x0 b h t w' - Finset.univ.sup (row x0 b h t))) := by
  rw [val_main_v175_apply, Ideal.hostDivf_def, shifted_apply x0 b h t w i hi, val_main_v174_apply, val_main_v173_apply,
    val_main_v172_apply, val_main_cst_28_apply, Ideal.ofBits_def, Ideal.ofBits_zero_f32, zero_add]
  subst hi
  refine congrArg (Ideal.div _) (Finset.sum_congr rfl fun w' _ => shifted_apply x0 b h t w' _ ?_)
  funext a
  match a with
  | ⟨0, _⟩ => rfl
  | ⟨1, _⟩ => rfl
  | ⟨2, _⟩ => rfl
  | ⟨3, _⟩ => rfl

/-- The own block's part of the result. -/
theorem ownPart_apply (b : Fin 4) (h : Fin 16) (t : Fin 2048) (d : Fin 128) :
    val_main_v181 (F := Ideal) x0 (ix4 b h t d) =
      ∑ u : Fin 256, val_main_v175 (F := Ideal) x0 (ix4 b h t (Moba.ownCol u)) *
        Moba.value (entry x0) b h (Moba.pos (Moba.blk t) u) d := by
  rw [val_main_v181_apply, show idx_main_v181 (ix4 b h t d) = ix5 b h (Moba.blk t) (Moba.off t) d from ?_, val_main_v180_apply]
  · refine Finset.sum_congr rfl fun u _ => congrArg₂ (· * ·) ?_ (blockv_apply x0 b h (Moba.blk t) u d _ ?_)
    · rw [val_main_v177_apply, val_main_v176_apply]
      refine congrArg (val_main_v175 (F := Ideal) x0) (funext fun a => ?_)
      match a with
      | ⟨0, _⟩ => exact Fin.ext (by show ((((b.val * 16 + h.val) * 8 + t.val / 256) * 256 + t.val % 256) * 256 + u.val) / 8388608 = b.val; omega)
      | ⟨1, _⟩ => exact Fin.ext (by show ((((b.val * 16 + h.val) * 8 + t.val / 256) * 256 + t.val % 256) * 256 + u.val) / 524288 % 16 = h.val; omega)
      | ⟨2, _⟩ => exact Fin.ext (by show ((((b.val * 16 + h.val) * 8 + t.val / 256) * 256 + t.val % 256) * 256 + u.val) / 256 % 2048 = t.val; omega)
      | ⟨3, _⟩ => exact Fin.ext (by show ((((b.val * 16 + h.val) * 8 + t.val / 256) * 256 + t.val % 256) * 256 + u.val) % 256 = u.val; omega)
    · funext a
      match a with
      | ⟨0, _⟩ => rfl
      | ⟨1, _⟩ => rfl
      | ⟨2, _⟩ => rfl
      | ⟨3, _⟩ => rfl
      | ⟨4, _⟩ => rfl
  · funext a
    match a with
    | ⟨0, _⟩ => exact Fin.ext (by show (((b.val * 16 + h.val) * 2048 + t.val) * 128 + d.val) / 4194304 = b.val; omega)
    | ⟨1, _⟩ => exact Fin.ext (by show (((b.val * 16 + h.val) * 2048 + t.val) * 128 + d.val) / 262144 % 16 = h.val; omega)
    | ⟨2, _⟩ => exact Fin.ext (by show (((b.val * 16 + h.val) * 2048 + t.val) * 128 + d.val) / 32768 % 8 = t.val / 256; omega)
    | ⟨3, _⟩ => exact Fin.ext (by show (((b.val * 16 + h.val) * 2048 + t.val) * 128 + d.val) / 128 % 256 = t.val % 256; omega)
    | ⟨4, _⟩ => exact Fin.ext (by show (((b.val * 16 + h.val) * 2048 + t.val) * 128 + d.val) % 128 = d.val; omega)

/-- A contraction over the slots and their positions. -/
theorem slotSum_apply (y : S4x16x2048x3x256.Idx → EReal) (z : S4x16x2048x3x256x128.Idx → EReal) (b : Fin 4) (h : Fin 16) (t : Fin 2048)
    (d : Fin 128) (sc : HostSchedule) :
    (FloatOps.dotGeneral (F := Ideal) (φ₁ := .f32) (φ₂ := .f32) dot_S4x16x2048x3x256_S4x16x2048x3x256x128_S4x16x2048x128_43_43_n_5_012_012 none
      sc y z : S4x16x2048x128.Idx → EReal) (ix4 b h t d) =
      ∑ s : Fin 3, ∑ u : Fin 256, y (ix5 b h t s u) * z (ix6 b h t s u d) := by
  rw [Ideal.dotGeneral_apply, sum_contr2 dot_S4x16x2048x3x256_S4x16x2048x3x256x128_S4x16x2048x128_43_43_n_5_012_012 256 3 rfl rfl rfl,
    Finset.sum_comm]
  refine Finset.sum_congr rfl fun s _ => Finset.sum_congr rfl fun u _ => congrArg₂ (· * ·) (congrArg y ?_) (congrArg z ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

/-- The selected blocks' part of the result. -/
theorem slotPart_apply (b : Fin 4) (h : Fin 16) (t : Fin 2048) (d : Fin 128) :
    val_main_v182 (F := Ideal) x0 (ix4 b h t d) =
      ∑ s : Fin 3, ∑ u : Fin 256, val_main_v175 (F := Ideal) x0 (ix4 b h t (Moba.slotCol s u)) *
        Moba.value (entry x0) b h (Moba.pos (slot x0 b h t s) u) d := by
  unfold val_main_v182
  refine (slotSum_apply _ _ b h t d _).trans ?_
  refine Finset.sum_congr rfl fun s _ => Finset.sum_congr rfl fun u _ => congrArg₂ (· * ·) ?_ (slotv_apply x0 b h t s u d _ rfl)
  rw [val_main_v179_apply, val_main_v178_apply]
  refine congrArg (val_main_v175 (F := Ideal) x0) (funext fun a => ?_)
  match a with
  | ⟨0, _⟩ => exact Fin.ext (by show ((((b.val * 16 + h.val) * 2048 + t.val) * 3 + s.val) * 256 + u.val) / 25165824 = b.val; omega)
  | ⟨1, _⟩ => exact Fin.ext (by show ((((b.val * 16 + h.val) * 2048 + t.val) * 3 + s.val) * 256 + u.val) / 1572864 % 16 = h.val; omega)
  | ⟨2, _⟩ => exact Fin.ext (by show ((((b.val * 16 + h.val) * 2048 + t.val) * 3 + s.val) * 256 + u.val) / 768 % 2048 = t.val; omega)
  | ⟨3, _⟩ => exact Fin.ext (by show 256 + ((((b.val * 16 + h.val) * 2048 + t.val) * 3 + s.val) * 256 + u.val) % 768 = 256 + (s.val * 256 + u.val); omega)

/-- The attention of a query, feature `d`. -/
theorem attention_apply (b : Fin 4) (h : Fin 16) (t : Fin 2048) (d : Fin 128) :
    val_main_v183 (F := Ideal) x0 (ix4 b h t d) =
      Moba.soft (row x0 b h t) (fun u => Moba.value (entry x0) b h (Moba.pos (Moba.blk t) u) d)
        (fun s u => Moba.value (entry x0) b h (Moba.pos (slot x0 b h t s) u) d) := by
  rw [val_main_v183_apply, Ideal.addf_def, ownPart_apply, slotPart_apply]
  unfold Moba.soft
  refine congrArg₂ (· + ·) (Finset.sum_congr rfl fun u _ => ?_)
    (Finset.sum_congr rfl fun s _ => Finset.sum_congr rfl fun u _ => ?_)
  · rw [weight_apply x0 b h t _ _ rfl]
  · rw [weight_apply x0 b h t _ _ rfl]

/-- The result at a feature of the joined heads. -/
theorem joined_apply (b : Fin 4) (t w : Fin 2048) :
    val_main_v186 (F := Ideal) x0 (ix3 b t w) =
      val_main_v183 (F := Ideal) x0 (ix4 b (⟨w.val / 128, by omega⟩ : Fin 16) t (⟨w.val % 128, by omega⟩ : Fin 128)) := by
  rw [val_main_v186_apply, Ideal.truncf_def, val_main_v185_apply, val_main_v184_apply]
  refine congrArg (val_main_v183 (F := Ideal) x0) (funext fun a => ?_)
  match a with
  | ⟨0, _⟩ => exact Fin.ext (by show ((b.val * 2048 + t.val) * 2048 + w.val) / 4194304 = b.val; omega)
  | ⟨1, _⟩ => exact Fin.ext (by show ((b.val * 2048 + t.val) * 2048 + w.val) / 128 % 16 = w.val / 128; omega)
  | ⟨2, _⟩ => exact Fin.ext (by show ((b.val * 2048 + t.val) * 2048 + w.val) / 2048 % 2048 = t.val; omega)
  | ⟨3, _⟩ => exact Fin.ext (by show ((b.val * 2048 + t.val) * 2048 + w.val) % 128 = w.val % 128; omega)

end Cert.ReferenceIdeal.Attention

end
-- ==== Proof.RefValue.lean ====
/- The reference's result, for finite projections. -/
module

public import proofs.«01_k».proof.Proof.RefRow

@[expose] public section

set_option maxRecDepth 16384

noncomputable section

namespace Cert.Moba

open Idealize.ShloMosaic

theorem isReal_scale : IsReal scale := by
  unfold scale
  simp [Ideal.ofBits, Ideal.ieee]
  rw [← EReal.coe_mul]
  exact isReal_coe _

theorem isReal_rope (x : Fin 2048 → Fin 128 → EReal) (hx : ∀ t d, IsReal (x t d)) (t : Fin 2048) (d : Fin 128) :
    IsReal (rope cosine sine x t d) := by
  unfold rope
  split_ifs
  · exact ((hx _ _).mul (isReal_coe _)).sub ((hx _ _).mul (isReal_coe _))
  · exact ((hx _ _).mul (isReal_coe _)).add ((hx _ _).mul (isReal_coe _))

theorem isReal_score (q k : Fin 2048 → Fin 128 → EReal) (hq : ∀ t d, IsReal (q t d)) (hk : ∀ t d, IsReal (k t d)) (t s : Fin 2048) :
    IsReal (score scale q k t s) :=
  (IsReal.sum _ _ fun d _ => (hq t d).mul (hk s d)).mul isReal_scale

theorem isLow_own (q k : Fin 2048 → Fin 128 → EReal) (hq : ∀ t d, IsReal (q t d)) (hk : ∀ t d, IsReal (k t d)) (i : Fin 8) (r u : Fin 256) :
    IsLow (own scale q k i r u) := by
  unfold own
  split_ifs
  · exact Or.inr (isReal_score q k hq hk _ _)
  · exact Or.inl rfl

theorem isReal_own (q k : Fin 2048 → Fin 128 → EReal) (hq : ∀ t d, IsReal (q t d)) (hk : ∀ t d, IsReal (k t d)) (i : Fin 8) (r : Fin 256) :
    IsReal (own scale q k i r r) := by
  unfold own
  rw [if_pos le_rfl]
  exact isReal_score q k hq hk _ _

end Cert.Moba

namespace Cert.ReferenceIdeal.Attention

open Cert.ReferenceIdeal Cert.ReferenceIdeal.Gen Cert.ReferenceIdeal.Read Idealize.ShloMosaic Idealize.ShloMosaic.TcCoe
open Idealize.ShloMosaic.ValueIdx

variable (x0 : (⟨S4x2048x13024, .f32⟩ : BufTy).Contents (Elt Ideal))

theorem value_apply (hx : ∀ b t w, Moba.IsReal (entry x0 b t w)) (b : Fin 4) (t w : Fin 2048) :
    val_main_v186 (F := Ideal) x0 (ix3 b t w) = Moba.result (entry x0) b t w := by
  rw [joined_apply, attention_apply]
  unfold Moba.result Moba.out
  generalize (⟨w.val / 128, _⟩ : Fin 16) = h
  generalize (⟨w.val % 128, _⟩ : Fin 128) = d
  have hq : ∀ t d, Moba.IsReal (Moba.query (entry x0) b h t d) := Moba.isReal_rope _ fun _ _ => hx _ _ _
  have hk : ∀ t d, Moba.IsReal (Moba.key (entry x0) b h t d) := Moba.isReal_rope _ fun _ _ => hx _ _ _
  have hv : ∀ t d, Moba.IsReal (Moba.value (entry x0) b h t d) := fun _ _ => hx _ _ _
  refine (Moba.soft_eq (Moba.Chosen (Moba.gate (Moba.query (entry x0) b h) (Moba.key (entry x0) b h) t) (Moba.blk t)) (Moba.blk t)
    (slot x0 b h t) (slot_selects x0 b h t) (fun j hj => Moba.chosen_lt hj) (row x0 b h t)
    (Moba.own Moba.scale (Moba.query (entry x0) b h) (Moba.key (entry x0) b h) (Moba.blk t) (Moba.off t))
    (fun j u => Moba.score Moba.scale (Moba.query (entry x0) b h) (Moba.key (entry x0) b h) t (Moba.pos j u))
    (fun j u => Moba.value (entry x0) b h (Moba.pos j u) d) (row_own x0 b h t) (row_slot x0 b h t)
    (fun u => Moba.isLow_own _ _ hq hk _ _ _) ⟨Moba.off t, Moba.isReal_own _ _ hq hk _ _⟩
    (fun j u => Moba.isReal_score _ _ hq hk _ _) (fun j u => hv _ _)).trans ?_
  refine Moba.attend_congr _ (fun u => rfl) (fun j _ u => ?_) (fun j u => rfl)
  unfold Moba.other
  rw [Moba.pos_blk_off]

end Cert.ReferenceIdeal.Attention

end
-- ==== Proof.Attention.lean ====
/- The claims about the attention: its three programs' frames, the named constant, and the two results' equality. -/
module

public import proofs.«01_k».proof.Defs
public import proofs.«01_k».proof.Proof.KernelValue
public import proofs.«01_k».proof.Proof.RefValue
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

set_option maxRecDepth 16384

noncomputable section

namespace Cert.AttentionClaims

open Idealize.ShloMosaic Idealize.SL.Sem Idealize.ShloMosaic.ValueIdx

theorem finite_facts : Cert.Pre_finite.Facts := ⟨by decide⟩

attribute [local instance] Cert.Kernel.Gen.facts Cert.KernelIdeal.Gen.facts Cert.ReferenceIdeal.Gen.facts finite_facts

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri : Cert.quiescent_ReferenceIdeal := fun m ρ _ => reference_frame m ρ

theorem frame_ri_finite : Cert.quiescent_ReferenceIdeal_pre_finite := fun m ρ _ => reference_frame m ρ

theorem preserves : Cert.preserves_Kernel_KernelIdeal :=
  IdealRules.named_const.statement Cert.KernelIdeal.κ "mask" .f32 0xF149F2CA#32 ⊥ rfl

theorem ofBits_high : Ideal.ofBits .f32 0x7F800000#32 = (⊤ : EReal) := by
  simp [Ideal.ofBits, Ideal.ieee]

/-- An extended real whose absolute value is below infinity is a real number. -/
theorem real_of_finite (a : EReal) (h : Ideal.cmp CmpDirection.lt.ordered (max a (-a)) ⊤ = 1#1) : Moba.IsReal a := by
  have hlt : max a (-a) < ⊤ := by
    by_contra hn
    simp [Ideal.cmp, CmpDirection.ordered, hn] at h
  induction a using EReal.rec with
  | bot => simp at hlt
  | top => simp at hlt
  | coe r => exact ⟨r, rfl⟩

theorem entries_real (x : FVec Ideal Cert.Pre_finite.S4x2048x13024 .f32) (h : Cert.Pre_finite.fn (F := Ideal) x = fun _ => 1#1)
    (i : Cert.Pre_finite.S4x2048x13024.Idx) : Moba.IsReal (x i) := by
  have e := congrFun h i
  refine real_of_finite (x i) ?_
  rw [← ofBits_high]
  exact e

theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun r h c => ⟨?_, (h c).2⟩) (Cert.ReferenceIdeal.Value.run (F := Ideal) m' ρ')
  rw [Cert.KernelIdeal.Tiles.array_eq m c]
  refine ((h c).1.trans (Cert.ReferenceIdeal.Read.val_main_v186_eq (F := Ideal) (StableHlo.launchContents m' c))).trans ?_
  rw [StableHlo.launchContents_devRef, hagree c]
  funext y
  obtain ⟨b, t, w, rfl⟩ : ∃ (b : Fin 4) (t w : Fin 2048), y = ix3 b t w := ⟨y 0, y 1, y 2, eq_ix3 y⟩
  exact Cert.ReferenceIdeal.Attention.value_apply _ (fun b t w => entries_real _ (hpre c) _) b t w

end Cert.AttentionClaims

end
-- ==== Proof.UpKernel.lean ====
/- The gate and up projections of the dense feed-forward: the result array of the kernel, read at an index. -/
module

public import proofs.«01_k».proof.Proof.Gen.UpIdeal.Value
public import Idealize.ShloMosaic.Lib.StableHlo.Run
public import Idealize.ShloMosaic.Lib.KernelVsHost
public import Idealize.ShloMosaic.Lib.IdealHost
public import Idealize.ShloMosaic.Lib.MatmulPlain
public import Idealize.ShloMosaic.Lib.Pipeline.ValueKit.Geometry
public import Idealize.ShloMosaic.Lib.Pointwise.ElementwiseCore

@[expose] public section

set_option maxRecDepth 16384

noncomputable section

namespace Swiglu

open Idealize.ShloMosaic Idealize.ShloMosaic.ValueIdx

/-- `silu g * u`, with `silu g = g / (1 + exp (-g))`. -/
def gated (g u : EReal) : EReal := g * Ideal.logistic g * u

/-- A weight with 256 zero columns behind its 11008. -/
def padded (w : (⟨2, ![4096, 11008]⟩ : Shape).Idx → EReal) (k : Fin 4096) (j : Fin 11264) : EReal :=
  if h : j.val < 11008 then w (ix2 k ⟨j.val, h⟩) else 0

/-- A token's product with a column of a padded weight; the token's row counts through the batch. -/
def proj (h : (⟨3, ![4, 2048, 4096]⟩ : Shape).Idx → EReal) (w : (⟨2, ![4096, 11008]⟩ : Shape).Idx → EReal) (n : Fin 8192) (j : Fin 11264) : EReal :=
  ∑ k : Fin 4096, h (ix3 ⟨n.val / 2048, by omega⟩ ⟨n.val % 2048, by omega⟩ k) * padded w k j

def result (h : (⟨3, ![4, 2048, 4096]⟩ : Shape).Idx → EReal) (wg wu : (⟨2, ![4096, 11008]⟩ : Shape).Idx → EReal) (n : Fin 8192) (j : Fin 11264) : EReal :=
  gated (proj h wg n j) (proj h wu n j)

end Swiglu

namespace Cert.UpIdeal.Tiles

open Cert.UpIdeal Cert.UpIdeal.Gen Idealize.ShloMosaic Idealize.ShloMosaic.TcCoe Idealize.SL.Sem Idealize.ShloMosaic.ValueIdx

/-- The body: both products of a block of tokens with a block of columns, gated. -/
theorem body_apply (x0 : FVec Ideal S1024x4096 .bf16) (x1 x2 : FVec Ideal S4096x512 .bf16) (r : Fin 1024) (d : Fin 512) :
    (out0_3 (F := Ideal) x0 x1 x2 (ix2 r d) : EReal)
      = Swiglu.gated (∑ k : Fin 4096, x0 (ix2 r k) * x1 (ix2 k d)) (∑ k : Fin 4096, x0 (ix2 r k) * x2 (ix2 k d)) := by
  have product : ∀ x : FVec Ideal S4096x512 .bf16,
      matmul dot_S1024x4096_S4096x512_S1024x512_1_0_0_1_n_n none x0 x (constant (F := Ideal) S1024x512 .f32 0x00000000#32) (ix2 r d)
        = ∑ k : Fin 4096, x0 (ix2 r k) * x (ix2 k d) := by
    intro x
    refine (Ideal.matmul_plain_apply (M := 1024) (K := 4096) (N := 512) none x0 x (constant S1024x512 .f32 0x00000000#32) r d).trans ?_
    rw [constant_apply, Ideal.ofBits_zero_f32, zero_add]
  unfold out0_3
  rw [View.canon_unit_zero (by decide), View.ld_unit_zero (by decide), View.ld_unit_zero (by decide), View.ld_unit_zero (by decide)]
  unfold k0_pay1
  simp only [shapeCast_self]
  refine Eq.trans (b := Swiglu.gated
    (matmul dot_S1024x4096_S4096x512_S1024x512_1_0_0_1_n_n none x0 x1 (constant (F := Ideal) S1024x512 .f32 0x00000000#32) (ix2 r d))
    (matmul dot_S1024x4096_S4096x512_S1024x512_1_0_0_1_n_n none x0 x2 (constant (F := Ideal) S1024x512 .f32 0x00000000#32) (ix2 r d))) rfl ?_
  rw [product, product]

variable (m : (ℓ : Loc nD τ sig) → Buf (Elt Ideal) ℓ) (c : Dev nD)

abbrev tokens : S4x2048x4096.Idx → EReal := m ((c : Thread nD τ).loc main_arg0)
abbrev gate : S4096x11008.Idx → EReal := m ((c : Thread nD τ).loc main_arg1)
abbrev up : S4096x11008.Idx → EReal := m ((c : Thread nD τ).loc main_arg2)

theorem rows_apply {α : Type} (x : S4x2048x4096.Idx → α) (h) (n : Fin 8192) (k : Fin 4096) :
    shapeCast S8192x4096 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 4096 + k.val = n.val * 4096 + k.val; omega)

theorem pad_apply (x : S4096x11008.Idx → EReal) (v : S_.Idx → EReal) (hv : ∀ i, v i = 0) (h) (hu) (k : Fin 4096) (j : Fin 11264) :
    pad S4096x11264 ![0, 0] ![0, 256] ![0, 0] x v h hu (ix2 k j) = Swiglu.padded x k j := by
  unfold Swiglu.padded
  by_cases hj : j.val < 11008
  · rw [dif_pos hj]
    exact pad_apply_of_inside _ _ _ _ _ _ _ _ _ fun a => by
      match a with
      | ⟨0, _⟩ => show k.val = 0 + k.val * (0 + 1); omega
      | ⟨1, _⟩ => show j.val = 0 + j.val * (0 + 1); omega
  · rw [dif_neg hj]
    refine (pad_apply_of_not_inside _ _ _ _ _ _ _ _ (1 : Fin 2) ?_).trans (hv _)
    show ¬(0 ≤ j.val ∧ (j.val - 0) % (0 + 1) = 0 ∧ (j.val - 0) / (0 + 1) < 11008)
    omega

theorem zero_word (i : S_.Idx) : (sitofp .f32 (constantI S_ 32 0#32) : FVec Ideal S_ .f32) i = (0 : EReal) := by
  show (((0#32).toInt : ℝ) : EReal) = 0
  simp

theorem v1_apply (n : Fin 8192) (k : Fin 4096) :
    V m c main_v1 (ix2 n k) = tokens m c (ix3 ⟨n.val / 2048, by omega⟩ ⟨n.val % 2048, by omega⟩ k) := by
  show StableHlo.after (List.flatten [hostOps0, hostOps0_1, hostOps0_2, hostOps0_3, hostOps0_4]) (fun b => m (c, b)) (Proc.devRef .tc main_v1) _ = _
  simp only [hostOps0, hostOps0_1, hostOps0_2, hostOps0_3, hostOps0_4, List.flatten_cons, List.flatten_nil, List.append_nil, List.cons_append, List.nil_append]
  after_results
  exact rows_apply _ _ n k

theorem v3_apply (k : Fin 4096) (j : Fin 11264) : V m c main_v3 (ix2 k j) = Swiglu.padded (gate m c) k j := by
  show StableHlo.after (List.flatten [hostOps0, hostOps0_1, hostOps0_2, hostOps0_3, hostOps0_4]) (fun b => m (c, b)) (Proc.devRef .tc main_v3) _ = _
  simp only [hostOps0, hostOps0_1, hostOps0_2, hostOps0_3, hostOps0_4, List.flatten_cons, List.flatten_nil, List.append_nil, List.cons_append, List.nil_append]
  after_results
  exact pad_apply _ _ zero_word pads_S4096x11008_S4096x11264_000_02560 h_S_ k j

theorem v5_apply (k : Fin 4096) (j : Fin 11264) : V m c main_v5 (ix2 k j) = Swiglu.padded (up m c) k j := by
  show StableHlo.after (List.flatten [hostOps0, hostOps0_1, hostOps0_2, hostOps0_3, hostOps0_4]) (fun b => m (c, b)) (Proc.devRef .tc main_v5) _ = _
  simp only [hostOps0, hostOps0_1, hostOps0_2, hostOps0_3, hostOps0_4, List.flatten_cons, List.flatten_nil, List.append_nil, List.cons_append, List.nil_append]
  after_results
  exact pad_apply _ _ zero_word pads_S4096x11008_S4096x11264_000_02560 h_S_ k j

/-- The windows' blocks at a grid point, against the result window's: decided over the 176 points. -/
theorem index_facts : ∀ t : Fin grid0.N,
    (win0_0.index t 0 = win0_3.index t 0 ∧ win0_0.index t 1 = 0)
    ∧ (win0_1.index t 0 = 0 ∧ win0_1.index t 1 = win0_3.index t 1)
    ∧ (win0_2.index t 0 = 0 ∧ win0_2.index t 1 = win0_3.index t 1)
    ∧ win0_3.index t 0 < 8 ∧ win0_3.index t 1 < 22 := by
  decide +kernel

theorem token_block (t : Fin grid0.N) (n : Fin 8192) (r : Fin 1024) (hn : n.val = win0_3.index t 0 * 1024 + r.val) (k : Fin 4096) :
    iblk m c 0 t (ix2 r k) = tokens m c (ix3 ⟨n.val / 2048, by omega⟩ ⟨n.val % 2048, by omega⟩ k) := by
  have e : iblk m c 0 t (ix2 r k) = V m c main_v1 ((win0_0.rect t).emb (ix2 r k)) := rfl
  obtain ⟨⟨h0, h1⟩, _⟩ := index_facts t
  have hk : (win0_0.rect t).emb (ix2 r k) = ix2 n k := by
    funext a
    match a with
    | ⟨0, _⟩ => exact Fin.ext ((Pipeline.Window.rect_emb_val win0_0 t _ 0).trans (by show win0_0.index t 0 * 1024 + r.val = n.val; omega))
    | ⟨1, _⟩ => exact Fin.ext (Pipeline.Window.rect_emb_val_of_index_zero win0_0 t 1 h1 _)
  rw [e, hk]
  exact v1_apply m c n k

theorem gate_block (t : Fin grid0.N) (j : Fin 11264) (d : Fin 512) (hj : j.val = win0_3.index t 1 * 512 + d.val) (k : Fin 4096) :
    iblk m c 1 t (ix2 k d) = Swiglu.padded (gate m c) k j := by
  have e : iblk m c 1 t (ix2 k d) = V m c main_v3 ((win0_1.rect t).emb (ix2 k d)) := rfl
  obtain ⟨_, ⟨h0, h1⟩, _⟩ := index_facts t
  have hk : (win0_1.rect t).emb (ix2 k d) = ix2 k j := by
    funext a
    match a with
    | ⟨0, _⟩ => exact Fin.ext (Pipeline.Window.rect_emb_val_of_index_zero win0_1 t 0 h0 _)
    | ⟨1, _⟩ => exact Fin.ext ((Pipeline.Window.rect_emb_val win0_1 t _ 1).trans (by show win0_1.index t 1 * 512 + d.val = j.val; omega))
  rw [e, hk]
  exact v3_apply m c k j

theorem up_block (t : Fin grid0.N) (j : Fin 11264) (d : Fin 512) (hj : j.val = win0_3.index t 1 * 512 + d.val) (k : Fin 4096) :
    iblk m c 2 t (ix2 k d) = Swiglu.padded (up m c) k j := by
  have e : iblk m c 2 t (ix2 k d) = V m c main_v5 ((win0_2.rect t).emb (ix2 k d)) := rfl
  obtain ⟨_, _, ⟨h0, h1⟩, _⟩ := index_facts t
  have hk : (win0_2.rect t).emb (ix2 k d) = ix2 k j := by
    funext a
    match a with
    | ⟨0, _⟩ => exact Fin.ext (Pipeline.Window.rect_emb_val_of_index_zero win0_2 t 0 h0 _)
    | ⟨1, _⟩ => exact Fin.ext ((Pipeline.Window.rect_emb_val win0_2 t _ 1).trans (by show win0_2.index t 1 * 512 + d.val = j.val; omega))
  rw [e, hk]
  exact v5_apply m c k j

/-- What grid point `t` leaves in its block. -/
theorem point_apply (t : Fin grid0.N) (n : Fin 8192) (j : Fin 11264) (r : Fin 1024) (d : Fin 512)
    (hn : n.val = win0_3.index t 0 * 1024 + r.val) (hj : j.val = win0_3.index t 1 * 512 + d.val) :
    out0_3 (iblk m c 0 t) (iblk m c 1 t) (iblk m c 2 t) (ix2 r d) = Swiglu.result (tokens m c) (gate m c) (up m c) n j := by
  refine (body_apply (iblk m c 0 t) (iblk m c 1 t) (iblk m c 2 t) r d).trans ?_
  unfold Swiglu.result Swiglu.proj
  exact congrArg₂ Swiglu.gated
    (Finset.sum_congr rfl fun k _ => congrArg₂ (· * ·) (token_block m c t n r hn k) (gate_block m c t j d hj k))
    (Finset.sum_congr rfl fun k _ => congrArg₂ (· * ·) (token_block m c t n r hn k) (up_block m c t j d hj k))

set_option maxHeartbeats 2000000 in
/-- The result array after the run. -/
theorem array_eq :
    (dats m 0 c).arrAt 3 cfg0.N
      = fun y : S8192x11264.Idx => (show Elt Ideal .bf16 from Swiglu.result (tokens m c) (gate m c) (up m c) (y 0) (y 1)) := by
  refine (dats m 0 c).arrAt_eq_of_covers 3 _ (by decide +kernel) fun t hf y => ?_
  rw [after0_3]
  have ey : ((cfg0.win 3).xinj (cfg0.grid.coords t) y) = ix2 (y 0) (y 1) := eq_ix2 (n0 := 1024) (n1 := 512) y
  refine Eq.trans (congrArg (out0_3 (iblk m c 0 t) (iblk m c 1 t) (iblk m c 2 t)) ey) ?_
  exact point_apply m c t _ _ (y 0) (y 1) (Pipeline.Window.rect_emb_val win0_3 t y 0) (Pipeline.Window.rect_emb_val win0_3 t y 1)

end Cert.UpIdeal.Tiles

end
-- ==== Proof.UpRef.lean ====
/- The gate and up projections of the dense feed-forward: the reference's result, read at an index. -/
module

public import proofs.«01_k».proof.Proof.UpKernel
public import proofs.«01_k».proof.Proof.Gen.UpRefIdeal.Read

@[expose] public section

set_option maxRecDepth 16384

noncomputable section

namespace Swiglu

theorem gated_zero (g : EReal) : gated g 0 = 0 := mul_zero _

end Swiglu

namespace Cert.UpRefIdeal.Dense

open Cert.UpRefIdeal Cert.UpRefIdeal.Gen Cert.UpRefIdeal.Read Idealize.ShloMosaic Idealize.ShloMosaic.ValueIdx

variable (h : S4x2048x4096.Idx → EReal) (wg wu : S4096x11008.Idx → EReal)

/-- A token's product with a column of a weight. -/
def plain (w : S4096x11008.Idx → EReal) (b : Fin 4) (t : Fin 2048) (j : Fin 11008) : EReal := ∑ k : Fin 4096, h (ix3 b t k) * w (ix2 k j)

theorem gate_apply (b : Fin 4) (t : Fin 2048) (j : Fin 11008) : val_main_v0 (F := Ideal) h wg (ix3 b t j) = plain h wg b t j := by
  refine (val_main_v0_apply h wg (ix3 b t j)).trans (Finset.sum_congr rfl fun k _ => congrArg₂ (fun a b => h a * wg b) ?_ ?_)
  · funext a
    match a with
    | ⟨0, _⟩ => rfl
    | ⟨1, _⟩ => rfl
    | ⟨2, _⟩ => rfl
  · funext a
    match a with
    | ⟨0, _⟩ => rfl
    | ⟨1, _⟩ => rfl

theorem up_apply (b : Fin 4) (t : Fin 2048) (j : Fin 11008) : val_main_v2 (F := Ideal) h wu (ix3 b t j) = plain h wu b t j := by
  refine (val_main_v2_apply h wu (ix3 b t j)).trans (Finset.sum_congr rfl fun k _ => congrArg₂ (fun a b => h a * wu b) ?_ ?_)
  · funext a
    match a with
    | ⟨0, _⟩ => rfl
    | ⟨1, _⟩ => rfl
    | ⟨2, _⟩ => rfl
  · funext a
    match a with
    | ⟨0, _⟩ => rfl
    | ⟨1, _⟩ => rfl

theorem silu_apply (i : S4x2048x11008.Idx) :
    val_main_v1 (F := Ideal) h wg i = val_main_v0 (F := Ideal) h wg i * Ideal.logistic (val_main_v0 (F := Ideal) h wg i) := by
  rw [val_main_v1_apply, val_main_call0_v5_apply, val_main_call0_v4_apply, val_main_call0_v3_apply, val_main_call0_v2_apply,
    val_main_call0_cst_apply, val_main_call0_cst_0_apply, val_main_call0_v1_apply, val_main_call0_v0_apply]
  rw [Ideal.mulf_def, Ideal.hostDivf_def, Ideal.addf_def, Ideal.ofBits_def, Ideal.ofBits_one_f32]
  rfl

theorem gated_apply (b : Fin 4) (t : Fin 2048) (j : Fin 11008) :
    val_main_v4 (F := Ideal) h wg wu (ix3 b t j) = Swiglu.gated (plain h wg b t j) (plain h wu b t j) := by
  rw [val_main_v4_apply, val_main_v3_apply, Ideal.truncf_def, Ideal.mulf_def, silu_apply, gate_apply, up_apply]
  rfl

theorem zero_word (i : S_.Idx) : val_main_call1_v0 (F := Ideal) i = (0 : EReal) := by
  show (((0#32).toInt : ℝ) : EReal) = 0
  simp

theorem row_apply (n : Fin 8192) (j : Fin 11264) :
    val_main_v6 (F := Ideal) h wg wu (ix2 n j) = val_main_v5 (F := Ideal) h wg wu (ix3 ⟨n.val / 2048, by omega⟩ ⟨n.val % 2048, by omega⟩ j) := by
  rw [val_main_v6_apply]
  refine congrArg _ (funext fun a => ?_)
  match a with
  | ⟨0, _⟩ => exact Fin.ext (by show (n.val * 11264 + j.val) / 23068672 = n.val / 2048; omega)
  | ⟨1, _⟩ => exact Fin.ext (by show (n.val * 11264 + j.val) / 11264 % 2048 = n.val % 2048; omega)
  | ⟨2, _⟩ => exact Fin.ext (by show (n.val * 11264 + j.val) % 11264 = j.val; omega)

/-- The reference's result is the kernel's: a padded column is zero in both. -/
theorem value_apply (n : Fin 8192) (j : Fin 11264) : val_main_v6 (F := Ideal) h wg wu (ix2 n j) = Swiglu.result h wg wu n j := by
  rw [row_apply]
  unfold Swiglu.result
  by_cases hj : j.val < 11008
  · have inside : ∀ w : S4096x11008.Idx → EReal, Swiglu.proj h w n j = plain h w ⟨n.val / 2048, by omega⟩ ⟨n.val % 2048, by omega⟩ ⟨j.val, hj⟩ := by
      intro w
      unfold Swiglu.proj plain
      refine Finset.sum_congr rfl fun k _ => congrArg _ ?_
      unfold Swiglu.padded
      exact dif_pos hj
    rw [inside, inside, ← gated_apply]
    unfold val_main_v5
    exact pad_apply_of_inside _ _ _ _ _ _ _ _ _ fun a => by
      match a with
      | ⟨0, _⟩ => show n.val / 2048 = 0 + n.val / 2048 * (0 + 1); omega
      | ⟨1, _⟩ => show n.val % 2048 = 0 + n.val % 2048 * (0 + 1); omega
      | ⟨2, _⟩ => show j.val = 0 + j.val * (0 + 1); omega
  · have outside : ∀ w : S4096x11008.Idx → EReal, Swiglu.proj h w n j = 0 := by
      intro w
      unfold Swiglu.proj
      refine Finset.sum_eq_zero fun k _ => ?_
      unfold Swiglu.padded
      rw [dif_neg hj, mul_zero]
    rw [outside wu, Swiglu.gated_zero]
    unfold val_main_v5
    refine (pad_apply_of_not_inside _ _ _ _ _ _ _ _ (2 : Fin 3) ?_).trans (zero_word _)
    show ¬(0 ≤ j.val ∧ (j.val - 0) % (0 + 1) = 0 ∧ (j.val - 0) / (0 + 1) < 11008)
    omega

end Cert.UpRefIdeal.Dense

end
-- ==== Proof.InKernel.lean ====
/- The input projection: the result array of the kernel, read at an index. -/
module

public import proofs.«01_k».proof.Proof.Gen.InIdeal.Value
public import Idealize.ShloMosaic.Lib.StableHlo.Run
public import Idealize.ShloMosaic.Lib.KernelVsHost
public import Idealize.ShloMosaic.Lib.IdealHost
public import Idealize.ShloMosaic.Lib.MatmulPlain
public import Idealize.ShloMosaic.Lib.Pipeline.ValueKit.Geometry
public import Idealize.ShloMosaic.Lib.Pointwise.ElementwiseCore

@[expose] public section

set_option maxRecDepth 16384

noncomputable section

namespace InProj

open Idealize.ShloMosaic Idealize.ShloMosaic.ValueIdx

/-- The weight's column at a place of the order in which the kernel takes the columns, and zero at a place of padding: the three
    wide parts first, then the gate's 480 columns and 32 zeros, then the 256 columns that lie before them, then the rest and 256
    zeros. -/
def arranged (f : Fin 13024 → EReal) (j : Fin 13312) : EReal :=
  if h0 : j.val < 6144 then f ⟨j.val, by omega⟩
  else if h1 : j.val < 6624 then f ⟨j.val + 256, by omega⟩
  else if h2 : j.val < 6656 then 0
  else if h3 : j.val < 6912 then f ⟨j.val - 512, by omega⟩
  else if h4 : j.val < 13056 then f ⟨j.val - 32, by omega⟩
  else 0

def result (h : (⟨3, ![4, 2048, 4096]⟩ : Shape).Idx → EReal) (w : (⟨2, ![4096, 13024]⟩ : Shape).Idx → EReal) (n : Fin 8192) (j : Fin 13312) : EReal :=
  ∑ k : Fin 4096, h (ix3 ⟨n.val / 2048, by omega⟩ ⟨n.val % 2048, by omega⟩ k) * arranged (fun i => w (ix2 k i)) j

end InProj

namespace Cert.InIdeal.Tiles

open Cert.InIdeal Cert.InIdeal.Gen Idealize.ShloMosaic Idealize.ShloMosaic.TcCoe Idealize.SL.Sem Idealize.ShloMosaic.ValueIdx

/-- The body: a block of tokens times a block of columns. -/
theorem body_apply (x0 : FVec Ideal S1024x4096 .bf16) (x1 : FVec Ideal S4096x1024 .bf16) (r : Fin 1024) (d : Fin 1024) :
    (out0_2 (F := Ideal) x0 x1 (ix2 r d) : EReal) = (∑ k : Fin 4096, (x0 (ix2 r k) : EReal) * (x1 (ix2 k d) : EReal) : EReal) := by
  unfold out0_2
  rw [View.canon_unit_zero (by decide), View.ld_unit_zero (by decide), View.ld_unit_zero (by decide)]
  unfold k0_pay1
  simp only [shapeCast_self]
  refine (Ideal.matmul_plain_apply (M := 1024) (K := 4096) (N := 1024) none x0 x1 (constant S1024x1024 .f32 0x00000000#32) r d).trans ?_
  rw [constant_apply, Ideal.ofBits_zero_f32, zero_add]

variable (m : (ℓ : Loc nD τ sig) → Buf (Elt Ideal) ℓ) (c : Dev nD)

abbrev tokens : S4x2048x4096.Idx → EReal := m ((c : Thread nD τ).loc main_arg0)
abbrev weight : S4096x13024.Idx → EReal := m ((c : Thread nD τ).loc main_arg1)

theorem rows_apply {α : Type} (x : S4x2048x4096.Idx → α) (h) (n : Fin 8192) (k : Fin 4096) :
    shapeCast S8192x4096 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 4096 + k.val = n.val * 4096 + k.val; omega)

theorem zero_word (i : S_.Idx) : (sitofp .f32 (constantI S_ 32 0#32) : FVec Ideal S_ .f32) i = (0 : EReal) := by
  show (((0#32).toInt : ℝ) : EReal) = 0
  simp

/-- The gate's columns and their zeros. -/
theorem pad_gate (x : S4096x480.Idx → EReal) (v : S_.Idx → EReal) (hv : ∀ i, v i = 0) (h) (hu) (k : Fin 4096) (j : Fin 512) :
    pad S4096x512 ![0, 0] ![0, 32] ![0, 0] x v h hu (ix2 k j) = if hj : j.val < 480 then x (ix2 k ⟨j.val, hj⟩) else 0 := by
  by_cases hj : j.val < 480
  · rw [dif_pos hj]
    exact pad_apply_of_inside _ _ _ _ _ _ _ _ _ fun a => by
      match a with
      | ⟨0, _⟩ => show k.val = 0 + k.val * (0 + 1); omega
      | ⟨1, _⟩ => show j.val = 0 + j.val * (0 + 1); omega
  · rw [dif_neg hj]
    refine (pad_apply_of_not_inside _ _ _ _ _ _ _ _ (1 : Fin 2) ?_).trans (hv _)
    show ¬(0 ≤ j.val ∧ (j.val - 0) % (0 + 1) = 0 ∧ (j.val - 0) / (0 + 1) < 480)
    omega

/-- The last columns and their zeros. -/
theorem pad_last (x : S4096x6144.Idx → EReal) (v : S_.Idx → EReal) (hv : ∀ i, v i = 0) (h) (hu) (k : Fin 4096) (j : Fin 6400) :
    pad S4096x6400 ![0, 0] ![0, 256] ![0, 0] x v h hu (ix2 k j) = if hj : j.val < 6144 then x (ix2 k ⟨j.val, hj⟩) else 0 := by
  by_cases hj : j.val < 6144
  · rw [dif_pos hj]
    exact pad_apply_of_inside _ _ _ _ _ _ _ _ _ fun a => by
      match a with
      | ⟨0, _⟩ => show k.val = 0 + k.val * (0 + 1); omega
      | ⟨1, _⟩ => show j.val = 0 + j.val * (0 + 1); omega
  · rw [dif_neg hj]
    refine (pad_apply_of_not_inside _ _ _ _ _ _ _ _ (1 : Fin 2) ?_).trans (hv _)
    show ¬(0 ≤ j.val ∧ (j.val - 0) % (0 + 1) = 0 ∧ (j.val - 0) / (0 + 1) < 6144)
    omega

/-- The columns of a slice of the weight. -/
theorem cut_apply {n : ℕ} (o : ℕ) (x : S4096x13024.Idx → EReal) (h) (k : Fin 4096) (j : Fin n) (hj : o + j.val < 13024) :
    extractStridedSlice (⟨2, ![4096, n]⟩ : Shape) ![0, o] x h (ix2 k j) = x (ix2 k ⟨o + j.val, hj⟩) :=
  extractStridedSlice_apply _ _ h _ _ fun a => by
    match a with
    | ⟨0, _⟩ => exact (Nat.zero_add _).symm
    | ⟨1, _⟩ => rfl

/-- The host's arrangement of the weight's columns. -/
theorem columns_apply (w : S4096x13024.Idx → EReal) (v v' : S_.Idx → EReal) (hv : ∀ i, v i = 0) (hv' : ∀ i, v' i = 0)
    (h0) (h1) (h2) (h3) (h4) (hp) (hp') (hu) (k : Fin 4096) (j : Fin 13312) :
    concatenate S4096x13312 1
        [⟨S4096x6144, extractStridedSlice S4096x6144 ![0, 0] w h0⟩,
         ⟨S4096x512, pad S4096x512 ![0, 0] ![0, 32] ![0, 0] (extractStridedSlice S4096x480 ![0, 6400] w h1) v hp hu⟩,
         ⟨S4096x128, extractStridedSlice S4096x128 ![0, 6144] w h2⟩,
         ⟨S4096x128, extractStridedSlice S4096x128 ![0, 6272] w h3⟩,
         ⟨S4096x6400, pad S4096x6400 ![0, 0] ![0, 256] ![0, 0] (extractStridedSlice S4096x6144 ![0, 6880] w h4) v' hp' hu⟩] concatenates_S4096x6144_S4096x512_S4096x128_S4096x128_S4096x6400_S4096x13312_d1 (ix2 k j)
      = InProj.arranged (fun i => w (ix2 k i)) j := by
  generalize ey0 : extractStridedSlice S4096x6144 ![0, 0] w h0 = y0
  generalize ey1 : pad S4096x512 ![0, 0] ![0, 32] ![0, 0] (extractStridedSlice S4096x480 ![0, 6400] w h1) v hp hu = y1
  generalize ey2 : extractStridedSlice S4096x128 ![0, 6144] w h2 = y2
  generalize ey3 : extractStridedSlice S4096x128 ![0, 6272] w h3 = y3
  generalize ey4 : pad S4096x6400 ![0, 0] ![0, 256] ![0, 0] (extractStridedSlice S4096x6144 ![0, 6880] w h4) v' hp' hu = y4
  unfold InProj.arranged
  split_ifs with c0 c1 c2 c3 c4
  · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
      0 (by decide : 0 < 5) S4096x6144 y0 rfl rfl 0 rfl (ix2 k (⟨j.val, c0⟩ : Fin 6144)) ?_ ?_).trans ?_
    · intro a ha
      match a with
      | ⟨0, _⟩ => rfl
      | ⟨1, _⟩ => exact absurd rfl ha
    · show 0 + j.val = j.val; omega
    · rw [← ey0]
      refine (cut_apply 0 w h0 k (⟨j.val, c0⟩ : Fin 6144) (by show 0 + j.val < 13024; omega)).trans ?_
      exact congrArg (fun i => w (ix2 k i)) (Fin.ext (by show 0 + j.val = j.val; omega))
  · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
      1 (by decide : 1 < 5) S4096x512 y1 rfl rfl 6144 rfl (ix2 k (⟨j.val - 6144, by omega⟩ : Fin 512)) ?_ ?_).trans ?_
    · intro a ha
      match a with
      | ⟨0, _⟩ => rfl
      | ⟨1, _⟩ => exact absurd rfl ha
    · show 6144 + (j.val - 6144) = j.val; omega
    · rw [← ey1]
      refine (pad_gate _ v hv hp hu k _).trans ?_
      refine (dif_pos (by show j.val - 6144 < 480; omega)).trans ?_
      refine (cut_apply 6400 w h1 k (⟨j.val - 6144, by omega⟩ : Fin 480) (by show 6400 + (j.val - 6144) < 13024; omega)).trans ?_
      exact congrArg (fun i => w (ix2 k i)) (Fin.ext (by show 6400 + (j.val - 6144) = j.val + 256; omega))
  · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
      1 (by decide : 1 < 5) S4096x512 y1 rfl rfl 6144 rfl (ix2 k (⟨j.val - 6144, by omega⟩ : Fin 512)) ?_ ?_).trans ?_
    · intro a ha
      match a with
      | ⟨0, _⟩ => rfl
      | ⟨1, _⟩ => exact absurd rfl ha
    · show 6144 + (j.val - 6144) = j.val; omega
    · rw [← ey1]
      refine (pad_gate _ v hv hp hu k _).trans ?_
      exact dif_neg (by show ¬(j.val - 6144 < 480); omega)
  · by_cases c5 : j.val < 6784
    · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
        2 (by decide : 2 < 5) S4096x128 y2 rfl rfl 6656 rfl (ix2 k (⟨j.val - 6656, by omega⟩ : Fin 128)) ?_ ?_).trans ?_
      · intro a ha
        match a with
        | ⟨0, _⟩ => rfl
        | ⟨1, _⟩ => exact absurd rfl ha
      · show 6656 + (j.val - 6656) = j.val; omega
      · rw [← ey2]
        refine (cut_apply 6144 w h2 k (⟨j.val - 6656, by omega⟩ : Fin 128) (by show 6144 + (j.val - 6656) < 13024; omega)).trans ?_
        exact congrArg (fun i => w (ix2 k i)) (Fin.ext (by show 6144 + (j.val - 6656) = j.val - 512; omega))
    · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
        3 (by decide : 3 < 5) S4096x128 y3 rfl rfl 6784 rfl (ix2 k (⟨j.val - 6784, by omega⟩ : Fin 128)) ?_ ?_).trans ?_
      · intro a ha
        match a with
        | ⟨0, _⟩ => rfl
        | ⟨1, _⟩ => exact absurd rfl ha
      · show 6784 + (j.val - 6784) = j.val; omega
      · rw [← ey3]
        refine (cut_apply 6272 w h3 k (⟨j.val - 6784, by omega⟩ : Fin 128) (by show 6272 + (j.val - 6784) < 13024; omega)).trans ?_
        exact congrArg (fun i => w (ix2 k i)) (Fin.ext (by show 6272 + (j.val - 6784) = j.val - 512; omega))
  · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
      4 (by decide : 4 < 5) S4096x6400 y4 rfl rfl 6912 rfl (ix2 k (⟨j.val - 6912, by omega⟩ : Fin 6400)) ?_ ?_).trans ?_
    · intro a ha
      match a with
      | ⟨0, _⟩ => rfl
      | ⟨1, _⟩ => exact absurd rfl ha
    · show 6912 + (j.val - 6912) = j.val; omega
    · rw [← ey4]
      refine (pad_last _ v' hv' hp' hu k _).trans ?_
      refine (dif_pos (by show j.val - 6912 < 6144; omega)).trans ?_
      refine (cut_apply 6880 w h4 k (⟨j.val - 6912, by omega⟩ : Fin 6144) (by show 6880 + (j.val - 6912) < 13024; omega)).trans ?_
      exact congrArg (fun i => w (ix2 k i)) (Fin.ext (by show 6880 + (j.val - 6912) = j.val - 32; omega))
  · refine (concatenate_apply_piece (t := S4096x13312) 1 [⟨S4096x6144, y0⟩, ⟨S4096x512, y1⟩, ⟨S4096x128, y2⟩, ⟨S4096x128, y3⟩, ⟨S4096x6400, y4⟩] concatenates_S4096x6144_S4096x512_S4096x128_S4096x128_S4096x6400_S4096x13312_d1 _
      4 (by decide : 4 < 5) S4096x6400 y4 rfl rfl 6912 rfl (ix2 k (⟨j.val - 6912, by omega⟩ : Fin 6400)) ?_ ?_).trans ?_
    · intro a ha
      match a with
      | ⟨0, _⟩ => rfl
      | ⟨1, _⟩ => exact absurd rfl ha
    · show 6912 + (j.val - 6912) = j.val; omega
    · rw [← ey4]
      refine (pad_last _ v' hv' hp' hu k _).trans ?_
      exact dif_neg (by show ¬(j.val - 6912 < 6144); omega)

theorem v1_apply (n : Fin 8192) (k : Fin 4096) :
    V m c main_v1 (ix2 n k) = tokens m c (ix3 ⟨n.val / 2048, by omega⟩ ⟨n.val % 2048, by omega⟩ k) := by
  show StableHlo.after (List.flatten [hostOps0, hostOps0_1, hostOps0_2, hostOps0_3, hostOps0_4]) (fun b => m (c, b)) (Proc.devRef .tc main_v1) _ = _
  simp only [hostOps0, hostOps0_1, hostOps0_2, hostOps0_3, hostOps0_4, List.flatten_cons, List.flatten_nil, List.append_nil, List.cons_append, List.nil_append]
  after_results
  exact rows_apply _ _ n k

theorem v10_apply (k : Fin 4096) (j : Fin 13312) : V m c main_v10 (ix2 k j) = InProj.arranged (fun i => weight m c (ix2 k i)) j := by
  show StableHlo.after (List.flatten [hostOps0, hostOps0_1, hostOps0_2, hostOps0_3, hostOps0_4]) (fun b => m (c, b)) (Proc.devRef .tc main_v10) _ = _
  simp only [hostOps0, hostOps0_1, hostOps0_2, hostOps0_3, hostOps0_4, List.flatten_cons, List.flatten_nil, List.append_nil, List.cons_append, List.nil_append]
  after_results
  exact columns_apply (weight m c) _ _ zero_word zero_word
    slices_S4096x13024_S4096x6144_0_0 slices_S4096x13024_S4096x480_0_6400 slices_S4096x13024_S4096x128_0_6144 slices_S4096x13024_S4096x128_0_6272
    slices_S4096x13024_S4096x6144_0_6880 pads_S4096x480_S4096x512_000_0320 pads_S4096x6144_S4096x6400_000_02560 h_S_ k j

/-- The windows' blocks at a grid point, against the result window's: decided over the 104 points. -/
theorem index_facts : ∀ t : Fin grid0.N,
    (win0_0.index t 0 = win0_2.index t 0 ∧ win0_0.index t 1 = 0)
    ∧ (win0_1.index t 0 = 0 ∧ win0_1.index t 1 = win0_2.index t 1) := by
  decide +kernel

theorem token_block (t : Fin grid0.N) (n : Fin 8192) (r : Fin 1024) (hn : n.val = win0_2.index t 0 * 1024 + r.val) (k : Fin 4096) :
    iblk m c 0 t (ix2 r k) = tokens m c (ix3 ⟨n.val / 2048, by omega⟩ ⟨n.val % 2048, by omega⟩ k) := by
  have e : iblk m c 0 t (ix2 r k) = V m c main_v1 ((win0_0.rect t).emb (ix2 r k)) := rfl
  obtain ⟨⟨h0, h1⟩, _⟩ := index_facts t
  have hk : (win0_0.rect t).emb (ix2 r k) = ix2 n k := by
    funext a
    match a with
    | ⟨0, _⟩ => exact Fin.ext ((Pipeline.Window.rect_emb_val win0_0 t _ 0).trans (by show win0_0.index t 0 * 1024 + r.val = n.val; omega))
    | ⟨1, _⟩ => exact Fin.ext (Pipeline.Window.rect_emb_val_of_index_zero win0_0 t 1 h1 _)
  rw [e, hk]
  exact v1_apply m c n k

theorem weight_block (t : Fin grid0.N) (j : Fin 13312) (d : Fin 1024) (hj : j.val = win0_2.index t 1 * 1024 + d.val) (k : Fin 4096) :
    iblk m c 1 t (ix2 k d) = InProj.arranged (fun i => weight m c (ix2 k i)) j := by
  have e : iblk m c 1 t (ix2 k d) = V m c main_v10 ((win0_1.rect t).emb (ix2 k d)) := rfl
  obtain ⟨_, h0, h1⟩ := index_facts t
  have hk : (win0_1.rect t).emb (ix2 k d) = ix2 k j := by
    funext a
    match a with
    | ⟨0, _⟩ => exact Fin.ext (Pipeline.Window.rect_emb_val_of_index_zero win0_1 t 0 h0 _)
    | ⟨1, _⟩ => exact Fin.ext ((Pipeline.Window.rect_emb_val win0_1 t _ 1).trans (by show win0_1.index t 1 * 1024 + d.val = j.val; omega))
  rw [e, hk]
  exact v10_apply m c k j

/-- What grid point `t` leaves in its block. -/
theorem point_apply (t : Fin grid0.N) (n : Fin 8192) (j : Fin 13312) (r d : Fin 1024)
    (hn : n.val = win0_2.index t 0 * 1024 + r.val) (hj : j.val = win0_2.index t 1 * 1024 + d.val) :
    out0_2 (iblk m c 0 t) (iblk m c 1 t) (ix2 r d) = InProj.result (tokens m c) (weight m c) n j := by
  refine (body_apply (iblk m c 0 t) (iblk m c 1 t) r d).trans ?_
  unfold InProj.result
  exact Finset.sum_congr rfl fun k _ => congrArg₂ (· * ·) (token_block m c t n r hn k) (weight_block m c t j d hj k)

set_option maxHeartbeats 2000000 in
/-- The result array after the run. -/
theorem array_eq :
    (dats m 0 c).arrAt 2 cfg0.N
      = fun y : S8192x13312.Idx => (show Elt Ideal .f32 from InProj.result (tokens m c) (weight m c) (y 0) (y 1)) := by
  refine (dats m 0 c).arrAt_eq_of_covers 2 _ (by decide +kernel) fun t hf y => ?_
  rw [after0_2]
  have ey : ((cfg0.win 2).xinj (cfg0.grid.coords t) y) = ix2 (y 0) (y 1) := eq_ix2 (n0 := 1024) (n1 := 1024) y
  refine Eq.trans (congrArg (out0_2 (iblk m c 0 t) (iblk m c 1 t)) ey) ?_
  exact point_apply m c t _ _ (y 0) (y 1) (Pipeline.Window.rect_emb_val win0_2 t y 0) (Pipeline.Window.rect_emb_val win0_2 t y 1)

end Cert.InIdeal.Tiles

end
-- ==== Proof.InRef.lean ====
/- The input projection: the reference's result, read at an index. -/
module

public import proofs.«01_k».proof.Proof.InKernel
public import proofs.«01_k».proof.Proof.Gen.InRefIdeal.Read

@[expose] public section

set_option maxRecDepth 16384

noncomputable section

namespace InProj

open Idealize.ShloMosaic

/-- The product with a column of the arrangement is the arrangement of the products: a place of padding gives zero. -/
theorem sum_arranged (x : Fin 4096 → EReal) (w : Fin 4096 → Fin 13024 → EReal) (j : Fin 13312) :
    ∑ k : Fin 4096, x k * arranged (w k) j = arranged (fun i => ∑ k : Fin 4096, x k * w k i) j := by
  unfold arranged
  split_ifs with c0 c1 c2 c3 c4
  · rfl
  · rfl
  · exact Finset.sum_eq_zero fun k _ => mul_zero _
  · rfl
  · rfl
  · exact Finset.sum_eq_zero fun k _ => mul_zero _

end InProj

namespace Cert.InRefIdeal.Dense

open Cert.InRefIdeal Cert.InRefIdeal.Gen Cert.InRefIdeal.Read Idealize.ShloMosaic Idealize.ShloMosaic.ValueIdx

variable (h : S4x2048x4096.Idx → EReal) (w : S4096x13024.Idx → EReal)

/-- A token's product with a column of the weight. -/
def plain (n : Fin 8192) (i : Fin 13024) : EReal := ∑ k : Fin 4096, h (ix3 ⟨n.val / 2048, by omega⟩ ⟨n.val % 2048, by omega⟩ k) * w (ix2 k i)

theorem product_apply (n : Fin 8192) (i : Fin 13024) : val_main_v1 (F := Ideal) h w (ix2 n i) = plain h w n i := by
  rw [val_main_v1_apply, val_main_v0_apply]
  refine Finset.sum_congr rfl fun k _ => congrArg₂ (fun a b => h a * w b) ?_ ?_
  · funext a
    match a with
    | ⟨0, _⟩ => exact Fin.ext (by show (n.val * 13024 + i.val) / 26673152 = n.val / 2048; omega)
    | ⟨1, _⟩ => exact Fin.ext (by show (n.val * 13024 + i.val) / 13024 % 2048 = n.val % 2048; omega)
    | ⟨2, _⟩ => rfl
  · funext a
    match a with
    | ⟨0, _⟩ => rfl
    | ⟨1, _⟩ => exact Fin.ext (by show (n.val * 13024 + i.val) % 13024 = i.val; omega)

theorem zero_word (i : S_.Idx) : val_main_call0_v0 (F := Ideal) i = (0 : EReal) := by
  show (((0#32).toInt : ℝ) : EReal) = 0
  simp

theorem zero_word' (i : S_.Idx) : val_main_call1_v0 (F := Ideal) i = (0 : EReal) := by
  show (((0#32).toInt : ℝ) : EReal) = 0
  simp

/-- The gate's columns and their zeros. -/
theorem gate_apply (n : Fin 8192) (j : Fin 512) :
    val_main_v3 (F := Ideal) h w (ix2 n j) = if hj : j.val < 480 then plain h w n ⟨j.val + 6400, by omega⟩ else 0 := by
  unfold val_main_v3
  by_cases hj : j.val < 480
  · rw [dif_pos hj]
    refine (pad_apply_of_inside _ _ _ _ _ _ _ (ix2 n j) (ix2 n (⟨j.val, hj⟩ : Fin 480)) fun a => by
      match a with
      | ⟨0, _⟩ => show n.val = 0 + n.val * (0 + 1); omega
      | ⟨1, _⟩ => show j.val = 0 + j.val * (0 + 1); omega).trans ?_
    rw [val_main_v2_apply, ← product_apply]
    refine congrArg _ (funext fun a => ?_)
    match a with
    | ⟨0, _⟩ => rfl
    | ⟨1, _⟩ => exact Fin.ext (by show 6400 + j.val = j.val + 6400; omega)
  · rw [dif_neg hj]
    refine (pad_apply_of_not_inside _ _ _ _ _ _ _ _ (1 : Fin 2) ?_).trans (zero_word _)
    show ¬(0 ≤ j.val ∧ (j.val - 0) % (0 + 1) = 0 ∧ (j.val - 0) / (0 + 1) < 480)
    omega

/-- The last columns and their zeros. -/
theorem last_apply (n : Fin 8192) (j : Fin 6400) :
    val_main_v7 (F := Ideal) h w (ix2 n j) = if hj : j.val < 6144 then plain h w n ⟨j.val + 6880, by omega⟩ else 0 := by
  unfold val_main_v7
  by_cases hj : j.val < 6144
  · rw [dif_pos hj]
    refine (pad_apply_of_inside _ _ _ _ _ _ _ (ix2 n j) (ix2 n (⟨j.val, hj⟩ : Fin 6144)) fun a => by
      match a with
      | ⟨0, _⟩ => show n.val = 0 + n.val * (0 + 1); omega
      | ⟨1, _⟩ => show j.val = 0 + j.val * (0 + 1); omega).trans ?_
    rw [val_main_v6_apply, ← product_apply]
    refine congrArg _ (funext fun a => ?_)
    match a with
    | ⟨0, _⟩ => rfl
    | ⟨1, _⟩ => exact Fin.ext (by show 6880 + j.val = j.val + 6880; omega)
  · rw [dif_neg hj]
    refine (pad_apply_of_not_inside _ _ _ _ _ _ _ _ (1 : Fin 2) ?_).trans (zero_word' _)
    show ¬(0 ≤ j.val ∧ (j.val - 0) % (0 + 1) = 0 ∧ (j.val - 0) / (0 + 1) < 6144)
    omega

theorem first_apply (n : Fin 8192) (j : Fin 6144) : val_main_v4 (F := Ideal) h w (ix2 n j) = plain h w n ⟨j.val, by omega⟩ := by
  rw [val_main_v4_apply, ← product_apply]
  refine congrArg _ (funext fun a => ?_)
  match a with
  | ⟨0, _⟩ => rfl
  | ⟨1, _⟩ => exact Fin.ext (by show j.val = j.val; omega)

theorem lora_apply (n : Fin 8192) (j : Fin 256) : val_main_v5 (F := Ideal) h w (ix2 n j) = plain h w n ⟨j.val + 6144, by omega⟩ := by
  rw [val_main_v5_apply, ← product_apply]
  refine congrArg _ (funext fun a => ?_)
  match a with
  | ⟨0, _⟩ => rfl
  | ⟨1, _⟩ => exact Fin.ext (by show 6144 + j.val = j.val + 6144; omega)

/-- The reference's result is the kernel's. -/
theorem value_apply (n : Fin 8192) (j : Fin 13312) : val_main_v8 (F := Ideal) h w (ix2 n j) = InProj.result h w n j := by
  refine Eq.trans (b := InProj.arranged (plain h w n) j) ?_
    (InProj.sum_arranged (fun k => h (ix3 ⟨n.val / 2048, by omega⟩ ⟨n.val % 2048, by omega⟩ k)) (fun k i => w (ix2 k i)) j).symm
  unfold val_main_v8 InProj.arranged
  have e0 := first_apply h w n
  have e1 := gate_apply h w n
  have e2 := lora_apply h w n
  have e3 := last_apply h w n
  generalize val_main_v4 (F := Ideal) h w = y0 at e0 ⊢
  generalize val_main_v3 (F := Ideal) h w = y1 at e1 ⊢
  generalize val_main_v5 (F := Ideal) h w = y2 at e2 ⊢
  generalize val_main_v7 (F := Ideal) h w = y3 at e3 ⊢
  split_ifs with c0 c1 c2 c3 c4
  · refine (concatenate_apply_piece (t := S8192x13312) 1 [⟨S8192x6144, y0⟩, ⟨S8192x512, y1⟩, ⟨S8192x256, y2⟩, ⟨S8192x6400, y3⟩] _ _
      0 (by decide : 0 < 4) S8192x6144 y0 rfl rfl 0 rfl (ix2 n (⟨j.val, c0⟩ : Fin 6144)) ?_ ?_).trans (e0 _)
    · intro a ha
      match a with
      | ⟨0, _⟩ => rfl
      | ⟨1, _⟩ => exact absurd rfl ha
    · show 0 + j.val = j.val; omega
  · refine (concatenate_apply_piece (t := S8192x13312) 1 [⟨S8192x6144, y0⟩, ⟨S8192x512, y1⟩, ⟨S8192x256, y2⟩, ⟨S8192x6400, y3⟩] _ _
      1 (by decide : 1 < 4) S8192x512 y1 rfl rfl 6144 rfl (ix2 n (⟨j.val - 6144, by omega⟩ : Fin 512)) ?_ ?_).trans ((e1 _).trans ?_)
    · intro a ha
      match a with
      | ⟨0, _⟩ => rfl
      | ⟨1, _⟩ => exact absurd rfl ha
    · show 6144 + (j.val - 6144) = j.val; omega
    · refine (dif_pos (by show j.val - 6144 < 480; omega)).trans ?_
      exact congrArg (plain h w n) (Fin.ext (by show j.val - 6144 + 6400 = j.val + 256; omega))
  · refine (concatenate_apply_piece (t := S8192x13312) 1 [⟨S8192x6144, y0⟩, ⟨S8192x512, y1⟩, ⟨S8192x256, y2⟩, ⟨S8192x6400, y3⟩] _ _
      1 (by decide : 1 < 4) S8192x512 y1 rfl rfl 6144 rfl (ix2 n (⟨j.val - 6144, by omega⟩ : Fin 512)) ?_ ?_).trans ((e1 _).trans ?_)
    · intro a ha
      match a with
      | ⟨0, _⟩ => rfl
      | ⟨1, _⟩ => exact absurd rfl ha
    · show 6144 + (j.val - 6144) = j.val; omega
    · exact dif_neg (by show ¬(j.val - 6144 < 480); omega)
  · refine (concatenate_apply_piece (t := S8192x13312) 1 [⟨S8192x6144, y0⟩, ⟨S8192x512, y1⟩, ⟨S8192x256, y2⟩, ⟨S8192x6400, y3⟩] _ _
      2 (by decide : 2 < 4) S8192x256 y2 rfl rfl 6656 rfl (ix2 n (⟨j.val - 6656, by omega⟩ : Fin 256)) ?_ ?_).trans ((e2 _).trans ?_)
    · intro a ha
      match a with
      | ⟨0, _⟩ => rfl
      | ⟨1, _⟩ => exact absurd rfl ha
    · show 6656 + (j.val - 6656) = j.val; omega
    · exact congrArg (plain h w n) (Fin.ext (by show j.val - 6656 + 6144 = j.val - 512; omega))
  · refine (concatenate_apply_piece (t := S8192x13312) 1 [⟨S8192x6144, y0⟩, ⟨S8192x512, y1⟩, ⟨S8192x256, y2⟩, ⟨S8192x6400, y3⟩] _ _
      3 (by decide : 3 < 4) S8192x6400 y3 rfl rfl 6912 rfl (ix2 n (⟨j.val - 6912, by omega⟩ : Fin 6400)) ?_ ?_).trans ((e3 _).trans ?_)
    · intro a ha
      match a with
      | ⟨0, _⟩ => rfl
      | ⟨1, _⟩ => exact absurd rfl ha
    · show 6912 + (j.val - 6912) = j.val; omega
    · refine (dif_pos (by show j.val - 6912 < 6144; omega)).trans ?_
      exact congrArg (plain h w n) (Fin.ext (by show j.val - 6912 + 6880 = j.val - 32; omega))
  · refine (concatenate_apply_piece (t := S8192x13312) 1 [⟨S8192x6144, y0⟩, ⟨S8192x512, y1⟩, ⟨S8192x256, y2⟩, ⟨S8192x6400, y3⟩] _ _
      3 (by decide : 3 < 4) S8192x6400 y3 rfl rfl 6912 rfl (ix2 n (⟨j.val - 6912, by omega⟩ : Fin 6400)) ?_ ?_).trans ((e3 _).trans ?_)
    · intro a ha
      match a with
      | ⟨0, _⟩ => rfl
      | ⟨1, _⟩ => exact absurd rfl ha
    · show 6912 + (j.val - 6912) = j.val; omega
    · exact dif_neg (by show ¬(j.val - 6912 < 6144); omega)

end Cert.InRefIdeal.Dense

end
-- ==== Proof.Dense.lean ====
/- The claims about the dense products: the frames of their programs and the equality of their results. -/
module

public import proofs.«01_k».proof.Defs
public import proofs.«01_k».proof.Proof.UpRef
public import proofs.«01_k».proof.Proof.Gen.Up.Frame
public import proofs.«01_k».proof.Proof.Gen.UpIdeal.Frame
public import proofs.«01_k».proof.Proof.Gen.UpRefIdeal.Run
public import proofs.«01_k».proof.Proof.InRef
public import proofs.«01_k».proof.Proof.Gen.In.Frame
public import proofs.«01_k».proof.Proof.Gen.InIdeal.Frame
public import proofs.«01_k».proof.Proof.Gen.InRefIdeal.Run
public import Idealize.ShloMosaic.Lib.Quiescent
public import Idealize.ShloMosaic.Adequacy
public import Idealize.ShloMosaic.Init

@[expose] public section

set_option maxRecDepth 16384

noncomputable section

namespace Cert.DenseClaims

open Idealize.ShloMosaic Idealize.SL.Sem Idealize.ShloMosaic.ValueIdx

attribute [local instance] Cert.Up.Gen.facts Cert.UpIdeal.Gen.facts Cert.UpRefIdeal.Gen.facts Cert.In.Gen.facts Cert.InIdeal.Gen.facts
  Cert.InRefIdeal.Gen.facts

theorem frame_up : Cert.quiescent_Up := fun m ρ _ => Cert.Up.Gen.frame m ρ

theorem frame_up_ideal : Cert.quiescent_UpIdeal := fun m ρ _ => Cert.UpIdeal.Gen.frame m ρ

theorem frame_up_reference : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

theorem preserves_up : Cert.preserves_Up_UpIdeal := trivial

theorem algebraic_up : Cert.algebraic_UpIdeal_UpRefIdeal := by
  intro m ρ m' ρ' _ hagree
  refine ⟨_, Cert.UpIdeal.Value.run_blocks m ρ, ?_⟩
  refine (θ_run Cert.UpRefIdeal.defs _ _).mono (fun r h c => ⟨?_, (h c).2⟩) (Cert.UpRefIdeal.Value.run (F := Ideal) m' ρ')
  rw [Cert.UpIdeal.Tiles.array_eq m c]
  refine ((h c).1.trans (Cert.UpRefIdeal.Read.val_main_v6_eq (F := Ideal) (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1)) (m' ((c.tc : Thread Cert.UpRefIdeal.nD Cert.UpRefIdeal.τ).loc Cert.UpRefIdeal.main_arg2)))).trans ?_
  rw [(hagree c).1, (hagree c).2.1, (hagree c).2.2]
  funext y
  obtain ⟨n, j, rfl⟩ : ∃ (n : Fin 8192) (j : Fin 11264), y = ix2 n j := ⟨y 0, y 1, eq_ix2 y⟩
  exact Cert.UpRefIdeal.Dense.value_apply _ _ _ n j

theorem frame_in : Cert.quiescent_In := fun m ρ _ => Cert.In.Gen.frame m ρ

theorem frame_in_ideal : Cert.quiescent_InIdeal := fun m ρ _ => Cert.InIdeal.Gen.frame m ρ

theorem frame_in_reference : Cert.quiescent_InRefIdeal := fun m ρ _ =>
  (θ_run Cert.InRefIdeal.defs _ _).mono (fun r h => ⟨fun c => (h c).2, Idealize.ShloMosaic.sem_eq_zero_of_no_sems (by decide) r.2⟩)
    (Cert.InRefIdeal.Value.run (F := Ideal) m ρ)

theorem preserves_in : Cert.preserves_In_InIdeal := trivial

theorem algebraic_in : Cert.algebraic_InIdeal_InRefIdeal := by
  intro m ρ m' ρ' _ hagree
  refine ⟨_, Cert.InIdeal.Value.run_blocks m ρ, ?_⟩
  refine (θ_run Cert.InRefIdeal.defs _ _).mono (fun r h c => ⟨?_, (h c).2⟩) (Cert.InRefIdeal.Value.run (F := Ideal) m' ρ')
  rw [Cert.InIdeal.Tiles.array_eq m c]
  refine ((h c).1.trans (Cert.InRefIdeal.Read.val_main_v8_eq (F := Ideal) (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)))).trans ?_
  rw [(hagree c).1, (hagree c).2]
  funext y
  obtain ⟨n, j, rfl⟩ : ∃ (n : Fin 8192) (j : Fin 13312), y = ix2 n j := ⟨y 0, y 1, eq_ix2 y⟩
  exact Cert.InRefIdeal.Dense.value_apply _ _ n j

end Cert.DenseClaims

end
-- ==== Proof.ResidualNorm.lean ====
/- The residual layer norm with its modulation, for one token: what both programs of the down and output projections compute from
   the product. -/
module

public import Idealize.ShloMosaic.Lib.Pipeline.Value
public import Idealize.ShloMosaic.Lib.IdealHost

@[expose] public section

noncomputable section

namespace Residual

open Idealize.ShloMosaic

/-- A token's features. -/
abbrev Row := Fin 4096 → EReal

/-- The constants both programs print: the residual's weight, the number of features, the layer norm's ε, and one. -/
def alpha : EReal := Ideal.ofBits .f32 0x3FD744FD#32
def width : EReal := Ideal.ofBits .f32 0x45800000#32
def eps : EReal := Ideal.ofBits .f32 0x3727C5AC#32
def one : EReal := Ideal.ofBits .f32 0x3F800000#32

/-- The residual sum: `α x + gate y`. -/
def mix (x gate y : Row) : Row := fun d => alpha * x d + gate d * y d

def mean (r : Row) : EReal := Ideal.div (∑ k, r k) width

/-- A row less its mean. -/
def centred (r : Row) : Row := fun d => r d - mean r

/-- The layer norm: centred, over the root of the variance and ε, scaled and shifted. -/
def normed (r g b : Row) : Row := fun d =>
  centred r d * Ideal.rsqrt (mean (fun k => centred r k * centred r k) + eps) * g d + b d

/-- The next sub-layer's input: `x (1 + scale) + shift`. -/
def modulated (x scale shift : Row) : Row := fun d => x d * (one + scale d) + shift d

open Idealize.ShloMosaic.ValueIdx

/-- A token's `j`-th product with a column of the weight; zero behind the last. The token's row counts through the batch. -/
def term {K : Nat} (a : (⟨3, ![4, 2048, K]⟩ : Shape).Idx → EReal) (w : (⟨2, ![K, 4096]⟩ : Shape).Idx → EReal) (n : Fin 8192) (d : Fin 4096) (j : Nat) : EReal :=
  if h : j < K then a (ix3 ⟨n.val / 2048, by omega⟩ ⟨n.val % 2048, by omega⟩ ⟨j, h⟩) * w (ix2 ⟨j, h⟩ d) else 0

/-- A token's product with the weight. -/
def product {K : Nat} (a : (⟨3, ![4, 2048, K]⟩ : Shape).Idx → EReal) (w : (⟨2, ![K, 4096]⟩ : Shape).Idx → EReal) (n : Fin 8192) : Row :=
  fun d => ∑ k : Fin K, a (ix3 ⟨n.val / 2048, by omega⟩ ⟨n.val % 2048, by omega⟩ k) * w (ix2 k d)

/-- The sum over a padded length is the product. -/
theorem sum_term {K M : Nat} (hM : K ≤ M) (a : (⟨3, ![4, 2048, K]⟩ : Shape).Idx → EReal) (w : (⟨2, ![K, 4096]⟩ : Shape).Idx → EReal) (n : Fin 8192) (d : Fin 4096) :
    ∑ j ∈ Finset.range M, term a w n d j = product a w n d := by
  rw [← Finset.sum_subset (Finset.range_subset_range.2 hM) (fun j _ hj => dif_neg fun h => hj (Finset.mem_range.2 h)), Finset.sum_range]
  exact Finset.sum_congr rfl fun k _ => dif_pos k.isLt

/-- The normed residual of a token, from the call's arguments. -/
def first {K : Nat} (a : (⟨3, ![4, 2048, K]⟩ : Shape).Idx → EReal) (w : (⟨2, ![K, 4096]⟩ : Shape).Idx → EReal)
    (x : (⟨3, ![4, 2048, 4096]⟩ : Shape).Idx → EReal) (gate : (⟨3, ![4, 1, 4096]⟩ : Shape).Idx → EReal)
    (g b : (⟨1, ![4096]⟩ : Shape).Idx → EReal) (n : Fin 8192) : Row :=
  normed (mix (fun k => x (ix3 ⟨n.val / 2048, by omega⟩ ⟨n.val % 2048, by omega⟩ k)) (fun k => gate (ix3 ⟨n.val / 2048, by omega⟩ 0 k)) (product a w n))
    (fun k => g (ix1 k)) (fun k => b (ix1 k))

/-- The next sub-layer's input at a token, from the call's arguments. -/
def second {K : Nat} (a : (⟨3, ![4, 2048, K]⟩ : Shape).Idx → EReal) (w : (⟨2, ![K, 4096]⟩ : Shape).Idx → EReal)
    (x : (⟨3, ![4, 2048, 4096]⟩ : Shape).Idx → EReal) (gate : (⟨3, ![4, 1, 4096]⟩ : Shape).Idx → EReal)
    (g b : (⟨1, ![4096]⟩ : Shape).Idx → EReal) (sc sh : (⟨3, ![4, 1, 4096]⟩ : Shape).Idx → EReal) (n : Fin 8192) : Row :=
  modulated (first a w x gate g b n) (fun k => sc (ix3 ⟨n.val / 2048, by omega⟩ 0 k)) (fun k => sh (ix3 ⟨n.val / 2048, by omega⟩ 0 k))

end Residual

end
-- ==== Proof.NormBlock.lean ====
/- The layer norm of 64 tokens as the down projection's body computes it, read at an index. -/
module

public import proofs.«01_k».proof.Proof.ResidualNorm
public import proofs.«01_k».proof.Proof.Gen.DownIdeal.Skeleton
public import Idealize.ShloMosaic.Lib.Pipeline.ValueKit.Geometry
public import Idealize.ShloMosaic.Lib.KernelVsHost

@[expose] public section

set_option maxRecDepth 16384

noncomputable section

namespace Cert.DownIdeal.Norm

open Cert.DownIdeal Cert.DownIdeal.Gen Idealize.ShloMosaic Idealize.ShloMosaic.ValueIdx Residual

/-- The rows' means, in a column. -/
def means (v : FVec Ideal S64x4096 .f32) : FVec Ideal S64x1 .f32 :=
  divf (shapeCast S64x1 (multiReduction .add [1] S64 v 0x00000000#32 reduces_S64x4096_S64 (.inl rfl) rfl : FVec Ideal S64 .f32) shapeCasts_S64_S64x1)
    (broadcast S64x1 (Scalar.ofBits .f32 0x45800000#32 : Ideal .f32))

theorem means_apply (v : FVec Ideal S64x4096 .f32) (r : Fin 64) (z : Fin 1) : means v (ix2 r z) = mean (fun k => v (ix2 r k)) := by
  have hs : ∀ x : FVec Ideal S64 .f32, shapeCast S64x1 x shapeCasts_S64_S64x1 (ix2 r z) = x (ix1 r) := fun x =>
    shapeCast_apply x _ (ix2 r z) (ix1 r) (by
      rewrite [Shape.rowMajor_val_two, Shape.rowMajor_val_one]; show r.val = r.val * 1 + z.val; omega)
  unfold means mean
  rw [divf_apply, hs]
  refine congrArg (fun s => Ideal.div s width) ?_
  refine (Ideal.multiReduction_add_single v 0x00000000#32 reduces_S64x4096_S64 (.inl rfl) rfl (ix1 r)).trans ?_
  refine Finset.sum_congr rfl fun k _ => congrArg v (funext fun a => ?_)
  match a with
  | ⟨0, _⟩ => rfl
  | ⟨1, _⟩ => rfl

/-- A column along the lanes. -/
theorem column_apply (x : FVec Ideal S64x1 .f32) (r : Fin 64) (d : Fin 4096) :
    broadcastTo S64x4096 x broadcasts_S64x1_S64x4096 (ix2 r d) = x (ix2 r 0) :=
  broadcastTo_apply _ _ _ _ fun a => by
    match a with
    | ⟨0, _⟩ => rfl
    | ⟨1, _⟩ => rfl

/-- A row down the tokens. -/
theorem row_apply (x : FVec Ideal S1x4096 .f32) (r : Fin 64) (d : Fin 4096) :
    broadcastTo S64x4096 x broadcasts_S1x4096_S64x4096 (ix2 r d) = x (ix2 0 d) :=
  broadcastTo_apply _ _ _ _ fun a => by
    match a with
    | ⟨0, _⟩ => rfl
    | ⟨1, _⟩ => rfl

theorem drop_apply (x : FVec Ideal S1x1x4096 .f32) (d : Fin 4096) :
    shapeCast S1x4096 x shapeCasts_S1x1x4096_S1x4096 (ix2 0 d) = x (ix3 0 0 d) :=
  shapeCast_apply x _ (ix2 0 d) (ix3 0 0 d) (by
    rewrite [Shape.rowMajor_val_three, Shape.rowMajor_val_two]; show (0 * 1 + 0) * 4096 + d.val = 0 * 4096 + d.val; omega)

variable (x y : FVec Ideal S64x4096 .f32) (gate : FVec Ideal S1x1x4096 .f32) (g b : FVec Ideal S1x4096 .f32) (sc sh : FVec Ideal S1x1x4096 .f32)

/-- The residual sum of 64 tokens. -/
def sums : FVec Ideal S64x4096 .f32 :=
  addf (mulf (broadcast S64x4096 (Scalar.ofBits .f32 0x3FD744FD#32 : Ideal .f32)) x)
    (mulf (broadcastTo S64x4096 (shapeCast S1x4096 gate shapeCasts_S1x1x4096_S1x4096) broadcasts_S1x4096_S64x4096) y)

theorem sums_apply (r : Fin 64) (d : Fin 4096) :
    sums x y gate (ix2 r d) = mix (fun k => x (ix2 r k)) (fun k => gate (ix3 0 0 k)) (fun k => y (ix2 r k)) d := by
  unfold sums mix
  rw [addf_apply, mulf_apply, mulf_apply, row_apply, drop_apply]
  rfl

def centre (v : FVec Ideal S64x4096 .f32) : FVec Ideal S64x4096 .f32 :=
  subf v (broadcastTo S64x4096 (means v) broadcasts_S64x1_S64x4096)

theorem centre_apply (v : FVec Ideal S64x4096 .f32) (r : Fin 64) (d : Fin 4096) : centre v (ix2 r d) = centred (fun k => v (ix2 r k)) d := by
  unfold centre centred
  rw [subf_apply, column_apply, means_apply]

/-- The layer norm of 64 rows. -/
def norm (v : FVec Ideal S64x4096 .f32) : FVec Ideal S64x4096 .f32 :=
  addf (mulf (mulf (centre v) (broadcastTo S64x4096 (rsqrt (addf (means (mulf (centre v) (centre v)))
      (broadcast S64x1 (Scalar.ofBits .f32 0x3727C5AC#32 : Ideal .f32)))) broadcasts_S64x1_S64x4096))
    (broadcastTo S64x4096 g broadcasts_S1x4096_S64x4096)) (broadcastTo S64x4096 b broadcasts_S1x4096_S64x4096)

theorem norm_apply (v : FVec Ideal S64x4096 .f32) (r : Fin 64) (d : Fin 4096) :
    norm g b v (ix2 r d) = normed (fun k => v (ix2 r k)) (fun k => g (ix2 0 k)) (fun k => b (ix2 0 k)) d := by
  unfold norm normed
  rw [addf_apply, mulf_apply, mulf_apply, row_apply, row_apply, column_apply, centre_apply]
  refine congrArg (fun s => centred (fun k => v (ix2 r k)) d * Ideal.rsqrt (s + eps) * g (ix2 0 d) + b (ix2 0 d)) ?_
  refine (means_apply _ r 0).trans (congrArg mean (funext fun k => ?_))
  rw [mulf_apply, centre_apply]

/-- What the body stores in the first result for 64 tokens. -/
def block : FVec Ideal S64x4096 .f32 := k0_pay9 (k0_pay5 b) (k0_pay8 x y gate g)

/-- What the body stores in the second result for 64 tokens. -/
def blockM : FVec Ideal S64x4096 .bf16 := k0_pay10 (k0_pay5 b) (k0_pay6 sc) (k0_pay7 sh) (k0_pay8 x y gate g)

theorem block_eq : block x y gate g b = norm g b (sums x y gate) := by
  unfold block k0_pay9 k0_pay5 k0_pay8
  simp only [shapeCast_self]
  rfl

theorem block_apply (r : Fin 64) (d : Fin 4096) :
    block x y gate g b (ix2 r d)
      = normed (mix (fun k => x (ix2 r k)) (fun k => gate (ix3 0 0 k)) (fun k => y (ix2 r k))) (fun k => g (ix2 0 k)) (fun k => b (ix2 0 k)) d := by
  rw [block_eq, norm_apply]
  exact congrArg (fun v => normed v _ _ d) (funext fun k => sums_apply x y gate r k)

theorem blockM_apply (r : Fin 64) (d : Fin 4096) :
    blockM x y gate g b sc sh (ix2 r d)
      = modulated (normed (mix (fun k => x (ix2 r k)) (fun k => gate (ix3 0 0 k)) (fun k => y (ix2 r k))) (fun k => g (ix2 0 k)) (fun k => b (ix2 0 k)))
          (fun k => sc (ix3 0 0 k)) (fun k => sh (ix3 0 0 k)) d := by
  unfold blockM k0_pay10 k0_pay6 k0_pay7
  rw [truncf_apply, addf_apply, mulf_apply, row_apply, row_apply, addf_apply, drop_apply, drop_apply]
  show (block x y gate g b (ix2 r d) : EReal) * _ + _ = _
  rw [block_apply]
  rfl

end Cert.DownIdeal.Norm

end
-- ==== Proof.DownBody.lean ====
/- The down projection's body: what each of its three cases leaves in the result blocks. -/
module

public import proofs.«01_k».proof.Proof.NormBlock
public import proofs.«01_k».proof.Proof.Gen.DownIdeal.Value
public import Idealize.ShloMosaic.Lib.MatmulPlain
public import Idealize.ShloMosaic.Lib.Pipeline.ReadBack
public import Idealize.ShloMosaic.Lib.Tactic

@[expose] public section

set_option maxRecDepth 16384

noncomputable section

namespace Cert.DownIdeal.Tiles

open Cert.DownIdeal Cert.DownIdeal.Gen Cert.DownIdeal.Norm Idealize.ShloMosaic Idealize.ShloMosaic.TcCoe Idealize.SL.Sem Idealize.ShloMosaic.ValueIdx

theorem hz : (![0, 0] : Fin 2 → Nat) = fun _ => 0 := by decide

theorem hz3 : (![0, 0, 0] : Fin 3 → Nat) = fun _ => 0 := by decide

variable (c : Dev nD) (i : grid0.Coords)
  (a2 : Memref sig .tc .vmem S512x4096 .f32) (h2 : a2.IsWhole) (a3 : Memref sig .tc .vmem S512x1024 .bf16) (h3 : a3.IsWhole)
  (a4 : Memref sig .tc .vmem S1024x4096 .bf16) (h4 : a4.IsWhole) (a5 : Memref sig .tc .vmem S1x1x4096 .f32) (h5 : a5.IsWhole)
  (a6 : Memref sig .tc .vmem S1x4096 .f32) (h6 : a6.IsWhole) (a7 : Memref sig .tc .vmem S1x4096 .f32) (h7 : a7.IsWhole)
  (a8 : Memref sig .tc .vmem S1x1x4096 .f32) (h8 : a8.IsWhole) (a9 : Memref sig .tc .vmem S1x1x4096 .f32) (h9 : a9.IsWhole)
  (a10 : Memref sig .tc .vmem S512x4096 .f32) (h10 : a10.IsWhole) (a11 : Memref sig .tc .vmem S512x4096 .bf16) (h11 : a11.IsWhole)

variable (x0 : Vec Ideal S512x4096 .f32) (x1 : Vec Ideal S512x1024 .bf16) (x2 : Vec Ideal S1024x4096 .bf16) (x3 : Vec Ideal S1x1x4096 .f32)
  (x4 x5 : Vec Ideal S1x4096 .f32) (x6 x7 : Vec Ideal S1x1x4096 .f32) (xo : Vec Ideal S512x4096 .f32)

/-- The first point of a block of tokens: the product of the first block of the inner features. -/
theorem first_eq (hc0 hc1 hc2) :
    out0_A_8 (F := Ideal) c i a2 h2 a3 h3 a4 h4 a5 h5 a6 h6 a7 h7 a8 h8 a9 h9 a10 h10 a11 h11 hc0 hc1 hc2 x0 x1 x2 x3 x4 x5 x6 x7 = k0_pay1 x1 x2 := by
  unfold out0_A_8
  rw [View.read_writes_eq_canon _ _ _ (cover0_A_8 (F := Ideal) c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  rw [View.canon_unit_zero hz]
  simp only [View.readAt_eq_ld, h3.read_unread, h4.read_unread, View.ld_unit_zero (S := S512x1024) hz, View.ld_unit_zero (S := S1024x4096) hz]

/-- A point between: the product of its block added. -/
theorem next_eq (hc0 hc1 hc2) :
    out0_B_8 (F := Ideal) c i a2 h2 a3 h3 a4 h4 a5 h5 a6 h6 a7 h7 a8 h8 a9 h9 a10 h10 a11 h11 hc0 hc1 hc2 x0 x1 x2 x3 x4 x5 x6 x7 xo = k0_pay2 xo x1 x2 := by
  unfold out0_B_8
  rw [View.read_writes_eq_canon _ _ _ (cover0_B_8 (F := Ideal) c i a2 h2 a3 h3 a4 h4 a5 h5 a6 h6 a7 h7 a8 h8 a9 h9 a10 h10 a11 h11 hc0 hc1 hc2 x0 x1 x2 x3 x4 x5 x6 x7 xo)]
  unfold kernelRun0_B
  dsimp only
  sl_unfold_words
  rw [View.canon_unit_zero hz]
  simp only [View.readAt_eq_ld, h3.read_unread, h4.read_unread, h10.read_unread, View.ld_unit_zero (S := S512x1024) hz, View.ld_unit_zero (S := S1024x4096) hz, View.ld_unit_zero (S := S512x4096) hz]

/-- The 64 rows at row `o` of a block of 512. -/
abbrev rows (x : Vec Ideal S512x4096 .f32) (o : Nat) (h : ∀ a, (![o, 0] : Fin 2 → Nat) a + S64x4096.size a ≤ S512x4096.size a) : Vec Ideal S64x4096 .f32 :=
  View.ld x (Rect.unit (s := S512x4096) ![o, 0] S64x4096.size h)

theorem last_eq (hc0 hc1 hc2) :
    out0_C_8 (F := Ideal) c i a2 h2 a3 h3 a4 h4 a5 h5 a6 h6 a7 h7 a8 h8 a9 h9 a10 h10 a11 h11 hc0 hc1 hc2 x0 x1 x2 x3 x4 x5 x6 x7 xo
      = View.canon [
        ⟨Rect.unit (s := S512x4096) ![448, 0] S64x4096.size inb_S512x4096_S64x4096_448_0, block (rows x0 448 inb_S512x4096_S64x4096_448_0) (rows (k0_pay2 xo x1 x2) 448 inb_S512x4096_S64x4096_448_0) x3 x4 x5⟩,
        ⟨Rect.unit (s := S512x4096) ![384, 0] S64x4096.size inb_S512x4096_S64x4096_384_0, block (rows x0 384 inb_S512x4096_S64x4096_384_0) (rows (k0_pay2 xo x1 x2) 384 inb_S512x4096_S64x4096_384_0) x3 x4 x5⟩,
        ⟨Rect.unit (s := S512x4096) ![320, 0] S64x4096.size inb_S512x4096_S64x4096_320_0, block (rows x0 320 inb_S512x4096_S64x4096_320_0) (rows (k0_pay2 xo x1 x2) 320 inb_S512x4096_S64x4096_320_0) x3 x4 x5⟩,
        ⟨Rect.unit (s := S512x4096) ![256, 0] S64x4096.size inb_S512x4096_S64x4096_256_0, block (rows x0 256 inb_S512x4096_S64x4096_256_0) (rows (k0_pay2 xo x1 x2) 256 inb_S512x4096_S64x4096_256_0) x3 x4 x5⟩,
        ⟨Rect.unit (s := S512x4096) ![192, 0] S64x4096.size inb_S512x4096_S64x4096_192_0, block (rows x0 192 inb_S512x4096_S64x4096_192_0) (rows (k0_pay2 xo x1 x2) 192 inb_S512x4096_S64x4096_192_0) x3 x4 x5⟩,
        ⟨Rect.unit (s := S512x4096) ![128, 0] S64x4096.size inb_S512x4096_S64x4096_128_0, block (rows x0 128 inb_S512x4096_S64x4096_128_0) (rows (k0_pay2 xo x1 x2) 128 inb_S512x4096_S64x4096_128_0) x3 x4 x5⟩,
        ⟨Rect.unit (s := S512x4096) ![64, 0] S64x4096.size inb_S512x4096_S64x4096_64_0, block (rows x0 64 inb_S512x4096_S64x4096_64_0) (rows (k0_pay2 xo x1 x2) 64 inb_S512x4096_S64x4096_64_0) x3 x4 x5⟩,
        ⟨Rect.unit (s := S512x4096) ![0, 0] S64x4096.size inb_S512x4096_S64x4096_0_0, block (rows x0 0 inb_S512x4096_S64x4096_0_0) (rows (k0_pay2 xo x1 x2) 0 inb_S512x4096_S64x4096_0_0) x3 x4 x5⟩,
        ⟨Rect.unit (s := S512x4096) ![0, 0] S512x4096.size inb_S512x4096_S512x4096_0_0, k0_pay2 xo x1 x2⟩] := by
  unfold out0_C_8
  rw [View.read_writes_eq_canon _ _ _ (cover0_C_8 (F := Ideal) c i a2 h2 a3 h3 a4 h4 a5 h5 a6 h6 a7 h7 a8 h8 a9 h9 a10 h10 a11 h11 hc0 hc1 hc2 x0 x1 x2 x3 x4 x5 x6 x7 xo)]
  unfold kernelRun0_C
  dsimp only
  sl_unfold_words
  have hfill : ∀ (Z : Vec Ideal S512x4096 .f32) (r : Rect S512x4096),
      a10.view.readCov [⟨Rect.unit (s := S512x4096) ![0, 0] S512x4096.size inb_S512x4096_S512x4096_0_0, Z⟩] r.toLoadRect = View.ld Z r :=
    fun Z r => View.readCov_fill (Val := Elt Ideal) a10.view inb_S512x4096_S512x4096_0_0 Z [] r (by decide)
  simp (disch := first | rfl | decide) only [↓View.readCov_skip, hfill, View.readAt_eq_ld, h2.read_unread, h3.read_unread, h4.read_unread, h5.read_unread, h6.read_unread, h7.read_unread, h8.read_unread, h9.read_unread, h10.read_unread, View.ld_unit_zero (S := S512x1024) hz, View.ld_unit_zero (S := S1024x4096) hz, View.ld_unit_zero (S := S512x4096) hz, View.ld_unit_zero (S := S1x4096) hz, View.ld_unit_zero (S := S1x1x4096) hz3]
  rfl

theorem lastM_eq (hc0 hc1 hc2) :
    out0_C_9 (F := Ideal) c i a2 h2 a3 h3 a4 h4 a5 h5 a6 h6 a7 h7 a8 h8 a9 h9 a10 h10 a11 h11 hc0 hc1 hc2 x0 x1 x2 x3 x4 x5 x6 x7 xo
      = View.canon [
        ⟨Rect.unit (s := S512x4096) ![448, 0] S64x4096.size inb_S512x4096_S64x4096_448_0, blockM (rows x0 448 inb_S512x4096_S64x4096_448_0) (rows (k0_pay2 xo x1 x2) 448 inb_S512x4096_S64x4096_448_0) x3 x4 x5 x6 x7⟩,
        ⟨Rect.unit (s := S512x4096) ![384, 0] S64x4096.size inb_S512x4096_S64x4096_384_0, blockM (rows x0 384 inb_S512x4096_S64x4096_384_0) (rows (k0_pay2 xo x1 x2) 384 inb_S512x4096_S64x4096_384_0) x3 x4 x5 x6 x7⟩,
        ⟨Rect.unit (s := S512x4096) ![320, 0] S64x4096.size inb_S512x4096_S64x4096_320_0, blockM (rows x0 320 inb_S512x4096_S64x4096_320_0) (rows (k0_pay2 xo x1 x2) 320 inb_S512x4096_S64x4096_320_0) x3 x4 x5 x6 x7⟩,
        ⟨Rect.unit (s := S512x4096) ![256, 0] S64x4096.size inb_S512x4096_S64x4096_256_0, blockM (rows x0 256 inb_S512x4096_S64x4096_256_0) (rows (k0_pay2 xo x1 x2) 256 inb_S512x4096_S64x4096_256_0) x3 x4 x5 x6 x7⟩,
        ⟨Rect.unit (s := S512x4096) ![192, 0] S64x4096.size inb_S512x4096_S64x4096_192_0, blockM (rows x0 192 inb_S512x4096_S64x4096_192_0) (rows (k0_pay2 xo x1 x2) 192 inb_S512x4096_S64x4096_192_0) x3 x4 x5 x6 x7⟩,
        ⟨Rect.unit (s := S512x4096) ![128, 0] S64x4096.size inb_S512x4096_S64x4096_128_0, blockM (rows x0 128 inb_S512x4096_S64x4096_128_0) (rows (k0_pay2 xo x1 x2) 128 inb_S512x4096_S64x4096_128_0) x3 x4 x5 x6 x7⟩,
        ⟨Rect.unit (s := S512x4096) ![64, 0] S64x4096.size inb_S512x4096_S64x4096_64_0, blockM (rows x0 64 inb_S512x4096_S64x4096_64_0) (rows (k0_pay2 xo x1 x2) 64 inb_S512x4096_S64x4096_64_0) x3 x4 x5 x6 x7⟩,
        ⟨Rect.unit (s := S512x4096) ![0, 0] S64x4096.size inb_S512x4096_S64x4096_0_0, blockM (rows x0 0 inb_S512x4096_S64x4096_0_0) (rows (k0_pay2 xo x1 x2) 0 inb_S512x4096_S64x4096_0_0) x3 x4 x5 x6 x7⟩] := by
  unfold out0_C_9
  rw [View.read_writes_eq_canon _ _ _ (cover0_C_9 (F := Ideal) c i a2 h2 a3 h3 a4 h4 a5 h5 a6 h6 a7 h7 a8 h8 a9 h9 a10 h10 a11 h11 hc0 hc1 hc2 x0 x1 x2 x3 x4 x5 x6 x7 xo)]
  unfold kernelRun0_C
  dsimp only
  sl_unfold_words
  have hfill : ∀ (Z : Vec Ideal S512x4096 .f32) (r : Rect S512x4096),
      a10.view.readCov [⟨Rect.unit (s := S512x4096) ![0, 0] S512x4096.size inb_S512x4096_S512x4096_0_0, Z⟩] r.toLoadRect = View.ld Z r :=
    fun Z r => View.readCov_fill (Val := Elt Ideal) a10.view inb_S512x4096_S512x4096_0_0 Z [] r (by decide)
  simp (disch := first | rfl | decide) only [↓View.readCov_skip, hfill, View.readAt_eq_ld, h2.read_unread, h3.read_unread, h4.read_unread, h5.read_unread, h6.read_unread, h7.read_unread, h8.read_unread, h9.read_unread, h10.read_unread, View.ld_unit_zero (S := S512x1024) hz, View.ld_unit_zero (S := S1024x4096) hz, View.ld_unit_zero (S := S512x4096) hz, View.ld_unit_zero (S := S1x4096) hz, View.ld_unit_zero (S := S1x1x4096) hz3]
  rfl

theorem rows_apply (x : Vec Ideal S512x4096 .f32) (o : Nat) (h) (r : Fin 64) (k : Fin 4096) (z : S512x4096.Idx) (hz : (z 0).val = o + r.val) :
    rows x o h (ix2 r k) = x (ix2 (z 0) k) :=
  congrArg x (funext fun a => by
    match a with
    | ⟨0, _⟩ => exact Fin.ext ((ValueKit.rect_emb_unit_val (s := S512x4096) ![o, 0] S64x4096.size h (ix2 r k) 0).trans hz.symm)
    | ⟨1, _⟩ => exact Fin.ext ((ValueKit.rect_emb_unit_val (s := S512x4096) ![o, 0] S64x4096.size h (ix2 r k) 1).trans (Nat.zero_add _)))

/-- The normed residual of the block's token `r`, from the product's rows `Y`. -/
def token (x0 Y : Vec Ideal S512x4096 .f32) (x3 : Vec Ideal S1x1x4096 .f32) (x4 x5 : Vec Ideal S1x4096 .f32) (r : Fin 512) : Residual.Row :=
  Residual.normed (Residual.mix (fun k => x0 (ix2 r k)) (fun k => x3 (ix3 0 0 k)) (fun k => Y (ix2 r k))) (fun k => x4 (ix2 0 k)) (fun k => x5 (ix2 0 k))

theorem piece_apply (Y : Vec Ideal S512x4096 .f32) (o : Nat) (h) (x : S64x4096.Idx) :
    block (rows x0 o h) (rows Y o h) x3 x4 x5 x
      = (fun y : S512x4096.Idx => (show Elt Ideal .f32 from token x0 Y x3 x4 x5 (y 0) (y 1))) ((Rect.unit (s := S512x4096) ![o, 0] S64x4096.size h).emb x) := by
  have e0 := ValueKit.rect_emb_unit_val (s := S512x4096) ![o, 0] S64x4096.size h x 0
  have e1 : (Rect.unit (s := S512x4096) ![o, 0] S64x4096.size h).emb x 1 = x 1 :=
    Fin.ext ((ValueKit.rect_emb_unit_val (s := S512x4096) ![o, 0] S64x4096.size h x 1).trans (Nat.zero_add _))
  generalize (Rect.unit (s := S512x4096) ![o, 0] S64x4096.size h).emb x = z at e0 e1
  refine (congrArg _ (eq_ix2 x)).trans ((block_apply _ _ _ _ _ (x 0) (x 1)).trans ?_)
  show _ = token x0 Y x3 x4 x5 (z 0) (z 1)
  rw [e1]
  unfold token
  rw [show (fun k => rows x0 o h (ix2 (x 0) k)) = fun k => x0 (ix2 (z 0) k) from funext fun k => rows_apply x0 o h (x 0) k z e0,
    show (fun k => rows Y o h (ix2 (x 0) k)) = fun k => Y (ix2 (z 0) k) from funext fun k => rows_apply Y o h (x 0) k z e0]

theorem pieceM_apply (Y : Vec Ideal S512x4096 .f32) (o : Nat) (h) (x : S64x4096.Idx) :
    blockM (rows x0 o h) (rows Y o h) x3 x4 x5 x6 x7 x
      = (fun y : S512x4096.Idx => (show Elt Ideal .bf16 from Residual.modulated (token x0 Y x3 x4 x5 (y 0)) (fun k => x6 (ix3 0 0 k)) (fun k => x7 (ix3 0 0 k)) (y 1)))
          ((Rect.unit (s := S512x4096) ![o, 0] S64x4096.size h).emb x) := by
  have e0 := ValueKit.rect_emb_unit_val (s := S512x4096) ![o, 0] S64x4096.size h x 0
  have e1 : (Rect.unit (s := S512x4096) ![o, 0] S64x4096.size h).emb x 1 = x 1 :=
    Fin.ext ((ValueKit.rect_emb_unit_val (s := S512x4096) ![o, 0] S64x4096.size h x 1).trans (Nat.zero_add _))
  generalize (Rect.unit (s := S512x4096) ![o, 0] S64x4096.size h).emb x = z at e0 e1
  refine (congrArg _ (eq_ix2 x)).trans ((blockM_apply _ _ _ _ _ _ _ (x 0) (x 1)).trans ?_)
  show _ = Residual.modulated (token x0 Y x3 x4 x5 (z 0)) _ _ (z 1)
  rw [e1]
  unfold token
  rw [show (fun k => rows x0 o h (ix2 (x 0) k)) = fun k => x0 (ix2 (z 0) k) from funext fun k => rows_apply x0 o h (x 0) k z e0,
    show (fun k => rows Y o h (ix2 (x 0) k)) = fun k => Y (ix2 (z 0) k) from funext fun k => rows_apply Y o h (x 0) k z e0]

/-- A token of the block is in its 64 rows. -/
theorem mem_rows (y : S512x4096.Idx) (o : Nat) (h) (ho : (y 0).val / 64 * 64 = o) :
    y ∈ (Rect.unit (s := S512x4096) ![o, 0] S64x4096.size h).set := by
  have h1 : (y 1).val < 4096 := (y 1).isLt
  refine (Rect.mem_set_unit ..).2 fun a => ?_
  match a with
  | ⟨0, _⟩ => exact ⟨by show o ≤ (y 0).val; omega, by show (y 0).val < o + 64; omega⟩
  | ⟨1, _⟩ => exact ⟨Nat.zero_le _, by show (y 1).val < 0 + 4096; omega⟩

theorem last_apply (hc0 hc1 hc2) (y : S512x4096.Idx) :
    out0_C_8 (F := Ideal) c i a2 h2 a3 h3 a4 h4 a5 h5 a6 h6 a7 h7 a8 h8 a9 h9 a10 h10 a11 h11 hc0 hc1 hc2 x0 x1 x2 x3 x4 x5 x6 x7 xo y = (show Elt Ideal .f32 from token x0 (k0_pay2 xo x1 x2) x3 x4 x5 (y 0) (y 1)) := by
  rw [last_eq]
  refine View.canon_append_of_pieces (Val := Elt Ideal) (S := S512x4096) (fun y : S512x4096.Idx => (show Elt Ideal .f32 from token x0 (k0_pay2 xo x1 x2) x3 x4 x5 (y 0) (y 1)))
      [⟨Rect.unit (s := S512x4096) ![0, 0] S512x4096.size inb_S512x4096_S512x4096_0_0, k0_pay2 xo x1 x2⟩] [
        ⟨Rect.unit (s := S512x4096) ![448, 0] S64x4096.size inb_S512x4096_S64x4096_448_0, block (rows x0 448 inb_S512x4096_S64x4096_448_0) (rows (k0_pay2 xo x1 x2) 448 inb_S512x4096_S64x4096_448_0) x3 x4 x5⟩,
        ⟨Rect.unit (s := S512x4096) ![384, 0] S64x4096.size inb_S512x4096_S64x4096_384_0, block (rows x0 384 inb_S512x4096_S64x4096_384_0) (rows (k0_pay2 xo x1 x2) 384 inb_S512x4096_S64x4096_384_0) x3 x4 x5⟩,
        ⟨Rect.unit (s := S512x4096) ![320, 0] S64x4096.size inb_S512x4096_S64x4096_320_0, block (rows x0 320 inb_S512x4096_S64x4096_320_0) (rows (k0_pay2 xo x1 x2) 320 inb_S512x4096_S64x4096_320_0) x3 x4 x5⟩,
        ⟨Rect.unit (s := S512x4096) ![256, 0] S64x4096.size inb_S512x4096_S64x4096_256_0, block (rows x0 256 inb_S512x4096_S64x4096_256_0) (rows (k0_pay2 xo x1 x2) 256 inb_S512x4096_S64x4096_256_0) x3 x4 x5⟩,
        ⟨Rect.unit (s := S512x4096) ![192, 0] S64x4096.size inb_S512x4096_S64x4096_192_0, block (rows x0 192 inb_S512x4096_S64x4096_192_0) (rows (k0_pay2 xo x1 x2) 192 inb_S512x4096_S64x4096_192_0) x3 x4 x5⟩,
        ⟨Rect.unit (s := S512x4096) ![128, 0] S64x4096.size inb_S512x4096_S64x4096_128_0, block (rows x0 128 inb_S512x4096_S64x4096_128_0) (rows (k0_pay2 xo x1 x2) 128 inb_S512x4096_S64x4096_128_0) x3 x4 x5⟩,
        ⟨Rect.unit (s := S512x4096) ![64, 0] S64x4096.size inb_S512x4096_S64x4096_64_0, block (rows x0 64 inb_S512x4096_S64x4096_64_0) (rows (k0_pay2 xo x1 x2) 64 inb_S512x4096_S64x4096_64_0) x3 x4 x5⟩,
        ⟨Rect.unit (s := S512x4096) ![0, 0] S64x4096.size inb_S512x4096_S64x4096_0_0, block (rows x0 0 inb_S512x4096_S64x4096_0_0) (rows (k0_pay2 xo x1 x2) 0 inb_S512x4096_S64x4096_0_0) x3 x4 x5⟩] ?_ y ?_
  · intro p hp x
    simp only [List.mem_cons, List.mem_nil_iff, or_false] at hp
    rcases hp with rfl | rfl | rfl | rfl | rfl | rfl | rfl | rfl
    · exact piece_apply x0 x3 x4 x5 (k0_pay2 xo x1 x2) 448 inb_S512x4096_S64x4096_448_0 x
    · exact piece_apply x0 x3 x4 x5 (k0_pay2 xo x1 x2) 384 inb_S512x4096_S64x4096_384_0 x
    · exact piece_apply x0 x3 x4 x5 (k0_pay2 xo x1 x2) 320 inb_S512x4096_S64x4096_320_0 x
    · exact piece_apply x0 x3 x4 x5 (k0_pay2 xo x1 x2) 256 inb_S512x4096_S64x4096_256_0 x
    · exact piece_apply x0 x3 x4 x5 (k0_pay2 xo x1 x2) 192 inb_S512x4096_S64x4096_192_0 x
    · exact piece_apply x0 x3 x4 x5 (k0_pay2 xo x1 x2) 128 inb_S512x4096_S64x4096_128_0 x
    · exact piece_apply x0 x3 x4 x5 (k0_pay2 xo x1 x2) 64 inb_S512x4096_S64x4096_64_0 x
    · exact piece_apply x0 x3 x4 x5 (k0_pay2 xo x1 x2) 0 inb_S512x4096_S64x4096_0_0 x
  · have h0 : (y 0).val < 512 := (y 0).isLt
    have hq : (y 0).val / 64 * 64 = 448 ∨ (y 0).val / 64 * 64 = 384 ∨ (y 0).val / 64 * 64 = 320 ∨ (y 0).val / 64 * 64 = 256 ∨ (y 0).val / 64 * 64 = 192 ∨ (y 0).val / 64 * 64 = 128 ∨ (y 0).val / 64 * 64 = 64 ∨ (y 0).val / 64 * 64 = 0 := by omega
    simp only [List.mem_cons, List.mem_nil_iff, or_false, exists_eq_or_imp, exists_eq_left]
    rcases hq with h | h | h | h | h | h | h | h
    · exact Or.inl (mem_rows y 448 inb_S512x4096_S64x4096_448_0 h)
    · exact Or.inr (Or.inl (mem_rows y 384 inb_S512x4096_S64x4096_384_0 h))
    · exact Or.inr (Or.inr (Or.inl (mem_rows y 320 inb_S512x4096_S64x4096_320_0 h)))
    · exact Or.inr (Or.inr (Or.inr (Or.inl (mem_rows y 256 inb_S512x4096_S64x4096_256_0 h))))
    · exact Or.inr (Or.inr (Or.inr (Or.inr (Or.inl (mem_rows y 192 inb_S512x4096_S64x4096_192_0 h)))))
    · exact Or.inr (Or.inr (Or.inr (Or.inr (Or.inr (Or.inl (mem_rows y 128 inb_S512x4096_S64x4096_128_0 h))))))
    · exact Or.inr (Or.inr (Or.inr (Or.inr (Or.inr (Or.inr (Or.inl (mem_rows y 64 inb_S512x4096_S64x4096_64_0 h)))))))
    · exact Or.inr (Or.inr (Or.inr (Or.inr (Or.inr (Or.inr (Or.inr (mem_rows y 0 inb_S512x4096_S64x4096_0_0 h)))))))

theorem lastM_apply (hc0 hc1 hc2) (y : S512x4096.Idx) :
    out0_C_9 (F := Ideal) c i a2 h2 a3 h3 a4 h4 a5 h5 a6 h6 a7 h7 a8 h8 a9 h9 a10 h10 a11 h11 hc0 hc1 hc2 x0 x1 x2 x3 x4 x5 x6 x7 xo y
      = (show Elt Ideal .bf16 from Residual.modulated (token x0 (k0_pay2 xo x1 x2) x3 x4 x5 (y 0)) (fun k => x6 (ix3 0 0 k)) (fun k => x7 (ix3 0 0 k)) (y 1)) := by
  rw [lastM_eq]
  refine View.canon_apply_of_pieces (Val := Elt Ideal) (S := S512x4096) (fun y : S512x4096.Idx => (show Elt Ideal .bf16 from Residual.modulated (token x0 (k0_pay2 xo x1 x2) x3 x4 x5 (y 0)) (fun k => x6 (ix3 0 0 k)) (fun k => x7 (ix3 0 0 k)) (y 1))) _ ?_ y ?_
  · intro p hp x
    simp only [List.mem_cons, List.mem_nil_iff, or_false] at hp
    rcases hp with rfl | rfl | rfl | rfl | rfl | rfl | rfl | rfl
    · exact pieceM_apply x0 x3 x4 x5 x6 x7 (k0_pay2 xo x1 x2) 448 inb_S512x4096_S64x4096_448_0 x
    · exact pieceM_apply x0 x3 x4 x5 x6 x7 (k0_pay2 xo x1 x2) 384 inb_S512x4096_S64x4096_384_0 x
    · exact pieceM_apply x0 x3 x4 x5 x6 x7 (k0_pay2 xo x1 x2) 320 inb_S512x4096_S64x4096_320_0 x
    · exact pieceM_apply x0 x3 x4 x5 x6 x7 (k0_pay2 xo x1 x2) 256 inb_S512x4096_S64x4096_256_0 x
    · exact pieceM_apply x0 x3 x4 x5 x6 x7 (k0_pay2 xo x1 x2) 192 inb_S512x4096_S64x4096_192_0 x
    · exact pieceM_apply x0 x3 x4 x5 x6 x7 (k0_pay2 xo x1 x2) 128 inb_S512x4096_S64x4096_128_0 x
    · exact pieceM_apply x0 x3 x4 x5 x6 x7 (k0_pay2 xo x1 x2) 64 inb_S512x4096_S64x4096_64_0 x
    · exact pieceM_apply x0 x3 x4 x5 x6 x7 (k0_pay2 xo x1 x2) 0 inb_S512x4096_S64x4096_0_0 x
  · have h0 : (y 0).val < 512 := (y 0).isLt
    have hq : (y 0).val / 64 * 64 = 448 ∨ (y 0).val / 64 * 64 = 384 ∨ (y 0).val / 64 * 64 = 320 ∨ (y 0).val / 64 * 64 = 256 ∨ (y 0).val / 64 * 64 = 192 ∨ (y 0).val / 64 * 64 = 128 ∨ (y 0).val / 64 * 64 = 64 ∨ (y 0).val / 64 * 64 = 0 := by omega
    simp only [List.mem_cons, List.mem_nil_iff, or_false, exists_eq_or_imp, exists_eq_left]
    rcases hq with h | h | h | h | h | h | h | h
    · exact Or.inl (mem_rows y 448 inb_S512x4096_S64x4096_448_0 h)
    · exact Or.inr (Or.inl (mem_rows y 384 inb_S512x4096_S64x4096_384_0 h))
    · exact Or.inr (Or.inr (Or.inl (mem_rows y 320 inb_S512x4096_S64x4096_320_0 h)))
    · exact Or.inr (Or.inr (Or.inr (Or.inl (mem_rows y 256 inb_S512x4096_S64x4096_256_0 h))))
    · exact Or.inr (Or.inr (Or.inr (Or.inr (Or.inl (mem_rows y 192 inb_S512x4096_S64x4096_192_0 h)))))
    · exact Or.inr (Or.inr (Or.inr (Or.inr (Or.inr (Or.inl (mem_rows y 128 inb_S512x4096_S64x4096_128_0 h))))))
    · exact Or.inr (Or.inr (Or.inr (Or.inr (Or.inr (Or.inr (Or.inl (mem_rows y 64 inb_S512x4096_S64x4096_64_0 h)))))))
    · exact Or.inr (Or.inr (Or.inr (Or.inr (Or.inr (Or.inr (Or.inr (mem_rows y 0 inb_S512x4096_S64x4096_0_0 h)))))))

/-- The product of a block of tokens with a block of the weight, at an index. -/
def part (u : Vec Ideal S512x1024 .bf16) (v : Vec Ideal S1024x4096 .bf16) (r : Fin 512) (d : Fin 4096) : EReal :=
  ∑ k : Fin 1024, u (ix2 r k) * v (ix2 k d)

theorem product_apply (u : Vec Ideal S512x1024 .bf16) (v : Vec Ideal S1024x4096 .bf16) (r : Fin 512) (d : Fin 4096) :
    k0_pay1 (F := Ideal) u v (ix2 r d) = part u v r d := by
  unfold part
  unfold k0_pay1
  simp only [shapeCast_self]
  refine (Ideal.matmul_plain_apply (M := 512) (K := 1024) (N := 4096) none u v (constant S512x4096 .f32 0x00000000#32) r d).trans ?_
  rw [constant_apply, Ideal.ofBits_zero_f32, zero_add]

theorem added_apply (y : Vec Ideal S512x4096 .f32) (u : Vec Ideal S512x1024 .bf16) (v : Vec Ideal S1024x4096 .bf16) (r : Fin 512) (d : Fin 4096) :
    k0_pay2 (F := Ideal) y u v (ix2 r d) = (y (ix2 r d) + part u v r d : EReal) := by
  rw [← product_apply]
  unfold k0_pay2 k0_pay1
  simp only [shapeCast_self]
  rfl

end Cert.DownIdeal.Tiles

end
-- ==== Proof.DownKernel.lean ====
/- The down projection with its residual layer norm: the kernel's two result arrays, read at an index. -/
module

public import proofs.«01_k».proof.Proof.DownBody
public import Idealize.ShloMosaic.Lib.StableHlo.Run
public import Idealize.ShloMosaic.Lib.KernelVsHost
public import Idealize.ShloMosaic.Lib.IdealHost
public import Idealize.ShloMosaic.Lib.Pipeline.ValueKit.Geometry
public import Idealize.ShloMosaic.Lib.Pointwise.ElementwiseCore

@[expose] public section

set_option maxRecDepth 16384

noncomputable section

namespace Cert.DownIdeal.Tiles

open Cert.DownIdeal Cert.DownIdeal.Gen Cert.DownIdeal.Norm Idealize.ShloMosaic Idealize.ShloMosaic.TcCoe Idealize.SL.Sem Idealize.ShloMosaic.ValueIdx

variable (m : (ℓ : Loc nD τ sig) → Buf (Elt Ideal) ℓ) (c : Dev nD)

abbrev act : S4x2048x11008.Idx → EReal := m ((c : Thread nD τ).loc main_arg0)
abbrev weight : S11008x4096.Idx → EReal := m ((c : Thread nD τ).loc main_arg1)
abbrev stream : S4x2048x4096.Idx → EReal := m ((c : Thread nD τ).loc main_arg2)
abbrev gating : S4x1x4096.Idx → EReal := m ((c : Thread nD τ).loc main_arg3)
abbrev lnScale : S4096.Idx → EReal := m ((c : Thread nD τ).loc main_arg4)
abbrev lnShift : S4096.Idx → EReal := m ((c : Thread nD τ).loc main_arg5)
abbrev modScale : S4x1x4096.Idx → EReal := m ((c : Thread nD τ).loc main_arg6)
abbrev modShift : S4x1x4096.Idx → EReal := m ((c : Thread nD τ).loc main_arg7)

theorem tokens_apply {α : Type} (x : S4x2048x4096.Idx → α) (h) (n : Fin 8192) (k : Fin 4096) :
    shapeCast S8192x4096 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 4096 + k.val = n.val * 4096 + k.val; omega)

theorem vector_apply {α : Type} (x : S4096.Idx → α) (h) (z : Fin 1) (k : Fin 4096) : shapeCast S1x4096 x h (ix2 z k) = x (ix1 k) :=
  shapeCast_apply x h (ix2 z k) (ix1 k)
    (by rewrite [Shape.rowMajor_val_two, Shape.rowMajor_val_one]; show k.val = z.val * 4096 + k.val; omega)

theorem wide_apply {α : Type} (x : S4x2048x11264.Idx → α) (h) (n : Fin 8192) (k : Fin 11264) :
    shapeCast S8192x11264 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 11264 + k.val = n.val * 11264 + k.val; omega)

theorem pad_act (x : S4x2048x11008.Idx → EReal) (v : S_.Idx → EReal) (hv : ∀ i, v i = 0) (h) (hu) (p : Fin 4) (q : Fin 2048) (j : Fin 11264) :
    pad S4x2048x11264 ![0, 0, 0] ![0, 0, 256] ![0, 0, 0] x v h hu (ix3 p q j) = if hj : j.val < 11008 then x (ix3 p q ⟨j.val, hj⟩) else 0 := by
  by_cases hj : j.val < 11008
  · rw [dif_pos hj]
    exact pad_apply_of_inside _ _ _ _ _ _ _ _ _ fun a => by
      match a with
      | ⟨0, _⟩ => show p.val = 0 + p.val * (0 + 1); omega
      | ⟨1, _⟩ => show q.val = 0 + q.val * (0 + 1); omega
      | ⟨2, _⟩ => show j.val = 0 + j.val * (0 + 1); omega
  · rw [dif_neg hj]
    refine (pad_apply_of_not_inside _ _ _ _ _ _ _ _ (2 : Fin 3) ?_).trans (hv _)
    show ¬(0 ≤ j.val ∧ (j.val - 0) % (0 + 1) = 0 ∧ (j.val - 0) / (0 + 1) < 11008)
    omega

theorem pad_weight (x : S11008x4096.Idx → EReal) (v : S_.Idx → EReal) (hv : ∀ i, v i = 0) (h) (hu) (j : Fin 11264) (d : Fin 4096) :
    pad S11264x4096 ![0, 0] ![256, 0] ![0, 0] x v h hu (ix2 j d) = if hj : j.val < 11008 then x (ix2 ⟨j.val, hj⟩ d) else 0 := by
  by_cases hj : j.val < 11008
  · rw [dif_pos hj]
    exact pad_apply_of_inside _ _ _ _ _ _ _ _ _ fun a => by
      match a with
      | ⟨0, _⟩ => show j.val = 0 + j.val * (0 + 1); omega
      | ⟨1, _⟩ => show d.val = 0 + d.val * (0 + 1); omega
  · rw [dif_neg hj]
    refine (pad_apply_of_not_inside _ _ _ _ _ _ _ _ (0 : Fin 2) ?_).trans (hv _)
    show ¬(0 ≤ j.val ∧ (j.val - 0) % (0 + 1) = 0 ∧ (j.val - 0) / (0 + 1) < 11008)
    omega

theorem zero_word (i : S_.Idx) : (sitofp .f32 (constantI S_ 32 0#32) : FVec Ideal S_ .f32) i = (0 : EReal) := by
  show (((0#32).toInt : ℝ) : EReal) = 0
  simp

theorem v2_apply (n : Fin 8192) (j : Fin 11264) :
    V m c main_v2 (ix2 n j) = if hj : j.val < 11008 then act m c (ix3 ⟨n.val / 2048, by omega⟩ ⟨n.val % 2048, by omega⟩ ⟨j.val, hj⟩) else 0 := by
  show StableHlo.after (List.flatten [hostOps0, hostOps0_1, hostOps0_2, hostOps0_3, hostOps0_4]) (fun b => m (c, b)) (Proc.devRef .tc main_v2) _ = _
  simp only [hostOps0, hostOps0_1, hostOps0_2, hostOps0_3, hostOps0_4, List.flatten_cons, List.flatten_nil, List.append_nil, List.cons_append, List.nil_append]
  after_results
  have e := pad_act (act m c) (sitofp .f32 (constantI S_ 32 0#32) : FVec Ideal S_ .f32) zero_word pads_S4x2048x11008_S4x2048x11264_000_000_02560 h_S_
    ⟨n.val / 2048, by omega⟩ ⟨n.val % 2048, by omega⟩ j
  exact (wide_apply _ shapeCasts_S4x2048x11264_S8192x11264 n j).trans e

theorem v4_apply (j : Fin 11264) (d : Fin 4096) : V m c main_v4 (ix2 j d) = if hj : j.val < 11008 then weight m c (ix2 ⟨j.val, hj⟩ d) else 0 := by
  show StableHlo.after (List.flatten [hostOps0, hostOps0_1, hostOps0_2, hostOps0_3, hostOps0_4]) (fun b => m (c, b)) (Proc.devRef .tc main_v4) _ = _
  simp only [hostOps0, hostOps0_1, hostOps0_2, hostOps0_3, hostOps0_4, List.flatten_cons, List.flatten_nil, List.append_nil, List.cons_append, List.nil_append]
  after_results
  exact pad_weight _ _ zero_word pads_S11008x4096_S11264x4096_02560_000 h_S_ j d

theorem v5_apply (n : Fin 8192) (k : Fin 4096) : V m c main_v5 (ix2 n k) = stream m c (ix3 ⟨n.val / 2048, by omega⟩ ⟨n.val % 2048, by omega⟩ k) := by
  show StableHlo.after (List.flatten [hostOps0, hostOps0_1, hostOps0_2, hostOps0_3, hostOps0_4]) (fun b => m (c, b)) (Proc.devRef .tc main_v5) _ = _
  simp only [hostOps0, hostOps0_1, hostOps0_2, hostOps0_3, hostOps0_4, List.flatten_cons, List.flatten_nil, List.append_nil, List.cons_append, List.nil_append]
  after_results
  exact tokens_apply _ _ n k

theorem v6_apply (z : Fin 1) (k : Fin 4096) : V m c main_v6 (ix2 z k) = lnScale m c (ix1 k) := by
  show StableHlo.after (List.flatten [hostOps0, hostOps0_1, hostOps0_2, hostOps0_3, hostOps0_4]) (fun b => m (c, b)) (Proc.devRef .tc main_v6) _ = _
  simp only [hostOps0, hostOps0_1, hostOps0_2, hostOps0_3, hostOps0_4, List.flatten_cons, List.flatten_nil, List.append_nil, List.cons_append, List.nil_append]
  after_results
  exact vector_apply _ _ z k

theorem v7_apply (z : Fin 1) (k : Fin 4096) : V m c main_v7 (ix2 z k) = lnShift m c (ix1 k) := by
  show StableHlo.after (List.flatten [hostOps0, hostOps0_1, hostOps0_2, hostOps0_3, hostOps0_4]) (fun b => m (c, b)) (Proc.devRef .tc main_v7) _ = _
  simp only [hostOps0, hostOps0_1, hostOps0_2, hostOps0_3, hostOps0_4, List.flatten_cons, List.flatten_nil, List.append_nil, List.cons_append, List.nil_append]
  after_results
  exact vector_apply _ _ z k

theorem arg3_eq : V m c main_arg3 = gating m c := by
  show StableHlo.after (List.flatten [hostOps0, hostOps0_1, hostOps0_2, hostOps0_3, hostOps0_4]) (fun b => m (c, b)) (Proc.devRef .tc main_arg3) = _
  simp only [hostOps0, hostOps0_1, hostOps0_2, hostOps0_3, hostOps0_4, List.flatten_cons, List.flatten_nil, List.append_nil, List.cons_append, List.nil_append]
  after_results

theorem arg6_eq : V m c main_arg6 = modScale m c := by
  show StableHlo.after (List.flatten [hostOps0, hostOps0_1, hostOps0_2, hostOps0_3, hostOps0_4]) (fun b => m (c, b)) (Proc.devRef .tc main_arg6) = _
  simp only [hostOps0, hostOps0_1, hostOps0_2, hostOps0_3, hostOps0_4, List.flatten_cons, List.flatten_nil, List.append_nil, List.cons_append, List.nil_append]
  after_results

theorem arg7_eq : V m c main_arg7 = modShift m c := by
  show StableHlo.after (List.flatten [hostOps0, hostOps0_1, hostOps0_2, hostOps0_3, hostOps0_4]) (fun b => m (c, b)) (Proc.devRef .tc main_arg7) = _
  simp only [hostOps0, hostOps0_1, hostOps0_2, hostOps0_3, hostOps0_4, List.flatten_cons, List.flatten_nil, List.append_nil, List.cons_append, List.nil_append]
  after_results

/-- The windows' blocks at a grid point: decided over the 176 points. -/
theorem index_facts : ∀ t : Fin grid0.N,
    (win0_0.index t 0 = t.val / 11 ∧ win0_0.index t 1 = 0)
    ∧ (win0_1.index t 0 = t.val / 11 ∧ win0_1.index t 1 = t.val % 11)
    ∧ (win0_2.index t 0 = t.val % 11 ∧ win0_2.index t 1 = 0)
    ∧ (win0_3.index t 0 = t.val / 11 / 4 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = t.val / 11 / 4 ∧ win0_6.index t 1 = 0 ∧ win0_6.index t 2 = 0)
    ∧ (win0_7.index t 0 = t.val / 11 / 4 ∧ win0_7.index t 1 = 0 ∧ win0_7.index t 2 = 0) := by
  decide +kernel

theorem index_results : ∀ t : Fin grid0.N,
    (win0_8.index t 0 = t.val / 11 ∧ win0_8.index t 1 = 0) ∧ (win0_9.index t 0 = t.val / 11 ∧ win0_9.index t 1 = 0) := by
  decide +kernel

theorem stream_block (t : Fin grid0.N) (n : Fin 8192) (r : Fin 512) (hn : n.val = t.val / 11 * 512 + r.val) (k : Fin 4096) :
    iblk m c 0 t (ix2 r k) = stream m c (ix3 ⟨n.val / 2048, by omega⟩ ⟨n.val % 2048, by omega⟩ k) := by
  have e : iblk m c 0 t (ix2 r k) = V m c main_v5 ((win0_0.rect t).emb (ix2 r k)) := rfl
  obtain ⟨⟨h0, h1⟩, _⟩ := index_facts t
  have hk : (win0_0.rect t).emb (ix2 r k) = ix2 n k := by
    funext a
    match a with
    | ⟨0, _⟩ => exact Fin.ext ((Pipeline.Window.rect_emb_val win0_0 t _ 0).trans (by show win0_0.index t 0 * 512 + r.val = n.val; omega))
    | ⟨1, _⟩ => exact Fin.ext (Pipeline.Window.rect_emb_val_of_index_zero win0_0 t 1 h1 _)
  rw [e, hk]
  exact v5_apply m c n k

theorem act_block (t : Fin grid0.N) (n : Fin 8192) (r : Fin 512) (hn : n.val = t.val / 11 * 512 + r.val) (k : Fin 1024) :
    iblk m c 1 t (ix2 r k) = V m c main_v2 (ix2 n ⟨t.val % 11 * 1024 + k.val, by omega⟩) := by
  have e : iblk m c 1 t (ix2 r k) = V m c main_v2 ((win0_1.rect t).emb (ix2 r k)) := rfl
  obtain ⟨_, ⟨h0, h1⟩, _⟩ := index_facts t
  have hk : (win0_1.rect t).emb (ix2 r k) = ix2 n ⟨t.val % 11 * 1024 + k.val, by omega⟩ := by
    funext a
    match a with
    | ⟨0, _⟩ => exact Fin.ext ((Pipeline.Window.rect_emb_val win0_1 t _ 0).trans (by show win0_1.index t 0 * 512 + r.val = n.val; omega))
    | ⟨1, _⟩ => exact Fin.ext ((Pipeline.Window.rect_emb_val win0_1 t _ 1).trans (by show win0_1.index t 1 * 1024 + k.val = t.val % 11 * 1024 + k.val; omega))
  rw [e, hk]

theorem weight_block (t : Fin grid0.N) (k : Fin 1024) (d : Fin 4096) :
    iblk m c 2 t (ix2 k d) = V m c main_v4 (ix2 ⟨t.val % 11 * 1024 + k.val, by omega⟩ d) := by
  have e : iblk m c 2 t (ix2 k d) = V m c main_v4 ((win0_2.rect t).emb (ix2 k d)) := rfl
  obtain ⟨_, _, ⟨h0, h1⟩, _⟩ := index_facts t
  have hk : (win0_2.rect t).emb (ix2 k d) = ix2 ⟨t.val % 11 * 1024 + k.val, by omega⟩ d := by
    funext a
    match a with
    | ⟨0, _⟩ => exact Fin.ext ((Pipeline.Window.rect_emb_val win0_2 t _ 0).trans (by show win0_2.index t 0 * 1024 + k.val = t.val % 11 * 1024 + k.val; omega))
    | ⟨1, _⟩ => exact Fin.ext (Pipeline.Window.rect_emb_val_of_index_zero win0_2 t 1 h1 _)
  rw [e, hk]

theorem gate_block (t : Fin grid0.N) (n : Fin 8192) (r : Fin 512) (hn : n.val = t.val / 11 * 512 + r.val) (k : Fin 4096) :
    iblk m c 3 t (ix3 0 0 k) = gating m c (ix3 ⟨n.val / 2048, by omega⟩ 0 k) := by
  have e : iblk m c 3 t (ix3 0 0 k) = V m c main_arg3 ((win0_3.rect t).emb (ix3 0 0 k)) := rfl
  obtain ⟨_, _, _, ⟨h0, h1, h2⟩, _⟩ := index_facts t
  have hk : (win0_3.rect t).emb (ix3 0 0 k) = ix3 ⟨n.val / 2048, by omega⟩ 0 k := by
    funext a
    match a with
    | ⟨0, _⟩ => exact Fin.ext ((Pipeline.Window.rect_emb_val win0_3 t _ 0).trans (by show win0_3.index t 0 * 1 + 0 = n.val / 2048; omega))
    | ⟨1, _⟩ => exact Fin.ext (Pipeline.Window.rect_emb_val_of_index_zero win0_3 t 1 h1 _)
    | ⟨2, _⟩ => exact Fin.ext (Pipeline.Window.rect_emb_val_of_index_zero win0_3 t 2 h2 _)
  rw [e, hk, arg3_eq]

theorem scale_block (t : Fin grid0.N) (n : Fin 8192) (r : Fin 512) (hn : n.val = t.val / 11 * 512 + r.val) (k : Fin 4096) :
    iblk m c 6 t (ix3 0 0 k) = modScale m c (ix3 ⟨n.val / 2048, by omega⟩ 0 k) := by
  have e : iblk m c 6 t (ix3 0 0 k) = V m c main_arg6 ((win0_6.rect t).emb (ix3 0 0 k)) := rfl
  obtain ⟨_, _, _, _, _, _, ⟨h0, h1, h2⟩, _⟩ := index_facts t
  have hk : (win0_6.rect t).emb (ix3 0 0 k) = ix3 ⟨n.val / 2048, by omega⟩ 0 k := by
    funext a
    match a with
    | ⟨0, _⟩ => exact Fin.ext ((Pipeline.Window.rect_emb_val win0_6 t _ 0).trans (by show win0_6.index t 0 * 1 + 0 = n.val / 2048; omega))
    | ⟨1, _⟩ => exact Fin.ext (Pipeline.Window.rect_emb_val_of_index_zero win0_6 t 1 h1 _)
    | ⟨2, _⟩ => exact Fin.ext (Pipeline.Window.rect_emb_val_of_index_zero win0_6 t 2 h2 _)
  rw [e, hk, arg6_eq]

theorem shift_block (t : Fin grid0.N) (n : Fin 8192) (r : Fin 512) (hn : n.val = t.val / 11 * 512 + r.val) (k : Fin 4096) :
    iblk m c 7 t (ix3 0 0 k) = modShift m c (ix3 ⟨n.val / 2048, by omega⟩ 0 k) := by
  have e : iblk m c 7 t (ix3 0 0 k) = V m c main_arg7 ((win0_7.rect t).emb (ix3 0 0 k)) := rfl
  obtain ⟨_, _, _, _, _, _, _, ⟨h0, h1, h2⟩⟩ := index_facts t
  have hk : (win0_7.rect t).emb (ix3 0 0 k) = ix3 ⟨n.val / 2048, by omega⟩ 0 k := by
    funext a
    match a with
    | ⟨0, _⟩ => exact Fin.ext ((Pipeline.Window.rect_emb_val win0_7 t _ 0).trans (by show win0_7.index t 0 * 1 + 0 = n.val / 2048; omega))
    | ⟨1, _⟩ => exact Fin.ext (Pipeline.Window.rect_emb_val_of_index_zero win0_7 t 1 h1 _)
    | ⟨2, _⟩ => exact Fin.ext (Pipeline.Window.rect_emb_val_of_index_zero win0_7 t 2 h2 _)
  rw [e, hk, arg7_eq]

theorem lnScale_block (t : Fin grid0.N) (k : Fin 4096) : iblk m c 4 t (ix2 0 k) = lnScale m c (ix1 k) := by
  have e : iblk m c 4 t (ix2 0 k) = V m c main_v6 ((win0_4.rect t).emb (ix2 0 k)) := rfl
  obtain ⟨_, _, _, _, ⟨h0, h1⟩, _⟩ := index_facts t
  have hk : (win0_4.rect t).emb (ix2 0 k) = ix2 0 k := by
    funext a
    match a with
    | ⟨0, _⟩ => exact Fin.ext (Pipeline.Window.rect_emb_val_of_index_zero win0_4 t 0 h0 _)
    | ⟨1, _⟩ => exact Fin.ext (Pipeline.Window.rect_emb_val_of_index_zero win0_4 t 1 h1 _)
  rw [e, hk]
  exact v6_apply m c 0 k

theorem lnShift_block (t : Fin grid0.N) (k : Fin 4096) : iblk m c 5 t (ix2 0 k) = lnShift m c (ix1 k) := by
  have e : iblk m c 5 t (ix2 0 k) = V m c main_v7 ((win0_5.rect t).emb (ix2 0 k)) := rfl
  obtain ⟨_, _, _, _, _, ⟨h0, h1⟩, _⟩ := index_facts t
  have hk : (win0_5.rect t).emb (ix2 0 k) = ix2 0 k := by
    funext a
    match a with
    | ⟨0, _⟩ => exact Fin.ext (Pipeline.Window.rect_emb_val_of_index_zero win0_5 t 0 h0 _)
    | ⟨1, _⟩ => exact Fin.ext (Pipeline.Window.rect_emb_val_of_index_zero win0_5 t 1 h1 _)
  rw [e, hk]
  exact v7_apply m c 0 k

end Cert.DownIdeal.Tiles

end
-- ==== Proof.DownSum.lean ====
/- The down projection: the product over the grid's points, and the two result arrays. -/
module

public import proofs.«01_k».proof.Proof.DownKernel

@[expose] public section

set_option maxRecDepth 16384

noncomputable section

namespace Cert.DownIdeal.Tiles

open Cert.DownIdeal Cert.DownIdeal.Gen Cert.DownIdeal.Norm Idealize.ShloMosaic Idealize.ShloMosaic.TcCoe Idealize.SL.Sem Idealize.ShloMosaic.ValueIdx

variable (m : (ℓ : Loc nD τ sig) → Buf (Elt Ideal) ℓ) (c : Dev nD)

/-- One point's product is the next 1024 terms. -/
theorem point_sum (t : Fin grid0.N) (n : Fin 8192) (r : Fin 512) (hn : n.val = t.val / 11 * 512 + r.val) (d : Fin 4096) :
    part (iblk m c 1 t) (iblk m c 2 t) r d
      = ∑ j ∈ Finset.range 1024, Residual.term (act m c) (weight m c) n d (1024 * (t.val % 11) + j) := by
  unfold part
  rw [Finset.sum_range]
  refine Finset.sum_congr rfl fun k _ => ?_
  refine (congrArg₂ (fun a b : EReal => a * b) ((act_block m c t n r hn k).trans (v2_apply m c n _)) ((weight_block m c t k d).trans (v4_apply m c _ d))).trans ?_
  have ek : t.val % 11 * 1024 + k.val = 1024 * (t.val % 11) + k.val := by omega
  unfold Residual.term
  simp only [ek]
  split_ifs
  · rfl
  · exact zero_mul _

theorem first_point (t : Fin grid0.N) (h0 : t.val % 11 = 0) (r : Fin 512) (d : Fin 4096) :
    ((outsAt0 m c t.val t.isLt).1 (ix2 r d) : EReal) = part (iblk m c 1 t) (iblk m c 2 t) r d := by
  rw [outsAt0_A m c t h0 (by omega) (by omega)]
  dsimp only
  rw [first_eq]
  exact product_apply _ _ r d

theorem next_point (t : Fin grid0.N) (h1 : 1 ≤ t.val % 11) (h2 : ¬t.val % 11 = 10) (r : Fin 512) (d : Fin 4096) :
    ((outsAt0 m c t.val t.isLt).1 (ix2 r d) : EReal)
      = (outsAt0 m c (t.val - 1) (Nat.lt_of_le_of_lt (Nat.sub_le _ _) t.isLt)).1 (ix2 r d) + part (iblk m c 1 t) (iblk m c 2 t) r d := by
  rw [outsAt0_B m c t (by omega) h1 h2]
  dsimp only
  rw [next_eq]
  exact added_apply _ _ _ r d

/-- After the first points of a block of tokens, the partial product. -/
theorem partial_sum (n : Fin 8192) (r : Fin 512) (d : Fin 4096) : ∀ (q : Nat) (_ : q ≤ 9) (t : Fin grid0.N) (_ : t.val % 11 = q) (_ : n.val = t.val / 11 * 512 + r.val),
    ((outsAt0 m c t.val t.isLt).1 (ix2 r d) : EReal) = ∑ j ∈ Finset.range (1024 * (q + 1)), Residual.term (act m c) (weight m c) n d j
  | 0, _, t, ht, hn => by
    rw [first_point m c t ht r d, point_sum m c t n r hn d, ht]
    refine Finset.sum_congr rfl fun j _ => congrArg _ (by omega)
  | q + 1, hq, t, ht, hn => by
    have ih := partial_sum n r d q (by omega) ⟨t.val - 1, Nat.lt_of_le_of_lt (Nat.sub_le _ _) t.isLt⟩ (by show (t.val - 1) % 11 = q; omega)
      (by show n.val = (t.val - 1) / 11 * 512 + r.val; omega)
    rw [next_point m c t (by omega) (by omega) r d, point_sum m c t n r hn d, ht, show 1024 * (q + 1 + 1) = 1024 * (q + 1) + 1024 by omega,
      Finset.sum_range_add]
    exact congrArg (fun a : EReal => a + _) ih

/-- At the last point of a block of tokens, the whole product. -/
theorem whole_sum (t : Fin grid0.N) (ht : t.val % 11 = 10) (h : t.val - 1 < cfg0.N) (n : Fin 8192) (r : Fin 512) (hn : n.val = t.val / 11 * 512 + r.val) (d : Fin 4096) :
    k0_pay2 (outsAt0 m c (t.val - 1) h).1 (iblk m c 1 t) (iblk m c 2 t) (ix2 r d) = Residual.product (act m c) (weight m c) n d := by
  refine (added_apply _ _ _ r d).trans ?_
  rw [← Residual.sum_term (M := 1024 * (9 + 1) + 1024) (by omega), Finset.sum_range_add]
  refine congrArg₂ (fun a b : EReal => a + b) ?_ ?_
  · exact partial_sum m c n r d 9 (by omega) ⟨t.val - 1, h⟩ (by show (t.val - 1) % 11 = 9; omega) (by show n.val = (t.val - 1) / 11 * 512 + r.val; omega)
  · refine (point_sum m c t n r hn d).trans ?_
    rw [ht]

/-- A token of the block at the last point. -/
theorem token_eq (t : Fin grid0.N) (ht : t.val % 11 = 10) (h : t.val - 1 < cfg0.N) (n : Fin 8192) (r : Fin 512) (hn : n.val = t.val / 11 * 512 + r.val) :
    token (iblk m c 0 t) (k0_pay2 (outsAt0 m c (t.val - 1) h).1 (iblk m c 1 t) (iblk m c 2 t)) (iblk m c 3 t) (iblk m c 4 t) (iblk m c 5 t) r
      = Residual.first (act m c) (weight m c) (stream m c) (gating m c) (lnScale m c) (lnShift m c) n := by
  unfold token Residual.first
  have e0 : (fun k => (iblk m c 0 t (ix2 r k) : EReal)) = _ := funext fun k => stream_block m c t n r hn k
  have e1 : (fun k => (k0_pay2 (outsAt0 m c (t.val - 1) h).1 (iblk m c 1 t) (iblk m c 2 t) (ix2 r k) : EReal)) = _ := funext fun k => whole_sum m c t ht h n r hn k
  have e3 : (fun k => (iblk m c 3 t (ix3 0 0 k) : EReal)) = _ := funext fun k => gate_block m c t n r hn k
  have e4 : (fun k => (iblk m c 4 t (ix2 0 k) : EReal)) = _ := funext fun k => lnScale_block m c t k
  have e5 : (fun k => (iblk m c 5 t (ix2 0 k) : EReal)) = _ := funext fun k => lnShift_block m c t k
  exact congr (congr (congrArg Residual.normed (congr (congr (congrArg Residual.mix e0) e3) e1)) e4) e5

theorem modulated_eq (t : Fin grid0.N) (ht : t.val % 11 = 10) (h : t.val - 1 < cfg0.N) (n : Fin 8192) (r : Fin 512) (hn : n.val = t.val / 11 * 512 + r.val) :
    Residual.modulated (token (iblk m c 0 t) (k0_pay2 (outsAt0 m c (t.val - 1) h).1 (iblk m c 1 t) (iblk m c 2 t)) (iblk m c 3 t) (iblk m c 4 t) (iblk m c 5 t) r)
        (fun k => iblk m c 6 t (ix3 0 0 k)) (fun k => iblk m c 7 t (ix3 0 0 k))
      = Residual.second (act m c) (weight m c) (stream m c) (gating m c) (lnScale m c) (lnShift m c) (modScale m c) (modShift m c) n := by
  unfold Residual.second
  have e6 : (fun k => (iblk m c 6 t (ix3 0 0 k) : EReal)) = _ := funext fun k => scale_block m c t n r hn k
  have e7 : (fun k => (iblk m c 7 t (ix3 0 0 k) : EReal)) = _ := funext fun k => shift_block m c t n r hn k
  exact congr (congr (congrArg Residual.modulated (token_eq m c t ht h n r hn)) e6) e7

theorem last_point (t : Fin grid0.N) (ht : t.val % 11 = 10) (n : Fin 8192) (r : Fin 512) (hn : n.val = t.val / 11 * 512 + r.val) (d e : Fin 4096) (he : e = d) :
    ((outsAt0 m c t.val t.isLt).1 (ix2 r d) : EReal)
      = Residual.first (act m c) (weight m c) (stream m c) (gating m c) (lnScale m c) (lnShift m c) n e := by
  rw [outsAt0_C m c t (by omega) (by omega) ht, he]
  dsimp only
  rw [last_apply]
  exact congrFun (token_eq m c t ht _ n r hn) d

theorem lastM_point (t : Fin grid0.N) (ht : t.val % 11 = 10) (n : Fin 8192) (r : Fin 512) (hn : n.val = t.val / 11 * 512 + r.val) (d e : Fin 4096) (he : e = d) :
    ((outsAt0 m c t.val t.isLt).2 (ix2 r d) : EReal)
      = Residual.second (act m c) (weight m c) (stream m c) (gating m c) (lnScale m c) (lnShift m c) (modScale m c) (modShift m c) n e := by
  rw [outsAt0_C m c t (by omega) (by omega) ht, he]
  dsimp only
  rw [lastM_apply]
  exact congrFun (modulated_eq m c t ht _ n r hn) d

/-- The first result array after the run. -/
theorem array8_eq :
    (dats m 0 c).arrAt 8 cfg0.N
      = fun y : S8192x4096.Idx => (show Elt Ideal .f32 from Residual.first (act m c) (weight m c) (stream m c) (gating m c) (lnScale m c) (lnShift m c) (y 0) (y 1)) := by
  refine (dats m 0 c).arrAt_eq_of_covers 8 _ (by decide +kernel) fun t hf y => ?_
  have ht : t.val % 11 = 10 := (flush0_8 t).1 hf
  obtain ⟨⟨h0, h1⟩, _⟩ := index_results t
  rw [after0_8]
  have ey : ((cfg0.win 8).xinj (cfg0.grid.coords t) y) = ix2 (y 0) (y 1) := eq_ix2 (n0 := 512) (n1 := 4096) y
  refine Eq.trans (congrArg ((outsAt0 m c t.val t.isLt).1) ey) ?_
  exact last_point m c t ht _ (y 0) ((Pipeline.Window.rect_emb_val win0_8 t y 0).trans (by rw [h0]; rfl)) (y 1) _
    (Fin.ext (Pipeline.Window.rect_emb_val_of_index_zero win0_8 t 1 h1 y))

/-- The second result array after the run. -/
theorem array9_eq :
    (dats m 0 c).arrAt 9 cfg0.N
      = fun y : S8192x4096.Idx => (show Elt Ideal .bf16 from Residual.second (act m c) (weight m c) (stream m c) (gating m c) (lnScale m c) (lnShift m c) (modScale m c) (modShift m c) (y 0) (y 1)) := by
  refine (dats m 0 c).arrAt_eq_of_covers 9 _ (by decide +kernel) fun t hf y => ?_
  have ht : t.val % 11 = 10 := (flush0_9 t).1 hf
  obtain ⟨_, h0, h1⟩ := index_results t
  rw [after0_9]
  have ey : ((cfg0.win 9).xinj (cfg0.grid.coords t) y) = ix2 (y 0) (y 1) := eq_ix2 (n0 := 512) (n1 := 4096) y
  refine Eq.trans (congrArg ((outsAt0 m c t.val t.isLt).2) ey) ?_
  exact lastM_point m c t ht _ (y 0) ((Pipeline.Window.rect_emb_val win0_9 t y 0).trans (by rw [h0]; rfl)) (y 1) _
    (Fin.ext (Pipeline.Window.rect_emb_val_of_index_zero win0_9 t 1 h1 y))

end Cert.DownIdeal.Tiles

end
-- ==== Proof.DownRef.lean ====
/- The down projection with its residual layer norm: the reference's two results, read at an index. -/
module

public import proofs.«01_k».proof.Proof.ResidualNorm
public import proofs.«01_k».proof.Proof.Gen.DownRefIdeal.Read

@[expose] public section

set_option maxRecDepth 16384

noncomputable section

namespace Cert.DownRefIdeal.Tail

open Cert.DownRefIdeal Cert.DownRefIdeal.Gen Cert.DownRefIdeal.Read Idealize.ShloMosaic Idealize.ShloMosaic.ValueIdx Residual

variable (x0 : S4x2048x11008.Idx → EReal) (x1 : S11008x4096.Idx → EReal) (x2 : S4x2048x4096.Idx → EReal) (x3 : S4x1x4096.Idx → EReal)
  (x4 x5 : S4096.Idx → EReal) (x6 x7 : S4x1x4096.Idx → EReal) (p : Fin 4) (q : Fin 2048)

/-- The residual sum of token `q` of batch `p`. -/
def row : Row := mix (fun k => x2 (ix3 p q k)) (fun k => x3 (ix3 p 0 k)) (fun d => ∑ k : Fin 11008, x0 (ix3 p q k) * x1 (ix2 k d))

theorem sum_apply (d : Fin 4096) : val_main_v5 (F := Ideal) x0 x1 x2 x3 (ix3 p q d) = row x0 x1 x2 x3 p q d := by
  rw [val_main_v5_apply, val_main_v2_apply, val_main_v4_apply, val_main_v1_apply, val_main_cst_apply, val_main_v3_apply, val_main_v0_apply]
  have e0 : ∀ k : Fin 11008, lidx_main_v0 (ix3 p q d) k = ix3 p q k := fun k => funext fun a => by
    match a with
    | ⟨0, _⟩ => rfl
    | ⟨1, _⟩ => rfl
    | ⟨2, _⟩ => rfl
  have e1 : ∀ k : Fin 11008, ridx_main_v0 (ix3 p q d) k = ix2 k d := fun k => funext fun a => by
    match a with
    | ⟨0, _⟩ => rfl
    | ⟨1, _⟩ => rfl
  have e3 : idx_main_v3 (ix3 p q d) = ix3 p 0 d := funext fun a => by
    match a with
    | ⟨0, _⟩ => rfl
    | ⟨1, _⟩ => rfl
    | ⟨2, _⟩ => rfl
  simp only [e0, e1, e3]
  rfl

theorem mean_apply (z : Fin 1) : val_main_v9 (F := Ideal) x0 x1 x2 x3 (ix3 p q z) = mean (row x0 x1 x2 x3 p q) := by
  rw [val_main_v9_apply, val_main_v7_apply, val_main_v8_apply, val_main_cst_1_apply, val_main_v6_apply, val_main_cst_0_apply]
  have e : ∀ k : Fin 4096, idx_main_v6 (idx_main_v7 (ix3 p q z)) k = ix3 p q k := fun k => funext fun a => by
    match a with
    | ⟨0, _⟩ => rfl
    | ⟨1, _⟩ => rfl
    | ⟨2, _⟩ => rfl
  simp only [e, sum_apply]
  refine congrArg (fun s => Ideal.div s width) ?_
  show Ideal.ofBits .f32 0x00000000#32 + _ = _
  rw [Ideal.ofBits_zero_f32, zero_add]

theorem centred_apply (d : Fin 4096) : val_main_v11 (F := Ideal) x0 x1 x2 x3 (ix3 p q d) = centred (row x0 x1 x2 x3 p q) d := by
  have e : idx_main_v10 (ix3 p q d) = ix3 p q 0 := funext fun a => by
    match a with
    | ⟨0, _⟩ => rfl
    | ⟨1, _⟩ => rfl
    | ⟨2, _⟩ => rfl
  rw [val_main_v11_apply, val_main_v10_apply, e, sum_apply, mean_apply]
  rfl

theorem centred_apply' (d : Fin 4096) : val_main_v18 (F := Ideal) x0 x1 x2 x3 (ix3 p q d) = centred (row x0 x1 x2 x3 p q) d := by
  have e : idx_main_v17 (ix3 p q d) = ix3 p q 0 := funext fun a => by
    match a with
    | ⟨0, _⟩ => rfl
    | ⟨1, _⟩ => rfl
    | ⟨2, _⟩ => rfl
  rw [val_main_v18_apply, val_main_v17_apply, e, sum_apply, mean_apply]
  rfl

theorem variance_apply (z : Fin 1) :
    val_main_v16 (F := Ideal) x0 x1 x2 x3 (ix3 p q z) = mean (fun k => centred (row x0 x1 x2 x3 p q) k * centred (row x0 x1 x2 x3 p q) k) := by
  rw [val_main_v16_apply, val_main_v14_apply, val_main_v15_apply, val_main_cst_3_apply, val_main_v13_apply, val_main_cst_2_apply]
  have e : ∀ k : Fin 4096, idx_main_v13 (idx_main_v14 (ix3 p q z)) k = ix3 p q k := fun k => funext fun a => by
    match a with
    | ⟨0, _⟩ => rfl
    | ⟨1, _⟩ => rfl
    | ⟨2, _⟩ => rfl
  simp only [e, val_main_v12_apply, centred_apply]
  refine congrArg (fun s => Ideal.div s width) ?_
  show Ideal.ofBits .f32 0x00000000#32 + _ = _
  rw [Ideal.ofBits_zero_f32, zero_add]
  rfl

theorem normed_apply (d : Fin 4096) :
    val_main_v29 (F := Ideal) x0 x1 x2 x3 x4 x5 (ix3 p q d) = normed (row x0 x1 x2 x3 p q) (fun k => x4 (ix1 k)) (fun k => x5 (ix1 k)) d := by
  have e22 : idx_main_v22 (ix3 p q d) = ix3 p q 0 := funext fun a => by
    match a with
    | ⟨0, _⟩ => rfl
    | ⟨1, _⟩ => rfl
    | ⟨2, _⟩ => rfl
  have e4 : idx_main_v24 (idx_main_v25 (ix3 p q d)) = ix1 d := funext fun a => by
    match a with
    | ⟨0, _⟩ => rfl
  have e5 : idx_main_v27 (idx_main_v28 (ix3 p q d)) = ix1 d := funext fun a => by
    match a with
    | ⟨0, _⟩ => rfl
  rw [val_main_v29_apply, val_main_v26_apply, val_main_v23_apply, val_main_v28_apply, val_main_v27_apply, val_main_v25_apply, val_main_v24_apply,
    val_main_v22_apply, val_main_v21_apply, val_main_v20_apply, val_main_v19_apply, val_main_cst_4_apply, e22, e4, e5, centred_apply', variance_apply]
  rfl

theorem modulated_apply (d : Fin 4096) :
    val_main_v37 (F := Ideal) x0 x1 x2 x3 x4 x5 x6 x7 (ix3 p q d)
      = modulated (normed (row x0 x1 x2 x3 p q) (fun k => x4 (ix1 k)) (fun k => x5 (ix1 k))) (fun k => x6 (ix3 p 0 k)) (fun k => x7 (ix3 p 0 k)) d := by
  have e6 : idx_main_v32 (ix3 p q d) = ix3 p 0 d := funext fun a => by
    match a with
    | ⟨0, _⟩ => rfl
    | ⟨1, _⟩ => rfl
    | ⟨2, _⟩ => rfl
  have e7 : idx_main_v34 (ix3 p q d) = ix3 p 0 d := funext fun a => by
    match a with
    | ⟨0, _⟩ => rfl
    | ⟨1, _⟩ => rfl
    | ⟨2, _⟩ => rfl
  rw [val_main_v37_apply, val_main_v35_apply, val_main_v33_apply, val_main_v34_apply, val_main_v32_apply, val_main_v31_apply, val_main_v30_apply,
    val_main_cst_5_apply, e6, e7, normed_apply]
  rfl

/-- The reference's first result. -/
theorem first_apply (n : Fin 8192) (d : Fin 4096) :
    val_main_v36 (F := Ideal) x0 x1 x2 x3 x4 x5 (ix2 n d) = first x0 x1 x2 x3 x4 x5 n d := by
  have e : idx_main_v36 (ix2 n d) = ix3 ⟨n.val / 2048, by omega⟩ ⟨n.val % 2048, by omega⟩ d := funext fun a => by
    match a with
    | ⟨0, _⟩ => exact Fin.ext (by show (n.val * 4096 + d.val) / 8388608 = n.val / 2048; omega)
    | ⟨1, _⟩ => exact Fin.ext (by show (n.val * 4096 + d.val) / 4096 % 2048 = n.val % 2048; omega)
    | ⟨2, _⟩ => exact Fin.ext (by show (n.val * 4096 + d.val) % 4096 = d.val; omega)
  rw [val_main_v36_apply, e, normed_apply]
  rfl

/-- The reference's second result. -/
theorem second_apply (n : Fin 8192) (d : Fin 4096) :
    val_main_v38 (F := Ideal) x0 x1 x2 x3 x4 x5 x6 x7 (ix2 n d) = second x0 x1 x2 x3 x4 x5 x6 x7 n d := by
  have e : idx_main_v38 (ix2 n d) = ix3 ⟨n.val / 2048, by omega⟩ ⟨n.val % 2048, by omega⟩ d := funext fun a => by
    match a with
    | ⟨0, _⟩ => exact Fin.ext (by show (n.val * 4096 + d.val) / 8388608 = n.val / 2048; omega)
    | ⟨1, _⟩ => exact Fin.ext (by show (n.val * 4096 + d.val) / 4096 % 2048 = n.val % 2048; omega)
    | ⟨2, _⟩ => exact Fin.ext (by show (n.val * 4096 + d.val) % 4096 = d.val; omega)
  rw [val_main_v38_apply, e, modulated_apply]
  rfl

end Cert.DownRefIdeal.Tail

end
-- ==== Proof.OutNorm.lean ====
/- The layer norm of 64 tokens as the output projection's body computes it, read at an index. -/
module

public import proofs.«01_k».proof.Proof.ResidualNorm
public import proofs.«01_k».proof.Proof.Gen.OutIdeal.Skeleton
public import Idealize.ShloMosaic.Lib.Pipeline.ValueKit.Geometry
public import Idealize.ShloMosaic.Lib.KernelVsHost

@[expose] public section

set_option maxRecDepth 16384

noncomputable section

namespace Cert.OutIdeal.Norm

open Cert.OutIdeal Cert.OutIdeal.Gen Idealize.ShloMosaic Idealize.ShloMosaic.ValueIdx Residual

/-- The rows' means, in a column. -/
def means (v : FVec Ideal S64x4096 .f32) : FVec Ideal S64x1 .f32 :=
  divf (shapeCast S64x1 (multiReduction .add [1] S64 v 0x00000000#32 reduces_S64x4096_S64 (.inl rfl) rfl : FVec Ideal S64 .f32) shapeCasts_S64_S64x1)
    (broadcast S64x1 (Scalar.ofBits .f32 0x45800000#32 : Ideal .f32))

theorem means_apply (v : FVec Ideal S64x4096 .f32) (r : Fin 64) (z : Fin 1) : means v (ix2 r z) = mean (fun k => v (ix2 r k)) := by
  have hs : ∀ x : FVec Ideal S64 .f32, shapeCast S64x1 x shapeCasts_S64_S64x1 (ix2 r z) = x (ix1 r) := fun x =>
    shapeCast_apply x _ (ix2 r z) (ix1 r) (by
      rewrite [Shape.rowMajor_val_two, Shape.rowMajor_val_one]; show r.val = r.val * 1 + z.val; omega)
  unfold means mean
  rw [divf_apply, hs]
  refine congrArg (fun s => Ideal.div s width) ?_
  refine (Ideal.multiReduction_add_single v 0x00000000#32 reduces_S64x4096_S64 (.inl rfl) rfl (ix1 r)).trans ?_
  refine Finset.sum_congr rfl fun k _ => congrArg v (funext fun a => ?_)
  match a with
  | ⟨0, _⟩ => rfl
  | ⟨1, _⟩ => rfl

/-- A column along the lanes. -/
theorem column_apply (x : FVec Ideal S64x1 .f32) (r : Fin 64) (d : Fin 4096) :
    broadcastTo S64x4096 x broadcasts_S64x1_S64x4096 (ix2 r d) = x (ix2 r 0) :=
  broadcastTo_apply _ _ _ _ fun a => by
    match a with
    | ⟨0, _⟩ => rfl
    | ⟨1, _⟩ => rfl

/-- A row down the tokens. -/
theorem row_apply (x : FVec Ideal S1x4096 .f32) (r : Fin 64) (d : Fin 4096) :
    broadcastTo S64x4096 x broadcasts_S1x4096_S64x4096 (ix2 r d) = x (ix2 0 d) :=
  broadcastTo_apply _ _ _ _ fun a => by
    match a with
    | ⟨0, _⟩ => rfl
    | ⟨1, _⟩ => rfl

theorem drop_apply (x : FVec Ideal S1x1x4096 .f32) (d : Fin 4096) :
    shapeCast S1x4096 x shapeCasts_S1x1x4096_S1x4096 (ix2 0 d) = x (ix3 0 0 d) :=
  shapeCast_apply x _ (ix2 0 d) (ix3 0 0 d) (by
    rewrite [Shape.rowMajor_val_three, Shape.rowMajor_val_two]; show (0 * 1 + 0) * 4096 + d.val = 0 * 4096 + d.val; omega)

variable (x y : FVec Ideal S64x4096 .f32) (gate : FVec Ideal S1x1x4096 .f32) (g b : FVec Ideal S1x4096 .f32) (sc sh : FVec Ideal S1x1x4096 .f32)

/-- The residual sum of 64 tokens. -/
def sums : FVec Ideal S64x4096 .f32 :=
  addf (mulf (broadcast S64x4096 (Scalar.ofBits .f32 0x3FD744FD#32 : Ideal .f32)) x)
    (mulf (broadcastTo S64x4096 (shapeCast S1x4096 gate shapeCasts_S1x1x4096_S1x4096) broadcasts_S1x4096_S64x4096) y)

theorem sums_apply (r : Fin 64) (d : Fin 4096) :
    sums x y gate (ix2 r d) = mix (fun k => x (ix2 r k)) (fun k => gate (ix3 0 0 k)) (fun k => y (ix2 r k)) d := by
  unfold sums mix
  rw [addf_apply, mulf_apply, mulf_apply, row_apply, drop_apply]
  rfl

def centre (v : FVec Ideal S64x4096 .f32) : FVec Ideal S64x4096 .f32 :=
  subf v (broadcastTo S64x4096 (means v) broadcasts_S64x1_S64x4096)

theorem centre_apply (v : FVec Ideal S64x4096 .f32) (r : Fin 64) (d : Fin 4096) : centre v (ix2 r d) = centred (fun k => v (ix2 r k)) d := by
  unfold centre centred
  rw [subf_apply, column_apply, means_apply]

/-- The layer norm of 64 rows. -/
def norm (v : FVec Ideal S64x4096 .f32) : FVec Ideal S64x4096 .f32 :=
  addf (mulf (mulf (centre v) (broadcastTo S64x4096 (rsqrt (addf (means (mulf (centre v) (centre v)))
      (broadcast S64x1 (Scalar.ofBits .f32 0x3727C5AC#32 : Ideal .f32)))) broadcasts_S64x1_S64x4096))
    (broadcastTo S64x4096 g broadcasts_S1x4096_S64x4096)) (broadcastTo S64x4096 b broadcasts_S1x4096_S64x4096)

theorem norm_apply (v : FVec Ideal S64x4096 .f32) (r : Fin 64) (d : Fin 4096) :
    norm g b v (ix2 r d) = normed (fun k => v (ix2 r k)) (fun k => g (ix2 0 k)) (fun k => b (ix2 0 k)) d := by
  unfold norm normed
  rw [addf_apply, mulf_apply, mulf_apply, row_apply, row_apply, column_apply, centre_apply]
  refine congrArg (fun s => centred (fun k => v (ix2 r k)) d * Ideal.rsqrt (s + eps) * g (ix2 0 d) + b (ix2 0 d)) ?_
  refine (means_apply _ r 0).trans (congrArg mean (funext fun k => ?_))
  rw [mulf_apply, centre_apply]

/-- What the body stores in the first result for 64 tokens. -/
def block : FVec Ideal S64x4096 .f32 := k0_pay9 (k0_pay5 b) (k0_pay8 x y gate g)

/-- What the body stores in the second result for 64 tokens. -/
def blockM : FVec Ideal S64x4096 .bf16 := k0_pay10 (k0_pay5 b) (k0_pay6 sc) (k0_pay7 sh) (k0_pay8 x y gate g)

theorem block_eq : block x y gate g b = norm g b (sums x y gate) := by
  unfold block k0_pay9 k0_pay5 k0_pay8
  simp only [shapeCast_self]
  rfl

theorem block_apply (r : Fin 64) (d : Fin 4096) :
    block x y gate g b (ix2 r d)
      = normed (mix (fun k => x (ix2 r k)) (fun k => gate (ix3 0 0 k)) (fun k => y (ix2 r k))) (fun k => g (ix2 0 k)) (fun k => b (ix2 0 k)) d := by
  rw [block_eq, norm_apply]
  exact congrArg (fun v => normed v _ _ d) (funext fun k => sums_apply x y gate r k)

theorem blockM_apply (r : Fin 64) (d : Fin 4096) :
    blockM x y gate g b sc sh (ix2 r d)
      = modulated (normed (mix (fun k => x (ix2 r k)) (fun k => gate (ix3 0 0 k)) (fun k => y (ix2 r k))) (fun k => g (ix2 0 k)) (fun k => b (ix2 0 k)))
          (fun k => sc (ix3 0 0 k)) (fun k => sh (ix3 0 0 k)) d := by
  unfold blockM k0_pay10 k0_pay6 k0_pay7
  rw [truncf_apply, addf_apply, mulf_apply, row_apply, row_apply, addf_apply, drop_apply, drop_apply]
  show (block x y gate g b (ix2 r d) : EReal) * _ + _ = _
  rw [block_apply]
  rfl

end Cert.OutIdeal.Norm

end
-- ==== Proof.OutBody.lean ====
/- The output projection's body: what each of its three cases leaves in the result blocks. -/
module

public import proofs.«01_k».proof.Proof.OutNorm
public import proofs.«01_k».proof.Proof.Gen.OutIdeal.Value
public import Idealize.ShloMosaic.Lib.MatmulPlain
public import Idealize.ShloMosaic.Lib.Pipeline.ReadBack
public import Idealize.ShloMosaic.Lib.Tactic

@[expose] public section

set_option maxRecDepth 16384

noncomputable section

namespace Cert.OutIdeal.Tiles

open Cert.OutIdeal Cert.OutIdeal.Gen Cert.OutIdeal.Norm Idealize.ShloMosaic Idealize.ShloMosaic.TcCoe Idealize.SL.Sem Idealize.ShloMosaic.ValueIdx

theorem hz : (![0, 0] : Fin 2 → Nat) = fun _ => 0 := by decide

theorem hz3 : (![0, 0, 0] : Fin 3 → Nat) = fun _ => 0 := by decide

variable (c : Dev nD) (i : grid0.Coords)
  (a2 : Memref sig .tc .vmem S512x4096 .f32) (h2 : a2.IsWhole) (a3 : Memref sig .tc .vmem S512x1024 .bf16) (h3 : a3.IsWhole)
  (a4 : Memref sig .tc .vmem S1024x4096 .bf16) (h4 : a4.IsWhole) (a5 : Memref sig .tc .vmem S1x1x4096 .f32) (h5 : a5.IsWhole)
  (a6 : Memref sig .tc .vmem S1x4096 .f32) (h6 : a6.IsWhole) (a7 : Memref sig .tc .vmem S1x4096 .f32) (h7 : a7.IsWhole)
  (a8 : Memref sig .tc .vmem S1x1x4096 .f32) (h8 : a8.IsWhole) (a9 : Memref sig .tc .vmem S1x1x4096 .f32) (h9 : a9.IsWhole)
  (a10 : Memref sig .tc .vmem S512x4096 .f32) (h10 : a10.IsWhole) (a11 : Memref sig .tc .vmem S512x4096 .bf16) (h11 : a11.IsWhole)

variable (x0 : Vec Ideal S512x4096 .f32) (x1 : Vec Ideal S512x1024 .bf16) (x2 : Vec Ideal S1024x4096 .bf16) (x3 : Vec Ideal S1x1x4096 .f32)
  (x4 x5 : Vec Ideal S1x4096 .f32) (x6 x7 : Vec Ideal S1x1x4096 .f32) (xo : Vec Ideal S512x4096 .f32)

/-- The first point of a block of tokens: the product of the first block of the heads' features. -/
theorem first_eq (hc0 hc1 hc2) :
    out0_A_8 (F := Ideal) c i a2 h2 a3 h3 a4 h4 a5 h5 a6 h6 a7 h7 a8 h8 a9 h9 a10 h10 a11 h11 hc0 hc1 hc2 x0 x1 x2 x3 x4 x5 x6 x7 = k0_pay1 x1 x2 := by
  unfold out0_A_8
  rw [View.read_writes_eq_canon _ _ _ (cover0_A_8 (F := Ideal) c i a2 h2 a3 h3 a4 h4 a5 h5 a6 h6 a7 h7 a8 h8 a9 h9 a10 h10 a11 h11 hc0 hc1 hc2 x0 x1 x2 x3 x4 x5 x6 x7)]
  unfold kernelRun0_A
  dsimp only
  sl_unfold_words
  rw [View.canon_unit_zero hz]
  simp only [View.readAt_eq_ld, h3.read_unread, h4.read_unread, View.ld_unit_zero (S := S512x1024) hz, View.ld_unit_zero (S := S1024x4096) hz]

/-- A point between: the product of its block added. -/
theorem next_eq (hc0 hc1 hc2) :
    out0_B_8 (F := Ideal) c i a2 h2 a3 h3 a4 h4 a5 h5 a6 h6 a7 h7 a8 h8 a9 h9 a10 h10 a11 h11 hc0 hc1 hc2 x0 x1 x2 x3 x4 x5 x6 x7 xo = k0_pay2 xo x1 x2 := by
  unfold out0_B_8
  rw [View.read_writes_eq_canon _ _ _ (cover0_B_8 (F := Ideal) c i a2 h2 a3 h3 a4 h4 a5 h5 a6 h6 a7 h7 a8 h8 a9 h9 a10 h10 a11 h11 hc0 hc1 hc2 x0 x1 x2 x3 x4 x5 x6 x7 xo)]
  unfold kernelRun0_B
  dsimp only
  sl_unfold_words
  rw [View.canon_unit_zero hz]
  simp only [View.readAt_eq_ld, h3.read_unread, h4.read_unread, h10.read_unread, View.ld_unit_zero (S := S512x1024) hz, View.ld_unit_zero (S := S1024x4096) hz, View.ld_unit_zero (S := S512x4096) hz]

/-- The 64 rows at row `o` of a block of 512. -/
abbrev rows (x : Vec Ideal S512x4096 .f32) (o : Nat) (h : ∀ a, (![o, 0] : Fin 2 → Nat) a + S64x4096.size a ≤ S512x4096.size a) : Vec Ideal S64x4096 .f32 :=
  View.ld x (Rect.unit (s := S512x4096) ![o, 0] S64x4096.size h)

theorem last_eq (hc0 hc1 hc2) :
    out0_C_8 (F := Ideal) c i a2 h2 a3 h3 a4 h4 a5 h5 a6 h6 a7 h7 a8 h8 a9 h9 a10 h10 a11 h11 hc0 hc1 hc2 x0 x1 x2 x3 x4 x5 x6 x7 xo
      = View.canon [
        ⟨Rect.unit (s := S512x4096) ![448, 0] S64x4096.size inb_S512x4096_S64x4096_448_0, block (rows x0 448 inb_S512x4096_S64x4096_448_0) (rows (k0_pay2 xo x1 x2) 448 inb_S512x4096_S64x4096_448_0) x3 x4 x5⟩,
        ⟨Rect.unit (s := S512x4096) ![384, 0] S64x4096.size inb_S512x4096_S64x4096_384_0, block (rows x0 384 inb_S512x4096_S64x4096_384_0) (rows (k0_pay2 xo x1 x2) 384 inb_S512x4096_S64x4096_384_0) x3 x4 x5⟩,
        ⟨Rect.unit (s := S512x4096) ![320, 0] S64x4096.size inb_S512x4096_S64x4096_320_0, block (rows x0 320 inb_S512x4096_S64x4096_320_0) (rows (k0_pay2 xo x1 x2) 320 inb_S512x4096_S64x4096_320_0) x3 x4 x5⟩,
        ⟨Rect.unit (s := S512x4096) ![256, 0] S64x4096.size inb_S512x4096_S64x4096_256_0, block (rows x0 256 inb_S512x4096_S64x4096_256_0) (rows (k0_pay2 xo x1 x2) 256 inb_S512x4096_S64x4096_256_0) x3 x4 x5⟩,
        ⟨Rect.unit (s := S512x4096) ![192, 0] S64x4096.size inb_S512x4096_S64x4096_192_0, block (rows x0 192 inb_S512x4096_S64x4096_192_0) (rows (k0_pay2 xo x1 x2) 192 inb_S512x4096_S64x4096_192_0) x3 x4 x5⟩,
        ⟨Rect.unit (s := S512x4096) ![128, 0] S64x4096.size inb_S512x4096_S64x4096_128_0, block (rows x0 128 inb_S512x4096_S64x4096_128_0) (rows (k0_pay2 xo x1 x2) 128 inb_S512x4096_S64x4096_128_0) x3 x4 x5⟩,
        ⟨Rect.unit (s := S512x4096) ![64, 0] S64x4096.size inb_S512x4096_S64x4096_64_0, block (rows x0 64 inb_S512x4096_S64x4096_64_0) (rows (k0_pay2 xo x1 x2) 64 inb_S512x4096_S64x4096_64_0) x3 x4 x5⟩,
        ⟨Rect.unit (s := S512x4096) ![0, 0] S64x4096.size inb_S512x4096_S64x4096_0_0, block (rows x0 0 inb_S512x4096_S64x4096_0_0) (rows (k0_pay2 xo x1 x2) 0 inb_S512x4096_S64x4096_0_0) x3 x4 x5⟩,
        ⟨Rect.unit (s := S512x4096) ![0, 0] S512x4096.size inb_S512x4096_S512x4096_0_0, k0_pay2 xo x1 x2⟩] := by
  unfold out0_C_8
  rw [View.read_writes_eq_canon _ _ _ (cover0_C_8 (F := Ideal) c i a2 h2 a3 h3 a4 h4 a5 h5 a6 h6 a7 h7 a8 h8 a9 h9 a10 h10 a11 h11 hc0 hc1 hc2 x0 x1 x2 x3 x4 x5 x6 x7 xo)]
  unfold kernelRun0_C
  dsimp only
  sl_unfold_words
  have hfill : ∀ (Z : Vec Ideal S512x4096 .f32) (r : Rect S512x4096),
      a10.view.readCov [⟨Rect.unit (s := S512x4096) ![0, 0] S512x4096.size inb_S512x4096_S512x4096_0_0, Z⟩] r.toLoadRect = View.ld Z r :=
    fun Z r => View.readCov_fill (Val := Elt Ideal) a10.view inb_S512x4096_S512x4096_0_0 Z [] r (by decide)
  simp (disch := first | rfl | decide) only [↓View.readCov_skip, hfill, View.readAt_eq_ld, h2.read_unread, h3.read_unread, h4.read_unread, h5.read_unread, h6.read_unread, h7.read_unread, h8.read_unread, h9.read_unread, h10.read_unread, View.ld_unit_zero (S := S512x1024) hz, View.ld_unit_zero (S := S1024x4096) hz, View.ld_unit_zero (S := S512x4096) hz, View.ld_unit_zero (S := S1x4096) hz, View.ld_unit_zero (S := S1x1x4096) hz3]
  rfl

theorem lastM_eq (hc0 hc1 hc2) :
    out0_C_9 (F := Ideal) c i a2 h2 a3 h3 a4 h4 a5 h5 a6 h6 a7 h7 a8 h8 a9 h9 a10 h10 a11 h11 hc0 hc1 hc2 x0 x1 x2 x3 x4 x5 x6 x7 xo
      = View.canon [
        ⟨Rect.unit (s := S512x4096) ![448, 0] S64x4096.size inb_S512x4096_S64x4096_448_0, blockM (rows x0 448 inb_S512x4096_S64x4096_448_0) (rows (k0_pay2 xo x1 x2) 448 inb_S512x4096_S64x4096_448_0) x3 x4 x5 x6 x7⟩,
        ⟨Rect.unit (s := S512x4096) ![384, 0] S64x4096.size inb_S512x4096_S64x4096_384_0, blockM (rows x0 384 inb_S512x4096_S64x4096_384_0) (rows (k0_pay2 xo x1 x2) 384 inb_S512x4096_S64x4096_384_0) x3 x4 x5 x6 x7⟩,
        ⟨Rect.unit (s := S512x4096) ![320, 0] S64x4096.size inb_S512x4096_S64x4096_320_0, blockM (rows x0 320 inb_S512x4096_S64x4096_320_0) (rows (k0_pay2 xo x1 x2) 320 inb_S512x4096_S64x4096_320_0) x3 x4 x5 x6 x7⟩,
        ⟨Rect.unit (s := S512x4096) ![256, 0] S64x4096.size inb_S512x4096_S64x4096_256_0, blockM (rows x0 256 inb_S512x4096_S64x4096_256_0) (rows (k0_pay2 xo x1 x2) 256 inb_S512x4096_S64x4096_256_0) x3 x4 x5 x6 x7⟩,
        ⟨Rect.unit (s := S512x4096) ![192, 0] S64x4096.size inb_S512x4096_S64x4096_192_0, blockM (rows x0 192 inb_S512x4096_S64x4096_192_0) (rows (k0_pay2 xo x1 x2) 192 inb_S512x4096_S64x4096_192_0) x3 x4 x5 x6 x7⟩,
        ⟨Rect.unit (s := S512x4096) ![128, 0] S64x4096.size inb_S512x4096_S64x4096_128_0, blockM (rows x0 128 inb_S512x4096_S64x4096_128_0) (rows (k0_pay2 xo x1 x2) 128 inb_S512x4096_S64x4096_128_0) x3 x4 x5 x6 x7⟩,
        ⟨Rect.unit (s := S512x4096) ![64, 0] S64x4096.size inb_S512x4096_S64x4096_64_0, blockM (rows x0 64 inb_S512x4096_S64x4096_64_0) (rows (k0_pay2 xo x1 x2) 64 inb_S512x4096_S64x4096_64_0) x3 x4 x5 x6 x7⟩,
        ⟨Rect.unit (s := S512x4096) ![0, 0] S64x4096.size inb_S512x4096_S64x4096_0_0, blockM (rows x0 0 inb_S512x4096_S64x4096_0_0) (rows (k0_pay2 xo x1 x2) 0 inb_S512x4096_S64x4096_0_0) x3 x4 x5 x6 x7⟩] := by
  unfold out0_C_9
  rw [View.read_writes_eq_canon _ _ _ (cover0_C_9 (F := Ideal) c i a2 h2 a3 h3 a4 h4 a5 h5 a6 h6 a7 h7 a8 h8 a9 h9 a10 h10 a11 h11 hc0 hc1 hc2 x0 x1 x2 x3 x4 x5 x6 x7 xo)]
  unfold kernelRun0_C
  dsimp only
  sl_unfold_words
  have hfill : ∀ (Z : Vec Ideal S512x4096 .f32) (r : Rect S512x4096),
      a10.view.readCov [⟨Rect.unit (s := S512x4096) ![0, 0] S512x4096.size inb_S512x4096_S512x4096_0_0, Z⟩] r.toLoadRect = View.ld Z r :=
    fun Z r => View.readCov_fill (Val := Elt Ideal) a10.view inb_S512x4096_S512x4096_0_0 Z [] r (by decide)
  simp (disch := first | rfl | decide) only [↓View.readCov_skip, hfill, View.readAt_eq_ld, h2.read_unread, h3.read_unread, h4.read_unread, h5.read_unread, h6.read_unread, h7.read_unread, h8.read_unread, h9.read_unread, h10.read_unread, View.ld_unit_zero (S := S512x1024) hz, View.ld_unit_zero (S := S1024x4096) hz, View.ld_unit_zero (S := S512x4096) hz, View.ld_unit_zero (S := S1x4096) hz, View.ld_unit_zero (S := S1x1x4096) hz3]
  rfl

theorem rows_apply (x : Vec Ideal S512x4096 .f32) (o : Nat) (h) (r : Fin 64) (k : Fin 4096) (z : S512x4096.Idx) (hz : (z 0).val = o + r.val) :
    rows x o h (ix2 r k) = x (ix2 (z 0) k) :=
  congrArg x (funext fun a => by
    match a with
    | ⟨0, _⟩ => exact Fin.ext ((ValueKit.rect_emb_unit_val (s := S512x4096) ![o, 0] S64x4096.size h (ix2 r k) 0).trans hz.symm)
    | ⟨1, _⟩ => exact Fin.ext ((ValueKit.rect_emb_unit_val (s := S512x4096) ![o, 0] S64x4096.size h (ix2 r k) 1).trans (Nat.zero_add _)))

/-- The normed residual of the block's token `r`, from the product's rows `Y`. -/
def token (x0 Y : Vec Ideal S512x4096 .f32) (x3 : Vec Ideal S1x1x4096 .f32) (x4 x5 : Vec Ideal S1x4096 .f32) (r : Fin 512) : Residual.Row :=
  Residual.normed (Residual.mix (fun k => x0 (ix2 r k)) (fun k => x3 (ix3 0 0 k)) (fun k => Y (ix2 r k))) (fun k => x4 (ix2 0 k)) (fun k => x5 (ix2 0 k))

theorem piece_apply (Y : Vec Ideal S512x4096 .f32) (o : Nat) (h) (x : S64x4096.Idx) :
    block (rows x0 o h) (rows Y o h) x3 x4 x5 x
      = (fun y : S512x4096.Idx => (show Elt Ideal .f32 from token x0 Y x3 x4 x5 (y 0) (y 1))) ((Rect.unit (s := S512x4096) ![o, 0] S64x4096.size h).emb x) := by
  have e0 := ValueKit.rect_emb_unit_val (s := S512x4096) ![o, 0] S64x4096.size h x 0
  have e1 : (Rect.unit (s := S512x4096) ![o, 0] S64x4096.size h).emb x 1 = x 1 :=
    Fin.ext ((ValueKit.rect_emb_unit_val (s := S512x4096) ![o, 0] S64x4096.size h x 1).trans (Nat.zero_add _))
  generalize (Rect.unit (s := S512x4096) ![o, 0] S64x4096.size h).emb x = z at e0 e1
  refine (congrArg _ (eq_ix2 x)).trans ((block_apply _ _ _ _ _ (x 0) (x 1)).trans ?_)
  show _ = token x0 Y x3 x4 x5 (z 0) (z 1)
  rw [e1]
  unfold token
  rw [show (fun k => rows x0 o h (ix2 (x 0) k)) = fun k => x0 (ix2 (z 0) k) from funext fun k => rows_apply x0 o h (x 0) k z e0,
    show (fun k => rows Y o h (ix2 (x 0) k)) = fun k => Y (ix2 (z 0) k) from funext fun k => rows_apply Y o h (x 0) k z e0]

theorem pieceM_apply (Y : Vec Ideal S512x4096 .f32) (o : Nat) (h) (x : S64x4096.Idx) :
    blockM (rows x0 o h) (rows Y o h) x3 x4 x5 x6 x7 x
      = (fun y : S512x4096.Idx => (show Elt Ideal .bf16 from Residual.modulated (token x0 Y x3 x4 x5 (y 0)) (fun k => x6 (ix3 0 0 k)) (fun k => x7 (ix3 0 0 k)) (y 1)))
          ((Rect.unit (s := S512x4096) ![o, 0] S64x4096.size h).emb x) := by
  have e0 := ValueKit.rect_emb_unit_val (s := S512x4096) ![o, 0] S64x4096.size h x 0
  have e1 : (Rect.unit (s := S512x4096) ![o, 0] S64x4096.size h).emb x 1 = x 1 :=
    Fin.ext ((ValueKit.rect_emb_unit_val (s := S512x4096) ![o, 0] S64x4096.size h x 1).trans (Nat.zero_add _))
  generalize (Rect.unit (s := S512x4096) ![o, 0] S64x4096.size h).emb x = z at e0 e1
  refine (congrArg _ (eq_ix2 x)).trans ((blockM_apply _ _ _ _ _ _ _ (x 0) (x 1)).trans ?_)
  show _ = Residual.modulated (token x0 Y x3 x4 x5 (z 0)) _ _ (z 1)
  rw [e1]
  unfold token
  rw [show (fun k => rows x0 o h (ix2 (x 0) k)) = fun k => x0 (ix2 (z 0) k) from funext fun k => rows_apply x0 o h (x 0) k z e0,
    show (fun k => rows Y o h (ix2 (x 0) k)) = fun k => Y (ix2 (z 0) k) from funext fun k => rows_apply Y o h (x 0) k z e0]

/-- A token of the block is in its 64 rows. -/
theorem mem_rows (y : S512x4096.Idx) (o : Nat) (h) (ho : (y 0).val / 64 * 64 = o) :
    y ∈ (Rect.unit (s := S512x4096) ![o, 0] S64x4096.size h).set := by
  have h1 : (y 1).val < 4096 := (y 1).isLt
  refine (Rect.mem_set_unit ..).2 fun a => ?_
  match a with
  | ⟨0, _⟩ => exact ⟨by show o ≤ (y 0).val; omega, by show (y 0).val < o + 64; omega⟩
  | ⟨1, _⟩ => exact ⟨Nat.zero_le _, by show (y 1).val < 0 + 4096; omega⟩

theorem last_apply (hc0 hc1 hc2) (y : S512x4096.Idx) :
    out0_C_8 (F := Ideal) c i a2 h2 a3 h3 a4 h4 a5 h5 a6 h6 a7 h7 a8 h8 a9 h9 a10 h10 a11 h11 hc0 hc1 hc2 x0 x1 x2 x3 x4 x5 x6 x7 xo y = (show Elt Ideal .f32 from token x0 (k0_pay2 xo x1 x2) x3 x4 x5 (y 0) (y 1)) := by
  rw [last_eq]
  refine View.canon_append_of_pieces (Val := Elt Ideal) (S := S512x4096) (fun y : S512x4096.Idx => (show Elt Ideal .f32 from token x0 (k0_pay2 xo x1 x2) x3 x4 x5 (y 0) (y 1)))
      [⟨Rect.unit (s := S512x4096) ![0, 0] S512x4096.size inb_S512x4096_S512x4096_0_0, k0_pay2 xo x1 x2⟩] [
        ⟨Rect.unit (s := S512x4096) ![448, 0] S64x4096.size inb_S512x4096_S64x4096_448_0, block (rows x0 448 inb_S512x4096_S64x4096_448_0) (rows (k0_pay2 xo x1 x2) 448 inb_S512x4096_S64x4096_448_0) x3 x4 x5⟩,
        ⟨Rect.unit (s := S512x4096) ![384, 0] S64x4096.size inb_S512x4096_S64x4096_384_0, block (rows x0 384 inb_S512x4096_S64x4096_384_0) (rows (k0_pay2 xo x1 x2) 384 inb_S512x4096_S64x4096_384_0) x3 x4 x5⟩,
        ⟨Rect.unit (s := S512x4096) ![320, 0] S64x4096.size inb_S512x4096_S64x4096_320_0, block (rows x0 320 inb_S512x4096_S64x4096_320_0) (rows (k0_pay2 xo x1 x2) 320 inb_S512x4096_S64x4096_320_0) x3 x4 x5⟩,
        ⟨Rect.unit (s := S512x4096) ![256, 0] S64x4096.size inb_S512x4096_S64x4096_256_0, block (rows x0 256 inb_S512x4096_S64x4096_256_0) (rows (k0_pay2 xo x1 x2) 256 inb_S512x4096_S64x4096_256_0) x3 x4 x5⟩,
        ⟨Rect.unit (s := S512x4096) ![192, 0] S64x4096.size inb_S512x4096_S64x4096_192_0, block (rows x0 192 inb_S512x4096_S64x4096_192_0) (rows (k0_pay2 xo x1 x2) 192 inb_S512x4096_S64x4096_192_0) x3 x4 x5⟩,
        ⟨Rect.unit (s := S512x4096) ![128, 0] S64x4096.size inb_S512x4096_S64x4096_128_0, block (rows x0 128 inb_S512x4096_S64x4096_128_0) (rows (k0_pay2 xo x1 x2) 128 inb_S512x4096_S64x4096_128_0) x3 x4 x5⟩,
        ⟨Rect.unit (s := S512x4096) ![64, 0] S64x4096.size inb_S512x4096_S64x4096_64_0, block (rows x0 64 inb_S512x4096_S64x4096_64_0) (rows (k0_pay2 xo x1 x2) 64 inb_S512x4096_S64x4096_64_0) x3 x4 x5⟩,
        ⟨Rect.unit (s := S512x4096) ![0, 0] S64x4096.size inb_S512x4096_S64x4096_0_0, block (rows x0 0 inb_S512x4096_S64x4096_0_0) (rows (k0_pay2 xo x1 x2) 0 inb_S512x4096_S64x4096_0_0) x3 x4 x5⟩] ?_ y ?_
  · intro p hp x
    simp only [List.mem_cons, List.mem_nil_iff, or_false] at hp
    rcases hp with rfl | rfl | rfl | rfl | rfl | rfl | rfl | rfl
    · exact piece_apply x0 x3 x4 x5 (k0_pay2 xo x1 x2) 448 inb_S512x4096_S64x4096_448_0 x
    · exact piece_apply x0 x3 x4 x5 (k0_pay2 xo x1 x2) 384 inb_S512x4096_S64x4096_384_0 x
    · exact piece_apply x0 x3 x4 x5 (k0_pay2 xo x1 x2) 320 inb_S512x4096_S64x4096_320_0 x
    · exact piece_apply x0 x3 x4 x5 (k0_pay2 xo x1 x2) 256 inb_S512x4096_S64x4096_256_0 x
    · exact piece_apply x0 x3 x4 x5 (k0_pay2 xo x1 x2) 192 inb_S512x4096_S64x4096_192_0 x
    · exact piece_apply x0 x3 x4 x5 (k0_pay2 xo x1 x2) 128 inb_S512x4096_S64x4096_128_0 x
    · exact piece_apply x0 x3 x4 x5 (k0_pay2 xo x1 x2) 64 inb_S512x4096_S64x4096_64_0 x
    · exact piece_apply x0 x3 x4 x5 (k0_pay2 xo x1 x2) 0 inb_S512x4096_S64x4096_0_0 x
  · have h0 : (y 0).val < 512 := (y 0).isLt
    have hq : (y 0).val / 64 * 64 = 448 ∨ (y 0).val / 64 * 64 = 384 ∨ (y 0).val / 64 * 64 = 320 ∨ (y 0).val / 64 * 64 = 256 ∨ (y 0).val / 64 * 64 = 192 ∨ (y 0).val / 64 * 64 = 128 ∨ (y 0).val / 64 * 64 = 64 ∨ (y 0).val / 64 * 64 = 0 := by omega
    simp only [List.mem_cons, List.mem_nil_iff, or_false, exists_eq_or_imp, exists_eq_left]
    rcases hq with h | h | h | h | h | h | h | h
    · exact Or.inl (mem_rows y 448 inb_S512x4096_S64x4096_448_0 h)
    · exact Or.inr (Or.inl (mem_rows y 384 inb_S512x4096_S64x4096_384_0 h))
    · exact Or.inr (Or.inr (Or.inl (mem_rows y 320 inb_S512x4096_S64x4096_320_0 h)))
    · exact Or.inr (Or.inr (Or.inr (Or.inl (mem_rows y 256 inb_S512x4096_S64x4096_256_0 h))))
    · exact Or.inr (Or.inr (Or.inr (Or.inr (Or.inl (mem_rows y 192 inb_S512x4096_S64x4096_192_0 h)))))
    · exact Or.inr (Or.inr (Or.inr (Or.inr (Or.inr (Or.inl (mem_rows y 128 inb_S512x4096_S64x4096_128_0 h))))))
    · exact Or.inr (Or.inr (Or.inr (Or.inr (Or.inr (Or.inr (Or.inl (mem_rows y 64 inb_S512x4096_S64x4096_64_0 h)))))))
    · exact Or.inr (Or.inr (Or.inr (Or.inr (Or.inr (Or.inr (Or.inr (mem_rows y 0 inb_S512x4096_S64x4096_0_0 h)))))))

theorem lastM_apply (hc0 hc1 hc2) (y : S512x4096.Idx) :
    out0_C_9 (F := Ideal) c i a2 h2 a3 h3 a4 h4 a5 h5 a6 h6 a7 h7 a8 h8 a9 h9 a10 h10 a11 h11 hc0 hc1 hc2 x0 x1 x2 x3 x4 x5 x6 x7 xo y
      = (show Elt Ideal .bf16 from Residual.modulated (token x0 (k0_pay2 xo x1 x2) x3 x4 x5 (y 0)) (fun k => x6 (ix3 0 0 k)) (fun k => x7 (ix3 0 0 k)) (y 1)) := by
  rw [lastM_eq]
  refine View.canon_apply_of_pieces (Val := Elt Ideal) (S := S512x4096) (fun y : S512x4096.Idx => (show Elt Ideal .bf16 from Residual.modulated (token x0 (k0_pay2 xo x1 x2) x3 x4 x5 (y 0)) (fun k => x6 (ix3 0 0 k)) (fun k => x7 (ix3 0 0 k)) (y 1))) _ ?_ y ?_
  · intro p hp x
    simp only [List.mem_cons, List.mem_nil_iff, or_false] at hp
    rcases hp with rfl | rfl | rfl | rfl | rfl | rfl | rfl | rfl
    · exact pieceM_apply x0 x3 x4 x5 x6 x7 (k0_pay2 xo x1 x2) 448 inb_S512x4096_S64x4096_448_0 x
    · exact pieceM_apply x0 x3 x4 x5 x6 x7 (k0_pay2 xo x1 x2) 384 inb_S512x4096_S64x4096_384_0 x
    · exact pieceM_apply x0 x3 x4 x5 x6 x7 (k0_pay2 xo x1 x2) 320 inb_S512x4096_S64x4096_320_0 x
    · exact pieceM_apply x0 x3 x4 x5 x6 x7 (k0_pay2 xo x1 x2) 256 inb_S512x4096_S64x4096_256_0 x
    · exact pieceM_apply x0 x3 x4 x5 x6 x7 (k0_pay2 xo x1 x2) 192 inb_S512x4096_S64x4096_192_0 x
    · exact pieceM_apply x0 x3 x4 x5 x6 x7 (k0_pay2 xo x1 x2) 128 inb_S512x4096_S64x4096_128_0 x
    · exact pieceM_apply x0 x3 x4 x5 x6 x7 (k0_pay2 xo x1 x2) 64 inb_S512x4096_S64x4096_64_0 x
    · exact pieceM_apply x0 x3 x4 x5 x6 x7 (k0_pay2 xo x1 x2) 0 inb_S512x4096_S64x4096_0_0 x
  · have h0 : (y 0).val < 512 := (y 0).isLt
    have hq : (y 0).val / 64 * 64 = 448 ∨ (y 0).val / 64 * 64 = 384 ∨ (y 0).val / 64 * 64 = 320 ∨ (y 0).val / 64 * 64 = 256 ∨ (y 0).val / 64 * 64 = 192 ∨ (y 0).val / 64 * 64 = 128 ∨ (y 0).val / 64 * 64 = 64 ∨ (y 0).val / 64 * 64 = 0 := by omega
    simp only [List.mem_cons, List.mem_nil_iff, or_false, exists_eq_or_imp, exists_eq_left]
    rcases hq with h | h | h | h | h | h | h | h
    · exact Or.inl (mem_rows y 448 inb_S512x4096_S64x4096_448_0 h)
    · exact Or.inr (Or.inl (mem_rows y 384 inb_S512x4096_S64x4096_384_0 h))
    · exact Or.inr (Or.inr (Or.inl (mem_rows y 320 inb_S512x4096_S64x4096_320_0 h)))
    · exact Or.inr (Or.inr (Or.inr (Or.inl (mem_rows y 256 inb_S512x4096_S64x4096_256_0 h))))
    · exact Or.inr (Or.inr (Or.inr (Or.inr (Or.inl (mem_rows y 192 inb_S512x4096_S64x4096_192_0 h)))))
    · exact Or.inr (Or.inr (Or.inr (Or.inr (Or.inr (Or.inl (mem_rows y 128 inb_S512x4096_S64x4096_128_0 h))))))
    · exact Or.inr (Or.inr (Or.inr (Or.inr (Or.inr (Or.inr (Or.inl (mem_rows y 64 inb_S512x4096_S64x4096_64_0 h)))))))
    · exact Or.inr (Or.inr (Or.inr (Or.inr (Or.inr (Or.inr (Or.inr (mem_rows y 0 inb_S512x4096_S64x4096_0_0 h)))))))

/-- The product of a block of tokens with a block of the weight, at an index. -/
def part (u : Vec Ideal S512x1024 .bf16) (v : Vec Ideal S1024x4096 .bf16) (r : Fin 512) (d : Fin 4096) : EReal :=
  ∑ k : Fin 1024, u (ix2 r k) * v (ix2 k d)

theorem product_apply (u : Vec Ideal S512x1024 .bf16) (v : Vec Ideal S1024x4096 .bf16) (r : Fin 512) (d : Fin 4096) :
    k0_pay1 (F := Ideal) u v (ix2 r d) = part u v r d := by
  unfold part
  unfold k0_pay1
  simp only [shapeCast_self]
  refine (Ideal.matmul_plain_apply (M := 512) (K := 1024) (N := 4096) none u v (constant S512x4096 .f32 0x00000000#32) r d).trans ?_
  rw [constant_apply, Ideal.ofBits_zero_f32, zero_add]

theorem added_apply (y : Vec Ideal S512x4096 .f32) (u : Vec Ideal S512x1024 .bf16) (v : Vec Ideal S1024x4096 .bf16) (r : Fin 512) (d : Fin 4096) :
    k0_pay2 (F := Ideal) y u v (ix2 r d) = (y (ix2 r d) + part u v r d : EReal) := by
  rw [← product_apply]
  unfold k0_pay2 k0_pay1
  simp only [shapeCast_self]
  rfl

end Cert.OutIdeal.Tiles

end
-- ==== Proof.OutKernel.lean ====
/- The output projection with its residual layer norm: the kernel's two result arrays, read at an index. -/
module

public import proofs.«01_k».proof.Proof.OutBody
public import Idealize.ShloMosaic.Lib.StableHlo.Run
public import Idealize.ShloMosaic.Lib.KernelVsHost
public import Idealize.ShloMosaic.Lib.IdealHost
public import Idealize.ShloMosaic.Lib.Pipeline.ValueKit.Geometry
public import Idealize.ShloMosaic.Lib.Pointwise.ElementwiseCore

@[expose] public section

set_option maxRecDepth 16384

noncomputable section

namespace Cert.OutIdeal.Tiles

open Cert.OutIdeal Cert.OutIdeal.Gen Cert.OutIdeal.Norm Idealize.ShloMosaic Idealize.ShloMosaic.TcCoe Idealize.SL.Sem Idealize.ShloMosaic.ValueIdx

variable (m : (ℓ : Loc nD τ sig) → Buf (Elt Ideal) ℓ) (c : Dev nD)

abbrev act : S4x2048x4096.Idx → EReal := m ((c : Thread nD τ).loc main_arg0)
abbrev weight : S4096x4096.Idx → EReal := m ((c : Thread nD τ).loc main_arg1)
abbrev stream : S4x2048x4096.Idx → EReal := m ((c : Thread nD τ).loc main_arg2)
abbrev gating : S4x1x4096.Idx → EReal := m ((c : Thread nD τ).loc main_arg3)
abbrev lnScale : S4096.Idx → EReal := m ((c : Thread nD τ).loc main_arg4)
abbrev lnShift : S4096.Idx → EReal := m ((c : Thread nD τ).loc main_arg5)
abbrev modScale : S4x1x4096.Idx → EReal := m ((c : Thread nD τ).loc main_arg6)
abbrev modShift : S4x1x4096.Idx → EReal := m ((c : Thread nD τ).loc main_arg7)

theorem tokens_apply {α : Type} (x : S4x2048x4096.Idx → α) (h) (n : Fin 8192) (k : Fin 4096) :
    shapeCast S8192x4096 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 4096 + k.val = n.val * 4096 + k.val; omega)

theorem vector_apply {α : Type} (x : S4096.Idx → α) (h) (z : Fin 1) (k : Fin 4096) : shapeCast S1x4096 x h (ix2 z k) = x (ix1 k) :=
  shapeCast_apply x h (ix2 z k) (ix1 k)
    (by rewrite [Shape.rowMajor_val_two, Shape.rowMajor_val_one]; show k.val = z.val * 4096 + k.val; omega)

theorem v1_apply (n : Fin 8192) (k : Fin 4096) : V m c main_v1 (ix2 n k) = act m c (ix3 ⟨n.val / 2048, by omega⟩ ⟨n.val % 2048, by omega⟩ k) := by
  show StableHlo.after hostOps0 (fun b => m (c, b)) (Proc.devRef .tc main_v1) _ = _
  simp only [hostOps0]
  after_results
  exact tokens_apply _ _ n k

theorem v2_apply (j : Fin 4096) (d : Fin 4096) : V m c main_v2 (ix2 j d) = weight m c (ix2 j d) := by
  show StableHlo.after hostOps0 (fun b => m (c, b)) (Proc.devRef .tc main_v2) _ = _
  simp only [hostOps0]
  after_results
  rfl

theorem v3_apply (n : Fin 8192) (k : Fin 4096) : V m c main_v3 (ix2 n k) = stream m c (ix3 ⟨n.val / 2048, by omega⟩ ⟨n.val % 2048, by omega⟩ k) := by
  show StableHlo.after hostOps0 (fun b => m (c, b)) (Proc.devRef .tc main_v3) _ = _
  simp only [hostOps0]
  after_results
  exact tokens_apply _ _ n k

theorem v4_apply (z : Fin 1) (k : Fin 4096) : V m c main_v4 (ix2 z k) = lnScale m c (ix1 k) := by
  show StableHlo.after hostOps0 (fun b => m (c, b)) (Proc.devRef .tc main_v4) _ = _
  simp only [hostOps0]
  after_results
  exact vector_apply _ _ z k

theorem v5_apply (z : Fin 1) (k : Fin 4096) : V m c main_v5 (ix2 z k) = lnShift m c (ix1 k) := by
  show StableHlo.after hostOps0 (fun b => m (c, b)) (Proc.devRef .tc main_v5) _ = _
  simp only [hostOps0]
  after_results
  exact vector_apply _ _ z k

theorem arg3_eq : V m c main_arg3 = gating m c := by
  show StableHlo.after hostOps0 (fun b => m (c, b)) (Proc.devRef .tc main_arg3) = _
  simp only [hostOps0]
  after_results

theorem arg6_eq : V m c main_arg6 = modScale m c := by
  show StableHlo.after hostOps0 (fun b => m (c, b)) (Proc.devRef .tc main_arg6) = _
  simp only [hostOps0]
  after_results

theorem arg7_eq : V m c main_arg7 = modShift m c := by
  show StableHlo.after hostOps0 (fun b => m (c, b)) (Proc.devRef .tc main_arg7) = _
  simp only [hostOps0]
  after_results

/-- The windows' blocks at a grid point: decided over the 64 points. -/
theorem index_facts : ∀ t : Fin grid0.N,
    (win0_0.index t 0 = t.val / 4 ∧ win0_0.index t 1 = 0)
    ∧ (win0_1.index t 0 = t.val / 4 ∧ win0_1.index t 1 = t.val % 4)
    ∧ (win0_2.index t 0 = t.val % 4 ∧ win0_2.index t 1 = 0)
    ∧ (win0_3.index t 0 = t.val / 4 / 4 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = t.val / 4 / 4 ∧ win0_6.index t 1 = 0 ∧ win0_6.index t 2 = 0)
    ∧ (win0_7.index t 0 = t.val / 4 / 4 ∧ win0_7.index t 1 = 0 ∧ win0_7.index t 2 = 0) := by
  decide +kernel

theorem index_results : ∀ t : Fin grid0.N,
    (win0_8.index t 0 = t.val / 4 ∧ win0_8.index t 1 = 0) ∧ (win0_9.index t 0 = t.val / 4 ∧ win0_9.index t 1 = 0) := by
  decide +kernel

theorem stream_block (t : Fin grid0.N) (n : Fin 8192) (r : Fin 512) (hn : n.val = t.val / 4 * 512 + r.val) (k : Fin 4096) :
    iblk m c 0 t (ix2 r k) = stream m c (ix3 ⟨n.val / 2048, by omega⟩ ⟨n.val % 2048, by omega⟩ k) := by
  have e : iblk m c 0 t (ix2 r k) = V m c main_v3 ((win0_0.rect t).emb (ix2 r k)) := rfl
  obtain ⟨⟨h0, h1⟩, _⟩ := index_facts t
  have hk : (win0_0.rect t).emb (ix2 r k) = ix2 n k := by
    funext a
    match a with
    | ⟨0, _⟩ => exact Fin.ext ((Pipeline.Window.rect_emb_val win0_0 t _ 0).trans (by show win0_0.index t 0 * 512 + r.val = n.val; omega))
    | ⟨1, _⟩ => exact Fin.ext (Pipeline.Window.rect_emb_val_of_index_zero win0_0 t 1 h1 _)
  rw [e, hk]
  exact v3_apply m c n k

theorem act_block (t : Fin grid0.N) (n : Fin 8192) (r : Fin 512) (hn : n.val = t.val / 4 * 512 + r.val) (k : Fin 1024) :
    iblk m c 1 t (ix2 r k) = V m c main_v1 (ix2 n ⟨t.val % 4 * 1024 + k.val, by omega⟩) := by
  have e : iblk m c 1 t (ix2 r k) = V m c main_v1 ((win0_1.rect t).emb (ix2 r k)) := rfl
  obtain ⟨_, ⟨h0, h1⟩, _⟩ := index_facts t
  have hk : (win0_1.rect t).emb (ix2 r k) = ix2 n ⟨t.val % 4 * 1024 + k.val, by omega⟩ := by
    funext a
    match a with
    | ⟨0, _⟩ => exact Fin.ext ((Pipeline.Window.rect_emb_val win0_1 t _ 0).trans (by show win0_1.index t 0 * 512 + r.val = n.val; omega))
    | ⟨1, _⟩ => exact Fin.ext ((Pipeline.Window.rect_emb_val win0_1 t _ 1).trans (by show win0_1.index t 1 * 1024 + k.val = t.val % 4 * 1024 + k.val; omega))
  rw [e, hk]

theorem weight_block (t : Fin grid0.N) (k : Fin 1024) (d : Fin 4096) :
    iblk m c 2 t (ix2 k d) = V m c main_v2 (ix2 ⟨t.val % 4 * 1024 + k.val, by omega⟩ d) := by
  have e : iblk m c 2 t (ix2 k d) = V m c main_v2 ((win0_2.rect t).emb (ix2 k d)) := rfl
  obtain ⟨_, _, ⟨h0, h1⟩, _⟩ := index_facts t
  have hk : (win0_2.rect t).emb (ix2 k d) = ix2 ⟨t.val % 4 * 1024 + k.val, by omega⟩ d := by
    funext a
    match a with
    | ⟨0, _⟩ => exact Fin.ext ((Pipeline.Window.rect_emb_val win0_2 t _ 0).trans (by show win0_2.index t 0 * 1024 + k.val = t.val % 4 * 1024 + k.val; omega))
    | ⟨1, _⟩ => exact Fin.ext (Pipeline.Window.rect_emb_val_of_index_zero win0_2 t 1 h1 _)
  rw [e, hk]

theorem gate_block (t : Fin grid0.N) (n : Fin 8192) (r : Fin 512) (hn : n.val = t.val / 4 * 512 + r.val) (k : Fin 4096) :
    iblk m c 3 t (ix3 0 0 k) = gating m c (ix3 ⟨n.val / 2048, by omega⟩ 0 k) := by
  have e : iblk m c 3 t (ix3 0 0 k) = V m c main_arg3 ((win0_3.rect t).emb (ix3 0 0 k)) := rfl
  obtain ⟨_, _, _, ⟨h0, h1, h2⟩, _⟩ := index_facts t
  have hk : (win0_3.rect t).emb (ix3 0 0 k) = ix3 ⟨n.val / 2048, by omega⟩ 0 k := by
    funext a
    match a with
    | ⟨0, _⟩ => exact Fin.ext ((Pipeline.Window.rect_emb_val win0_3 t _ 0).trans (by show win0_3.index t 0 * 1 + 0 = n.val / 2048; omega))
    | ⟨1, _⟩ => exact Fin.ext (Pipeline.Window.rect_emb_val_of_index_zero win0_3 t 1 h1 _)
    | ⟨2, _⟩ => exact Fin.ext (Pipeline.Window.rect_emb_val_of_index_zero win0_3 t 2 h2 _)
  rw [e, hk, arg3_eq]

theorem scale_block (t : Fin grid0.N) (n : Fin 8192) (r : Fin 512) (hn : n.val = t.val / 4 * 512 + r.val) (k : Fin 4096) :
    iblk m c 6 t (ix3 0 0 k) = modScale m c (ix3 ⟨n.val / 2048, by omega⟩ 0 k) := by
  have e : iblk m c 6 t (ix3 0 0 k) = V m c main_arg6 ((win0_6.rect t).emb (ix3 0 0 k)) := rfl
  obtain ⟨_, _, _, _, _, _, ⟨h0, h1, h2⟩, _⟩ := index_facts t
  have hk : (win0_6.rect t).emb (ix3 0 0 k) = ix3 ⟨n.val / 2048, by omega⟩ 0 k := by
    funext a
    match a with
    | ⟨0, _⟩ => exact Fin.ext ((Pipeline.Window.rect_emb_val win0_6 t _ 0).trans (by show win0_6.index t 0 * 1 + 0 = n.val / 2048; omega))
    | ⟨1, _⟩ => exact Fin.ext (Pipeline.Window.rect_emb_val_of_index_zero win0_6 t 1 h1 _)
    | ⟨2, _⟩ => exact Fin.ext (Pipeline.Window.rect_emb_val_of_index_zero win0_6 t 2 h2 _)
  rw [e, hk, arg6_eq]

theorem shift_block (t : Fin grid0.N) (n : Fin 8192) (r : Fin 512) (hn : n.val = t.val / 4 * 512 + r.val) (k : Fin 4096) :
    iblk m c 7 t (ix3 0 0 k) = modShift m c (ix3 ⟨n.val / 2048, by omega⟩ 0 k) := by
  have e : iblk m c 7 t (ix3 0 0 k) = V m c main_arg7 ((win0_7.rect t).emb (ix3 0 0 k)) := rfl
  obtain ⟨_, _, _, _, _, _, _, ⟨h0, h1, h2⟩⟩ := index_facts t
  have hk : (win0_7.rect t).emb (ix3 0 0 k) = ix3 ⟨n.val / 2048, by omega⟩ 0 k := by
    funext a
    match a with
    | ⟨0, _⟩ => exact Fin.ext ((Pipeline.Window.rect_emb_val win0_7 t _ 0).trans (by show win0_7.index t 0 * 1 + 0 = n.val / 2048; omega))
    | ⟨1, _⟩ => exact Fin.ext (Pipeline.Window.rect_emb_val_of_index_zero win0_7 t 1 h1 _)
    | ⟨2, _⟩ => exact Fin.ext (Pipeline.Window.rect_emb_val_of_index_zero win0_7 t 2 h2 _)
  rw [e, hk, arg7_eq]

theorem lnScale_block (t : Fin grid0.N) (k : Fin 4096) : iblk m c 4 t (ix2 0 k) = lnScale m c (ix1 k) := by
  have e : iblk m c 4 t (ix2 0 k) = V m c main_v4 ((win0_4.rect t).emb (ix2 0 k)) := rfl
  obtain ⟨_, _, _, _, ⟨h0, h1⟩, _⟩ := index_facts t
  have hk : (win0_4.rect t).emb (ix2 0 k) = ix2 0 k := by
    funext a
    match a with
    | ⟨0, _⟩ => exact Fin.ext (Pipeline.Window.rect_emb_val_of_index_zero win0_4 t 0 h0 _)
    | ⟨1, _⟩ => exact Fin.ext (Pipeline.Window.rect_emb_val_of_index_zero win0_4 t 1 h1 _)
  rw [e, hk]
  exact v4_apply m c 0 k

theorem lnShift_block (t : Fin grid0.N) (k : Fin 4096) : iblk m c 5 t (ix2 0 k) = lnShift m c (ix1 k) := by
  have e : iblk m c 5 t (ix2 0 k) = V m c main_v5 ((win0_5.rect t).emb (ix2 0 k)) := rfl
  obtain ⟨_, _, _, _, _, ⟨h0, h1⟩, _⟩ := index_facts t
  have hk : (win0_5.rect t).emb (ix2 0 k) = ix2 0 k := by
    funext a
    match a with
    | ⟨0, _⟩ => exact Fin.ext (Pipeline.Window.rect_emb_val_of_index_zero win0_5 t 0 h0 _)
    | ⟨1, _⟩ => exact Fin.ext (Pipeline.Window.rect_emb_val_of_index_zero win0_5 t 1 h1 _)
  rw [e, hk]
  exact v5_apply m c 0 k

end Cert.OutIdeal.Tiles

end
-- ==== Proof.OutSum.lean ====
/- The output projection: the product over the grid's points, and the two result arrays. -/
module

public import proofs.«01_k».proof.Proof.OutKernel

@[expose] public section

set_option maxRecDepth 16384

noncomputable section

namespace Cert.OutIdeal.Tiles

open Cert.OutIdeal Cert.OutIdeal.Gen Cert.OutIdeal.Norm Idealize.ShloMosaic Idealize.ShloMosaic.TcCoe Idealize.SL.Sem Idealize.ShloMosaic.ValueIdx

variable (m : (ℓ : Loc nD τ sig) → Buf (Elt Ideal) ℓ) (c : Dev nD)

/-- One point's product is the next 1024 terms. -/
theorem point_sum (t : Fin grid0.N) (n : Fin 8192) (r : Fin 512) (hn : n.val = t.val / 4 * 512 + r.val) (d : Fin 4096) :
    part (iblk m c 1 t) (iblk m c 2 t) r d
      = ∑ j ∈ Finset.range 1024, Residual.term (act m c) (weight m c) n d (1024 * (t.val % 4) + j) := by
  unfold part
  rw [Finset.sum_range]
  refine Finset.sum_congr rfl fun k _ => ?_
  refine (congrArg₂ (fun a b : EReal => a * b) ((act_block m c t n r hn k).trans (v1_apply m c n _)) ((weight_block m c t k d).trans (v2_apply m c _ d))).trans ?_
  have ek : t.val % 4 * 1024 + k.val = 1024 * (t.val % 4) + k.val := by omega
  unfold Residual.term
  simp only [ek]
  rw [dif_pos (by omega)]

theorem first_point (t : Fin grid0.N) (h0 : t.val % 4 = 0) (r : Fin 512) (d : Fin 4096) :
    ((outsAt0 m c t.val t.isLt).1 (ix2 r d) : EReal) = part (iblk m c 1 t) (iblk m c 2 t) r d := by
  rw [outsAt0_A m c t h0 (by omega) (by omega)]
  dsimp only
  rw [first_eq]
  exact product_apply _ _ r d

theorem next_point (t : Fin grid0.N) (h1 : 1 ≤ t.val % 4) (h2 : ¬t.val % 4 = 3) (r : Fin 512) (d : Fin 4096) :
    ((outsAt0 m c t.val t.isLt).1 (ix2 r d) : EReal)
      = (outsAt0 m c (t.val - 1) (Nat.lt_of_le_of_lt (Nat.sub_le _ _) t.isLt)).1 (ix2 r d) + part (iblk m c 1 t) (iblk m c 2 t) r d := by
  rw [outsAt0_B m c t (by omega) h1 h2]
  dsimp only
  rw [next_eq]
  exact added_apply _ _ _ r d

/-- After the first points of a block of tokens, the partial product. -/
theorem partial_sum (n : Fin 8192) (r : Fin 512) (d : Fin 4096) : ∀ (q : Nat) (_ : q ≤ 2) (t : Fin grid0.N) (_ : t.val % 4 = q) (_ : n.val = t.val / 4 * 512 + r.val),
    ((outsAt0 m c t.val t.isLt).1 (ix2 r d) : EReal) = ∑ j ∈ Finset.range (1024 * (q + 1)), Residual.term (act m c) (weight m c) n d j
  | 0, _, t, ht, hn => by
    rw [first_point m c t ht r d, point_sum m c t n r hn d, ht]
    refine Finset.sum_congr rfl fun j _ => congrArg _ (by omega)
  | q + 1, hq, t, ht, hn => by
    have ih := partial_sum n r d q (by omega) ⟨t.val - 1, Nat.lt_of_le_of_lt (Nat.sub_le _ _) t.isLt⟩ (by show (t.val - 1) % 4 = q; omega)
      (by show n.val = (t.val - 1) / 4 * 512 + r.val; omega)
    rw [next_point m c t (by omega) (by omega) r d, point_sum m c t n r hn d, ht, show 1024 * (q + 1 + 1) = 1024 * (q + 1) + 1024 by omega,
      Finset.sum_range_add]
    exact congrArg (fun a : EReal => a + _) ih

/-- At the last point of a block of tokens, the whole product. -/
theorem whole_sum (t : Fin grid0.N) (ht : t.val % 4 = 3) (h : t.val - 1 < cfg0.N) (n : Fin 8192) (r : Fin 512) (hn : n.val = t.val / 4 * 512 + r.val) (d : Fin 4096) :
    k0_pay2 (outsAt0 m c (t.val - 1) h).1 (iblk m c 1 t) (iblk m c 2 t) (ix2 r d) = Residual.product (act m c) (weight m c) n d := by
  refine (added_apply _ _ _ r d).trans ?_
  rw [← Residual.sum_term (M := 1024 * (2 + 1) + 1024) (by omega), Finset.sum_range_add]
  refine congrArg₂ (fun a b : EReal => a + b) ?_ ?_
  · exact partial_sum m c n r d 2 (by omega) ⟨t.val - 1, h⟩ (by show (t.val - 1) % 4 = 2; omega) (by show n.val = (t.val - 1) / 4 * 512 + r.val; omega)
  · refine (point_sum m c t n r hn d).trans ?_
    rw [ht]

/-- A token of the block at the last point. -/
theorem token_eq (t : Fin grid0.N) (ht : t.val % 4 = 3) (h : t.val - 1 < cfg0.N) (n : Fin 8192) (r : Fin 512) (hn : n.val = t.val / 4 * 512 + r.val) :
    token (iblk m c 0 t) (k0_pay2 (outsAt0 m c (t.val - 1) h).1 (iblk m c 1 t) (iblk m c 2 t)) (iblk m c 3 t) (iblk m c 4 t) (iblk m c 5 t) r
      = Residual.first (act m c) (weight m c) (stream m c) (gating m c) (lnScale m c) (lnShift m c) n := by
  unfold token Residual.first
  have e0 : (fun k => (iblk m c 0 t (ix2 r k) : EReal)) = _ := funext fun k => stream_block m c t n r hn k
  have e1 : (fun k => (k0_pay2 (outsAt0 m c (t.val - 1) h).1 (iblk m c 1 t) (iblk m c 2 t) (ix2 r k) : EReal)) = _ := funext fun k => whole_sum m c t ht h n r hn k
  have e3 : (fun k => (iblk m c 3 t (ix3 0 0 k) : EReal)) = _ := funext fun k => gate_block m c t n r hn k
  have e4 : (fun k => (iblk m c 4 t (ix2 0 k) : EReal)) = _ := funext fun k => lnScale_block m c t k
  have e5 : (fun k => (iblk m c 5 t (ix2 0 k) : EReal)) = _ := funext fun k => lnShift_block m c t k
  exact congr (congr (congrArg Residual.normed (congr (congr (congrArg Residual.mix e0) e3) e1)) e4) e5

theorem modulated_eq (t : Fin grid0.N) (ht : t.val % 4 = 3) (h : t.val - 1 < cfg0.N) (n : Fin 8192) (r : Fin 512) (hn : n.val = t.val / 4 * 512 + r.val) :
    Residual.modulated (token (iblk m c 0 t) (k0_pay2 (outsAt0 m c (t.val - 1) h).1 (iblk m c 1 t) (iblk m c 2 t)) (iblk m c 3 t) (iblk m c 4 t) (iblk m c 5 t) r)
        (fun k => iblk m c 6 t (ix3 0 0 k)) (fun k => iblk m c 7 t (ix3 0 0 k))
      = Residual.second (act m c) (weight m c) (stream m c) (gating m c) (lnScale m c) (lnShift m c) (modScale m c) (modShift m c) n := by
  unfold Residual.second
  have e6 : (fun k => (iblk m c 6 t (ix3 0 0 k) : EReal)) = _ := funext fun k => scale_block m c t n r hn k
  have e7 : (fun k => (iblk m c 7 t (ix3 0 0 k) : EReal)) = _ := funext fun k => shift_block m c t n r hn k
  exact congr (congr (congrArg Residual.modulated (token_eq m c t ht h n r hn)) e6) e7

theorem last_point (t : Fin grid0.N) (ht : t.val % 4 = 3) (n : Fin 8192) (r : Fin 512) (hn : n.val = t.val / 4 * 512 + r.val) (d e : Fin 4096) (he : e = d) :
    ((outsAt0 m c t.val t.isLt).1 (ix2 r d) : EReal)
      = Residual.first (act m c) (weight m c) (stream m c) (gating m c) (lnScale m c) (lnShift m c) n e := by
  rw [outsAt0_C m c t (by omega) (by omega) ht, he]
  dsimp only
  rw [last_apply]
  exact congrFun (token_eq m c t ht _ n r hn) d

theorem lastM_point (t : Fin grid0.N) (ht : t.val % 4 = 3) (n : Fin 8192) (r : Fin 512) (hn : n.val = t.val / 4 * 512 + r.val) (d e : Fin 4096) (he : e = d) :
    ((outsAt0 m c t.val t.isLt).2 (ix2 r d) : EReal)
      = Residual.second (act m c) (weight m c) (stream m c) (gating m c) (lnScale m c) (lnShift m c) (modScale m c) (modShift m c) n e := by
  rw [outsAt0_C m c t (by omega) (by omega) ht, he]
  dsimp only
  rw [lastM_apply]
  exact congrFun (modulated_eq m c t ht _ n r hn) d

/-- The first result array after the run. -/
theorem array8_eq :
    (dats m 0 c).arrAt 8 cfg0.N
      = fun y : S8192x4096.Idx => (show Elt Ideal .f32 from Residual.first (act m c) (weight m c) (stream m c) (gating m c) (lnScale m c) (lnShift m c) (y 0) (y 1)) := by
  refine (dats m 0 c).arrAt_eq_of_covers 8 _ (by decide +kernel) fun t hf y => ?_
  have ht : t.val % 4 = 3 := (flush0_8 t).1 hf
  obtain ⟨⟨h0, h1⟩, _⟩ := index_results t
  rw [after0_8]
  have ey : ((cfg0.win 8).xinj (cfg0.grid.coords t) y) = ix2 (y 0) (y 1) := eq_ix2 (n0 := 512) (n1 := 4096) y
  refine Eq.trans (congrArg ((outsAt0 m c t.val t.isLt).1) ey) ?_
  exact last_point m c t ht _ (y 0) ((Pipeline.Window.rect_emb_val win0_8 t y 0).trans (by rw [h0]; rfl)) (y 1) _
    (Fin.ext (Pipeline.Window.rect_emb_val_of_index_zero win0_8 t 1 h1 y))

/-- The second result array after the run. -/
theorem array9_eq :
    (dats m 0 c).arrAt 9 cfg0.N
      = fun y : S8192x4096.Idx => (show Elt Ideal .bf16 from Residual.second (act m c) (weight m c) (stream m c) (gating m c) (lnScale m c) (lnShift m c) (modScale m c) (modShift m c) (y 0) (y 1)) := by
  refine (dats m 0 c).arrAt_eq_of_covers 9 _ (by decide +kernel) fun t hf y => ?_
  have ht : t.val % 4 = 3 := (flush0_9 t).1 hf
  obtain ⟨_, h0, h1⟩ := index_results t
  rw [after0_9]
  have ey : ((cfg0.win 9).xinj (cfg0.grid.coords t) y) = ix2 (y 0) (y 1) := eq_ix2 (n0 := 512) (n1 := 4096) y
  refine Eq.trans (congrArg ((outsAt0 m c t.val t.isLt).2) ey) ?_
  exact lastM_point m c t ht _ (y 0) ((Pipeline.Window.rect_emb_val win0_9 t y 0).trans (by rw [h0]; rfl)) (y 1) _
    (Fin.ext (Pipeline.Window.rect_emb_val_of_index_zero win0_9 t 1 h1 y))

end Cert.OutIdeal.Tiles

end
-- ==== Proof.OutRef.lean ====
/- The output projection with its residual layer norm: the reference's two results, read at an index. -/
module

public import proofs.«01_k».proof.Proof.ResidualNorm
public import proofs.«01_k».proof.Proof.Gen.OutRefIdeal.Read

@[expose] public section

set_option maxRecDepth 16384

noncomputable section

namespace Cert.OutRefIdeal.Tail

open Cert.OutRefIdeal Cert.OutRefIdeal.Gen Cert.OutRefIdeal.Read Idealize.ShloMosaic Idealize.ShloMosaic.ValueIdx Residual

variable (x0 : S4x2048x4096.Idx → EReal) (x1 : S4096x4096.Idx → EReal) (x2 : S4x2048x4096.Idx → EReal) (x3 : S4x1x4096.Idx → EReal)
  (x4 x5 : S4096.Idx → EReal) (x6 x7 : S4x1x4096.Idx → EReal) (p : Fin 4) (q : Fin 2048)

/-- The residual sum of token `q` of batch `p`. -/
def row : Row := mix (fun k => x2 (ix3 p q k)) (fun k => x3 (ix3 p 0 k)) (fun d => ∑ k : Fin 4096, x0 (ix3 p q k) * x1 (ix2 k d))

theorem sum_apply (d : Fin 4096) : val_main_v5 (F := Ideal) x0 x1 x2 x3 (ix3 p q d) = row x0 x1 x2 x3 p q d := by
  rw [val_main_v5_apply, val_main_v2_apply, val_main_v4_apply, val_main_v1_apply, val_main_cst_apply, val_main_v3_apply, val_main_v0_apply]
  have e0 : ∀ k : Fin 4096, lidx_main_v0 (ix3 p q d) k = ix3 p q k := fun k => funext fun a => by
    match a with
    | ⟨0, _⟩ => rfl
    | ⟨1, _⟩ => rfl
    | ⟨2, _⟩ => rfl
  have e1 : ∀ k : Fin 4096, ridx_main_v0 (ix3 p q d) k = ix2 k d := fun k => funext fun a => by
    match a with
    | ⟨0, _⟩ => rfl
    | ⟨1, _⟩ => rfl
  have e3 : idx_main_v3 (ix3 p q d) = ix3 p 0 d := funext fun a => by
    match a with
    | ⟨0, _⟩ => rfl
    | ⟨1, _⟩ => rfl
    | ⟨2, _⟩ => rfl
  simp only [e0, e1, e3]
  rfl

theorem mean_apply (z : Fin 1) : val_main_v9 (F := Ideal) x0 x1 x2 x3 (ix3 p q z) = mean (row x0 x1 x2 x3 p q) := by
  rw [val_main_v9_apply, val_main_v7_apply, val_main_v8_apply, val_main_cst_1_apply, val_main_v6_apply, val_main_cst_0_apply]
  have e : ∀ k : Fin 4096, idx_main_v6 (idx_main_v7 (ix3 p q z)) k = ix3 p q k := fun k => funext fun a => by
    match a with
    | ⟨0, _⟩ => rfl
    | ⟨1, _⟩ => rfl
    | ⟨2, _⟩ => rfl
  simp only [e, sum_apply]
  refine congrArg (fun s => Ideal.div s width) ?_
  show Ideal.ofBits .f32 0x00000000#32 + _ = _
  rw [Ideal.ofBits_zero_f32, zero_add]

theorem centred_apply (d : Fin 4096) : val_main_v11 (F := Ideal) x0 x1 x2 x3 (ix3 p q d) = centred (row x0 x1 x2 x3 p q) d := by
  have e : idx_main_v10 (ix3 p q d) = ix3 p q 0 := funext fun a => by
    match a with
    | ⟨0, _⟩ => rfl
    | ⟨1, _⟩ => rfl
    | ⟨2, _⟩ => rfl
  rw [val_main_v11_apply, val_main_v10_apply, e, sum_apply, mean_apply]
  rfl

theorem centred_apply' (d : Fin 4096) : val_main_v18 (F := Ideal) x0 x1 x2 x3 (ix3 p q d) = centred (row x0 x1 x2 x3 p q) d := by
  have e : idx_main_v17 (ix3 p q d) = ix3 p q 0 := funext fun a => by
    match a with
    | ⟨0, _⟩ => rfl
    | ⟨1, _⟩ => rfl
    | ⟨2, _⟩ => rfl
  rw [val_main_v18_apply, val_main_v17_apply, e, sum_apply, mean_apply]
  rfl

theorem variance_apply (z : Fin 1) :
    val_main_v16 (F := Ideal) x0 x1 x2 x3 (ix3 p q z) = mean (fun k => centred (row x0 x1 x2 x3 p q) k * centred (row x0 x1 x2 x3 p q) k) := by
  rw [val_main_v16_apply, val_main_v14_apply, val_main_v15_apply, val_main_cst_3_apply, val_main_v13_apply, val_main_cst_2_apply]
  have e : ∀ k : Fin 4096, idx_main_v13 (idx_main_v14 (ix3 p q z)) k = ix3 p q k := fun k => funext fun a => by
    match a with
    | ⟨0, _⟩ => rfl
    | ⟨1, _⟩ => rfl
    | ⟨2, _⟩ => rfl
  simp only [e, val_main_v12_apply, centred_apply]
  refine congrArg (fun s => Ideal.div s width) ?_
  show Ideal.ofBits .f32 0x00000000#32 + _ = _
  rw [Ideal.ofBits_zero_f32, zero_add]
  rfl

theorem normed_apply (d : Fin 4096) :
    val_main_v29 (F := Ideal) x0 x1 x2 x3 x4 x5 (ix3 p q d) = normed (row x0 x1 x2 x3 p q) (fun k => x4 (ix1 k)) (fun k => x5 (ix1 k)) d := by
  have e22 : idx_main_v22 (ix3 p q d) = ix3 p q 0 := funext fun a => by
    match a with
    | ⟨0, _⟩ => rfl
    | ⟨1, _⟩ => rfl
    | ⟨2, _⟩ => rfl
  have e4 : idx_main_v24 (idx_main_v25 (ix3 p q d)) = ix1 d := funext fun a => by
    match a with
    | ⟨0, _⟩ => rfl
  have e5 : idx_main_v27 (idx_main_v28 (ix3 p q d)) = ix1 d := funext fun a => by
    match a with
    | ⟨0, _⟩ => rfl
  rw [val_main_v29_apply, val_main_v26_apply, val_main_v23_apply, val_main_v28_apply, val_main_v27_apply, val_main_v25_apply, val_main_v24_apply,
    val_main_v22_apply, val_main_v21_apply, val_main_v20_apply, val_main_v19_apply, val_main_cst_4_apply, e22, e4, e5, centred_apply', variance_apply]
  rfl

theorem modulated_apply (d : Fin 4096) :
    val_main_v37 (F := Ideal) x0 x1 x2 x3 x4 x5 x6 x7 (ix3 p q d)
      = modulated (normed (row x0 x1 x2 x3 p q) (fun k => x4 (ix1 k)) (fun k => x5 (ix1 k))) (fun k => x6 (ix3 p 0 k)) (fun k => x7 (ix3 p 0 k)) d := by
  have e6 : idx_main_v32 (ix3 p q d) = ix3 p 0 d := funext fun a => by
    match a with
    | ⟨0, _⟩ => rfl
    | ⟨1, _⟩ => rfl
    | ⟨2, _⟩ => rfl
  have e7 : idx_main_v34 (ix3 p q d) = ix3 p 0 d := funext fun a => by
    match a with
    | ⟨0, _⟩ => rfl
    | ⟨1, _⟩ => rfl
    | ⟨2, _⟩ => rfl
  rw [val_main_v37_apply, val_main_v35_apply, val_main_v33_apply, val_main_v34_apply, val_main_v32_apply, val_main_v31_apply, val_main_v30_apply,
    val_main_cst_5_apply, e6, e7, normed_apply]
  rfl

/-- The reference's first result. -/
theorem first_apply (n : Fin 8192) (d : Fin 4096) :
    val_main_v36 (F := Ideal) x0 x1 x2 x3 x4 x5 (ix2 n d) = first x0 x1 x2 x3 x4 x5 n d := by
  have e : idx_main_v36 (ix2 n d) = ix3 ⟨n.val / 2048, by omega⟩ ⟨n.val % 2048, by omega⟩ d := funext fun a => by
    match a with
    | ⟨0, _⟩ => exact Fin.ext (by show (n.val * 4096 + d.val) / 8388608 = n.val / 2048; omega)
    | ⟨1, _⟩ => exact Fin.ext (by show (n.val * 4096 + d.val) / 4096 % 2048 = n.val % 2048; omega)
    | ⟨2, _⟩ => exact Fin.ext (by show (n.val * 4096 + d.val) % 4096 = d.val; omega)
  rw [val_main_v36_apply, e, normed_apply]
  rfl

/-- The reference's second result. -/
theorem second_apply (n : Fin 8192) (d : Fin 4096) :
    val_main_v38 (F := Ideal) x0 x1 x2 x3 x4 x5 x6 x7 (ix2 n d) = second x0 x1 x2 x3 x4 x5 x6 x7 n d := by
  have e : idx_main_v38 (ix2 n d) = ix3 ⟨n.val / 2048, by omega⟩ ⟨n.val % 2048, by omega⟩ d := funext fun a => by
    match a with
    | ⟨0, _⟩ => exact Fin.ext (by show (n.val * 4096 + d.val) / 8388608 = n.val / 2048; omega)
    | ⟨1, _⟩ => exact Fin.ext (by show (n.val * 4096 + d.val) / 4096 % 2048 = n.val % 2048; omega)
    | ⟨2, _⟩ => exact Fin.ext (by show (n.val * 4096 + d.val) % 4096 = d.val; omega)
  rw [val_main_v38_apply, e, modulated_apply]
  rfl

end Cert.OutRefIdeal.Tail

end
-- ==== Proof.ResidualClaims.lean ====
/- The claims about the down projection and the output projection, each with its residual layer norm. -/
module

public import proofs.«01_k».proof.Defs
public import proofs.«01_k».proof.Proof.DownSum
public import proofs.«01_k».proof.Proof.DownRef
public import proofs.«01_k».proof.Proof.OutSum
public import proofs.«01_k».proof.Proof.OutRef
public import proofs.«01_k».proof.Proof.Gen.Down.Frame
public import proofs.«01_k».proof.Proof.Gen.Out.Frame
public import Idealize.ShloMosaic.Adequacy
public import Idealize.ShloMosaic.Init

@[expose] public section

set_option maxRecDepth 16384

noncomputable section

namespace Cert.ResidualClaims

open Idealize.ShloMosaic Idealize.SL.Sem Idealize.ShloMosaic.ValueIdx

attribute [local instance] Cert.Down.Gen.facts Cert.DownIdeal.Gen.facts Cert.DownRefIdeal.Gen.facts Cert.Out.Gen.facts Cert.OutIdeal.Gen.facts
  Cert.OutRefIdeal.Gen.facts

theorem frame_down : Cert.quiescent_Down := fun m ρ _ => Cert.Down.Gen.frame m ρ

theorem frame_down_ideal : Cert.quiescent_DownIdeal := fun m ρ _ => Cert.DownIdeal.Gen.frame m ρ

theorem frame_down_reference : Cert.quiescent_DownRefIdeal := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

theorem preserves_down : Cert.preserves_Down_DownIdeal := trivial

theorem algebraic_down : Cert.algebraic_DownIdeal_DownRefIdeal := by
  intro m ρ m' ρ' _ hagree
  refine ⟨_, _, Cert.DownIdeal.Value.run_blocks m ρ, ?_⟩
  refine (θ_run Cert.DownRefIdeal.defs _ _).mono (fun r h c => ⟨?_, ?_, (h c).2.2⟩) (Cert.DownRefIdeal.Value.run (F := Ideal) m' ρ')
  · rw [Cert.DownIdeal.Tiles.array8_eq m c]
    refine ((h c).1.trans (Cert.DownRefIdeal.Read.val_main_v36_eq (F := Ideal) m' c)).trans ?_
    rw [(hagree c).1, (hagree c).2.1, (hagree c).2.2.1, (hagree c).2.2.2.1, (hagree c).2.2.2.2.1, (hagree c).2.2.2.2.2.1]
    funext y
    obtain ⟨n, d, rfl⟩ : ∃ (n : Fin 8192) (d : Fin 4096), y = ix2 n d := ⟨y 0, y 1, eq_ix2 y⟩
    exact Cert.DownRefIdeal.Tail.first_apply _ _ _ _ _ _ n d
  · rw [Cert.DownIdeal.Tiles.array9_eq m c]
    refine ((h c).2.1.trans (Cert.DownRefIdeal.Read.val_main_v38_eq (F := Ideal) m' c)).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    funext y
    obtain ⟨n, d, rfl⟩ : ∃ (n : Fin 8192) (d : Fin 4096), y = ix2 n d := ⟨y 0, y 1, eq_ix2 y⟩
    exact Cert.DownRefIdeal.Tail.second_apply _ _ _ _ _ _ _ _ n d

theorem frame_out : Cert.quiescent_Out := fun m ρ _ => Cert.Out.Gen.frame m ρ

theorem frame_out_ideal : Cert.quiescent_OutIdeal := fun m ρ _ => Cert.OutIdeal.Gen.frame m ρ

theorem frame_out_reference : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

theorem preserves_out : Cert.preserves_Out_OutIdeal := trivial

theorem algebraic_out : Cert.algebraic_OutIdeal_OutRefIdeal := by
  intro m ρ m' ρ' _ hagree
  refine ⟨_, _, Cert.OutIdeal.Value.run_blocks m ρ, ?_⟩
  refine (θ_run Cert.OutRefIdeal.defs _ _).mono (fun r h c => ⟨?_, ?_, (h c).2.2⟩) (Cert.OutRefIdeal.Value.run (F := Ideal) m' ρ')
  · rw [Cert.OutIdeal.Tiles.array8_eq m c]
    refine ((h c).1.trans (Cert.OutRefIdeal.Read.val_main_v36_eq (F := Ideal) m' c)).trans ?_
    rw [(hagree c).1, (hagree c).2.1, (hagree c).2.2.1, (hagree c).2.2.2.1, (hagree c).2.2.2.2.1, (hagree c).2.2.2.2.2.1]
    funext y
    obtain ⟨n, d, rfl⟩ : ∃ (n : Fin 8192) (d : Fin 4096), y = ix2 n d := ⟨y 0, y 1, eq_ix2 y⟩
    exact Cert.OutRefIdeal.Tail.first_apply _ _ _ _ _ _ n d
  · rw [Cert.OutIdeal.Tiles.array9_eq m c]
    refine ((h c).2.1.trans (Cert.OutRefIdeal.Read.val_main_v38_eq (F := Ideal) m' c)).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    funext y
    obtain ⟨n, d, rfl⟩ : ∃ (n : Fin 8192) (d : Fin 4096), y = ix2 n d := ⟨y 0, y 1, eq_ix2 y⟩
    exact Cert.OutRefIdeal.Tail.second_apply _ _ _ _ _ _ _ _ n d

end Cert.ResidualClaims

end
-- ==== Proof.AdaKernel.lean ====
/- The modulation of every layer, projected from the conditioning: the kernel's result, read at an index. -/
module

public import proofs.«01_k».proof.Proof.Gen.AdaIdeal.Frame
public import Idealize.ShloMosaic.Lib.StableHlo.Run
public import Idealize.ShloMosaic.Lib.KernelVsHost
public import Idealize.ShloMosaic.Lib.IdealHost
public import Idealize.ShloMosaic.Lib.MatmulPlain
public import Idealize.ShloMosaic.Lib.Pipeline.Value
public import Idealize.ShloMosaic.Lib.Pipeline.ValueKit.Geometry
public import Idealize.ShloMosaic.Lib.Pointwise.ElementwiseCore
public import Idealize.ShloMosaic.Lib.Routing.OpsSet

@[expose] public section

set_option maxRecDepth 16384

noncomputable section

namespace Modulate

open Idealize.ShloMosaic Idealize.ShloMosaic.ValueIdx

/-- `silu x = x / (1 + exp (-x))`. -/
def silu (x : EReal) : EReal := x * Ideal.logistic x

/-- A column of the projection of one element of the batch, before any layer's offset. -/
def shared (c : (⟨2, ![4, 4096]⟩ : Shape).Idx → EReal) (w : (⟨2, ![4096, 24576]⟩ : Shape).Idx → EReal) (b : (⟨1, ![24576]⟩ : Shape).Idx → EReal)
    (n : Fin 4) (j : Fin 24576) : EReal :=
  (∑ k : Fin 4096, silu (c (ix2 n k)) * w (ix2 k j)) + b (ix1 j)

/-- The column that holds entry `d` of modulation vector `s`. -/
def column (s : Fin 6) (d : Fin 4096) : Fin 24576 := ⟨s.val * 4096 + d.val, by omega⟩

/-- Entry `d` of modulation vector `s` for layer `l` and element `n` of the batch. -/
def result (c : (⟨2, ![4, 4096]⟩ : Shape).Idx → EReal) (w : (⟨2, ![4096, 24576]⟩ : Shape).Idx → EReal) (b : (⟨1, ![24576]⟩ : Shape).Idx → EReal)
    (table : (⟨3, ![4, 6, 4096]⟩ : Shape).Idx → EReal) (l n : Fin 4) (s : Fin 6) (d : Fin 4096) : EReal :=
  shared c w b n (column s d) + table (ix3 l s d)

end Modulate

namespace Cert.AdaIdeal.Tiles

open Cert.AdaIdeal Cert.AdaIdeal.Gen Idealize.ShloMosaic Idealize.ShloMosaic.TcCoe Idealize.SL.Sem Idealize.ShloMosaic.ValueIdx

/-! ## The body -/

theorem product (x : FVec Ideal S8x4096 .bf16) (w : FVec Ideal S4096x1024 .bf16) (n : Fin 8) (d : Fin 1024) :
    matmul dot_S8x4096_S4096x1024_S8x1024_1_0_0_1_n_n none x w (constant (F := Ideal) S8x1024 .f32 0x00000000#32) (ix2 n d)
      = ∑ k : Fin 4096, x (ix2 n k) * w (ix2 k d) := by
  refine (Ideal.matmul_plain_apply (M := 8) (K := 4096) (N := 1024) none x w (constant S8x1024 .f32 0x00000000#32) n d).trans ?_
  rw [constant_apply, Ideal.ofBits_zero_f32, zero_add]

theorem bias_apply (x : S1x1024.Idx → EReal) (h) (n : Fin 8) (d : Fin 1024) : broadcastTo S8x1024 x h (ix2 n d) = x (ix2 0 d) :=
  broadcastTo_apply _ _ _ _ fun a => by
    match a with
    | ⟨0, _⟩ => rfl
    | ⟨1, _⟩ => rfl

/-- A block repeated for every layer. -/
theorem layers_apply (x : S8x1024.Idx → EReal) (h) (h') (l : Fin 4) (n : Fin 8) (d : Fin 1024) :
    broadcastTo S4x8x1024 (shapeCast S1x8x1024 x h) h' (ix3 l n d) = x (ix2 n d) := by
  refine (broadcastTo_apply _ _ _ (ix3 0 n d) fun a => by
    match a with
    | ⟨0, _⟩ => rfl
    | ⟨1, _⟩ => rfl
    | ⟨2, _⟩ => rfl).trans ?_
  exact shapeCast_apply x h (ix3 0 n d) (ix2 n d)
    (by rewrite [Shape.rowMajor_val_three, Shape.rowMajor_val_two]; show n.val * 1024 + d.val = (0 * 8 + n.val) * 1024 + d.val; omega)

/-- The layers' offsets repeated for every row. -/
theorem offsets_apply (x : S4x1024.Idx → EReal) (h) (h') (l : Fin 4) (n : Fin 8) (d : Fin 1024) :
    broadcastTo S4x8x1024 (shapeCast S4x1x1024 x h) h' (ix3 l n d) = x (ix2 l d) := by
  refine (broadcastTo_apply _ _ _ (ix3 l 0 d) fun a => by
    match a with
    | ⟨0, _⟩ => rfl
    | ⟨1, _⟩ => rfl
    | ⟨2, _⟩ => rfl).trans ?_
  exact shapeCast_apply x h (ix3 l 0 d) (ix2 l d)
    (by rewrite [Shape.rowMajor_val_three, Shape.rowMajor_val_two]; show l.val * 1024 + d.val = (l.val * 1 + 0) * 1024 + d.val; omega)

/-- The body: the product of the activated rows with a block of columns, the bias, and each layer's offsets. -/
theorem body_apply (x0 : FVec Ideal S8x4096 .f32) (x1 : FVec Ideal S4096x1024 .f32) (x2 : FVec Ideal S1x1024 .f32) (x3 : FVec Ideal S4x1024 .f32)
    (l : Fin 4) (n : Fin 8) (d : Fin 1024) :
    (out0_4 (F := Ideal) x0 x1 x2 x3 (ix3 l n d) : EReal)
      = (∑ k : Fin 4096, Modulate.silu (x0 (ix2 n k)) * x1 (ix2 k d)) + x2 (ix2 0 d) + x3 (ix2 l d) := by
  unfold out0_4
  rw [View.canon_unit_zero (by decide), View.ld_unit_zero (by decide), View.ld_unit_zero (by decide), View.ld_unit_zero (by decide),
    View.ld_unit_zero (by decide)]
  unfold k0_pay1
  simp only [shapeCast_self]
  rw [addf_apply]
  rw [layers_apply, offsets_apply, addf_apply, product, bias_apply]
  rfl

variable (m : (ℓ : Loc nD τ sig) → Buf (Elt Ideal) ℓ) (c : Dev nD)

abbrev conditioning : S4x4096.Idx → EReal := m ((c : Thread nD τ).loc main_arg0)
abbrev weight : S4096x24576.Idx → EReal := m ((c : Thread nD τ).loc main_arg1)
abbrev bias : S24576.Idx → EReal := m ((c : Thread nD τ).loc main_arg2)
abbrev table : S4x6x4096.Idx → EReal := m ((c : Thread nD τ).loc main_arg3)

/-! ## The arrays the call reads -/

/-- Rows written at index zero land where they came from. -/
theorem lands (idx : IVec S1 32) (hi : ∀ i, idx i = 0#32) (n : Fin 4) (k : Fin 4096) :
    scatter_S8x4096_S1_S4x4096_01_n_0_0.resultIdx? (ix2 n k) idx = some (ix2 (n0 := 8) (n1 := 4096) ⟨n.val, by omega⟩ k) := by
  have hs : ∀ a, scatter_S8x4096_S1_S4x4096_01_n_0_0.start (ix2 n k) idx a = 0 := by
    intro a
    unfold ScatterDims.start
    split
    · rw [hi]; rfl
    · rfl
  have h0 : scatter_S8x4096_S1_S4x4096_01_n_0_0.window (ix2 n k) 0 = n.val := by
    unfold ScatterDims.window
    rw [dif_pos (by decide)]
    rfl
  have h1 : scatter_S8x4096_S1_S4x4096_01_n_0_0.window (ix2 n k) 1 = k.val := by
    unfold ScatterDims.window
    rw [dif_pos (by decide)]
    rfl
  unfold ScatterDims.resultIdx?
  rw [dif_pos (fun a => by
    rw [hs]
    match a with
    | ⟨0, _⟩ =>
      refine ⟨by omega, ?_⟩
      show (0 : Int) + (scatter_S8x4096_S1_S4x4096_01_n_0_0.window (ix2 n k) 0 : Nat) < (8 : Nat)
      rw [h0]; omega
    | ⟨1, _⟩ =>
      refine ⟨by omega, ?_⟩
      show (0 : Int) + (scatter_S8x4096_S1_S4x4096_01_n_0_0.window (ix2 n k) 1 : Nat) < (4096 : Nat)
      rw [h1]; omega)]
  refine congrArg some (funext fun a => ?_)
  match a with
  | ⟨0, _⟩ =>
    refine Fin.ext ?_
    show (scatter_S8x4096_S1_S4x4096_01_n_0_0.start (ix2 n k) idx 0 + (scatter_S8x4096_S1_S4x4096_01_n_0_0.window (ix2 n k) 0 : Nat)).toNat = n.val
    rw [hs, h0]; omega
  | ⟨1, _⟩ =>
    refine Fin.ext ?_
    show (scatter_S8x4096_S1_S4x4096_01_n_0_0.start (ix2 n k) idx 1 + (scatter_S8x4096_S1_S4x4096_01_n_0_0.window (ix2 n k) 1 : Nat)).toNat = k.val
    rw [hs, h1]; omega

theorem scatter_apply (x : S8x4096.Idx → EReal) (idx : IVec S1 32) (hi : ∀ i, idx i = 0#32) (u : S4x4096.Idx → EReal) (n : Fin 4) (k : Fin 4096) :
    Host.scatter scatter_S8x4096_S1_S4x4096_01_n_0_0 (fun _ b => b) x idx u (ix2 (n0 := 8) (n1 := 4096) ⟨n.val, by omega⟩ k) = u (ix2 n k) := by
  refine Routing.scatter_set_hit _ x idx u _ (u (ix2 n k)) (fun y hy => ?_) (ix2 n k) (lands idx hi n k)
  obtain ⟨n', k', rfl⟩ : ∃ (n' : Fin 4) (k' : Fin 4096), y = ix2 n' k' := ⟨y 0, y 1, eq_ix2 y⟩
  rw [lands idx hi n' k'] at hy
  have e := Option.some.inj hy
  have e0 : n'.val = n.val := congrArg (fun f : S8x4096.Idx => (f 0).val) e
  have e1 : k' = k := congrFun e 1
  rw [Fin.ext e0, e1]

theorem v2_apply (n : Fin 4) (k : Fin 4096) : V m c main_v2 (ix2 ⟨n.val, by omega⟩ k) = conditioning m c (ix2 n k) := by
  show StableHlo.after hostOps0 (fun b => m (c, b)) (Proc.devRef .tc main_v2) _ = _
  simp only [hostOps0]
  after_results
  exact scatter_apply _ _ (fun _ => rfl) _ n k

theorem v3_apply (j : Fin 24576) : V m c main_v3 (ix2 0 j) = bias m c (ix1 j) := by
  show StableHlo.after hostOps0 (fun b => m (c, b)) (Proc.devRef .tc main_v3) _ = _
  simp only [hostOps0]
  after_results
  exact shapeCast_apply _ shapeCasts_S24576_S1x24576 (ix2 0 j) (ix1 j)
    (by rewrite [Shape.rowMajor_val_one, Shape.rowMajor_val_two]; show j.val = 0 * 24576 + j.val; omega)

theorem v4_apply (l : Fin 4) (s : Fin 6) (d : Fin 4096) : V m c main_v4 (ix2 l (Modulate.column s d)) = table m c (ix3 l s d) := by
  show StableHlo.after hostOps0 (fun b => m (c, b)) (Proc.devRef .tc main_v4) _ = _
  simp only [hostOps0]
  after_results
  exact shapeCast_apply _ shapeCasts_S4x6x4096_S4x24576 (ix2 l (Modulate.column s d)) (ix3 l s d)
    (by rewrite [Shape.rowMajor_val_three, Shape.rowMajor_val_two]; show (l.val * 6 + s.val) * 4096 + d.val = l.val * 24576 + (s.val * 4096 + d.val); omega)

/-! ## The call's result -/

/-- The windows' blocks at a grid point, against the result window's: decided over the 24 points. -/
theorem index_facts : ∀ t : Fin grid0.N,
    (win0_0.index t 0 = 0 ∧ win0_0.index t 1 = 0)
    ∧ (win0_1.index t 0 = 0 ∧ win0_1.index t 1 = win0_4.index t 2)
    ∧ (win0_2.index t 0 = 0 ∧ win0_2.index t 1 = win0_4.index t 2)
    ∧ (win0_3.index t 0 = 0 ∧ win0_3.index t 1 = win0_4.index t 2)
    ∧ win0_4.index t 0 = 0 ∧ win0_4.index t 1 = 0 ∧ win0_4.index t 2 < 24 := by
  decide +kernel

theorem row_block (t : Fin grid0.N) (n : Fin 8) (k : Fin 4096) : iblk m c 0 t (ix2 n k) = V m c main_v2 (ix2 n k) := by
  have e : iblk m c 0 t (ix2 n k) = V m c main_v2 ((win0_0.rect t).emb (ix2 n k)) := rfl
  obtain ⟨⟨h0, h1⟩, _⟩ := index_facts t
  have hk : (win0_0.rect t).emb (ix2 n k) = ix2 n k := by
    funext a
    match a with
    | ⟨0, _⟩ => exact Fin.ext (Pipeline.Window.rect_emb_val_of_index_zero win0_0 t 0 h0 _)
    | ⟨1, _⟩ => exact Fin.ext (Pipeline.Window.rect_emb_val_of_index_zero win0_0 t 1 h1 _)
  rw [e, hk]

theorem weight_block (t : Fin grid0.N) (j : Fin 24576) (d : Fin 1024) (hj : j.val = win0_4.index t 2 * 1024 + d.val) (k : Fin 4096) :
    iblk m c 1 t (ix2 k d) = weight m c (ix2 k j) := by
  have e : iblk m c 1 t (ix2 k d) = V m c main_arg1 ((win0_1.rect t).emb (ix2 k d)) := rfl
  obtain ⟨_, ⟨h0, h1⟩, _⟩ := index_facts t
  have hk : (win0_1.rect t).emb (ix2 k d) = ix2 k j := by
    funext a
    match a with
    | ⟨0, _⟩ => exact Fin.ext (Pipeline.Window.rect_emb_val_of_index_zero win0_1 t 0 h0 _)
    | ⟨1, _⟩ => exact Fin.ext ((Pipeline.Window.rect_emb_val win0_1 t _ 1).trans (by show win0_1.index t 1 * 1024 + d.val = j.val; omega))
  rw [e, hk, V_main_arg1 m c]

theorem bias_block (t : Fin grid0.N) (j : Fin 24576) (d : Fin 1024) (hj : j.val = win0_4.index t 2 * 1024 + d.val) :
    iblk m c 2 t (ix2 0 d) = bias m c (ix1 j) := by
  have e : iblk m c 2 t (ix2 0 d) = V m c main_v3 ((win0_2.rect t).emb (ix2 0 d)) := rfl
  obtain ⟨_, _, ⟨h0, h1⟩, _⟩ := index_facts t
  have hk : (win0_2.rect t).emb (ix2 0 d) = ix2 0 j := by
    funext a
    match a with
    | ⟨0, _⟩ => exact Fin.ext (Pipeline.Window.rect_emb_val_of_index_zero win0_2 t 0 h0 _)
    | ⟨1, _⟩ => exact Fin.ext ((Pipeline.Window.rect_emb_val win0_2 t _ 1).trans (by show win0_2.index t 1 * 1024 + d.val = j.val; omega))
  rw [e, hk]
  exact v3_apply m c j

theorem table_block (t : Fin grid0.N) (j : Fin 24576) (d : Fin 1024) (hj : j.val = win0_4.index t 2 * 1024 + d.val) (l : Fin 4) :
    iblk m c 3 t (ix2 l d) = V m c main_v4 (ix2 l j) := by
  have e : iblk m c 3 t (ix2 l d) = V m c main_v4 ((win0_3.rect t).emb (ix2 l d)) := rfl
  obtain ⟨_, _, _, ⟨h0, h1⟩, _⟩ := index_facts t
  have hk : (win0_3.rect t).emb (ix2 l d) = ix2 l j := by
    funext a
    match a with
    | ⟨0, _⟩ => exact Fin.ext (Pipeline.Window.rect_emb_val_of_index_zero win0_3 t 0 h0 _)
    | ⟨1, _⟩ => exact Fin.ext ((Pipeline.Window.rect_emb_val win0_3 t _ 1).trans (by show win0_3.index t 1 * 1024 + d.val = j.val; omega))
  rw [e, hk]

/-- An element of the call's result, from the arrays the call reads: eight rows, of which the batch fills four. -/
def entry (rows : S8x4096.Idx → EReal) (w : S4096x24576.Idx → EReal) (b : S24576.Idx → EReal) (tab : S4x24576.Idx → EReal)
    (l : Fin 4) (n : Fin 8) (j : Fin 24576) : EReal :=
  (∑ k : Fin 4096, Modulate.silu (rows (ix2 n k)) * w (ix2 k j)) + b (ix1 j) + tab (ix2 l j)

/-- What grid point `t` leaves in its block. -/
theorem point_apply (t : Fin grid0.N) (l l' : Fin 4) (n n' : Fin 8) (j : Fin 24576) (d : Fin 1024) (hl : l'.val = l.val) (hn : n'.val = n.val)
    (hj : j.val = win0_4.index t 2 * 1024 + d.val) :
    out0_4 (iblk m c 0 t) (iblk m c 1 t) (iblk m c 2 t) (iblk m c 3 t) (ix3 l n d)
      = entry (V m c main_v2) (weight m c) (bias m c) (V m c main_v4) l' n' j := by
  obtain rfl : l' = l := Fin.ext hl
  obtain rfl : n' = n := Fin.ext hn
  refine (body_apply (iblk m c 0 t) (iblk m c 1 t) (iblk m c 2 t) (iblk m c 3 t) l' n' d).trans ?_
  unfold entry
  refine congrArg₂ (· + ·) (congrArg₂ (· + ·) (Finset.sum_congr rfl fun k _ => ?_) (bias_block m c t j d hj)) (table_block m c t j d hj l')
  exact congrArg₂ (· * ·) (congrArg Modulate.silu (row_block m c t n' k)) (weight_block m c t j d hj k)

end Cert.AdaIdeal.Tiles

end
-- ==== Proof.AdaResult.lean ====
/- The modulation of every layer: the result of the whole kernel program, read at an index. -/
module

public import proofs.«01_k».proof.Proof.AdaKernel

@[expose] public section

set_option maxRecDepth 16384

noncomputable section

namespace Cert.AdaIdeal.Tiles

open Cert.AdaIdeal Cert.AdaIdeal.Gen Idealize.ShloMosaic Idealize.ShloMosaic.TcCoe Idealize.SL.Sem Idealize.ShloMosaic.ValueIdx

variable (m : (ℓ : Loc nD τ sig) → Buf (Elt Ideal) ℓ) (c : Dev nD)

/-- The arrays the call reads, put together: its whole result. -/
def whole (y : S4x8x24576.Idx) : Elt Ideal .f32 := entry (V m c main_v2) (weight m c) (bias m c) (V m c main_v4) (y 0) (y 1) (y 2)

theorem covers : (cfg0.win 4).Covers := by decide +kernel

theorem after_apply (t : Fin cfg0.N) (y : S4x8x1024.Idx) (z : S4x8x24576.Idx) (h0 : (z 0).val = (y 0).val) (h1 : (z 1).val = (y 1).val)
    (h2 : (z 2).val = win0_4.index t 2 * 1024 + (y 2).val) : (dats m 0 c).after 4 t y = whole m c z := by
  rw [after0_4]
  obtain ⟨l, n, d, rfl⟩ : ∃ (l : Fin 4) (n : Fin 8) (d : Fin 1024), y = ix3 l n d := ⟨y 0, y 1, y 2, eq_ix3 y⟩
  exact point_apply m c t l (z 0) n (z 1) (z 2) d h0 h1 h2

/-- The call's result array after the run. -/
theorem array_eq : (dats m 0 c).arrAt 4 cfg0.N = whole m c := by
  refine (dats m 0 c).arrAt_eq_of_covers 4 _ covers fun t hf y => ?_
  obtain ⟨_, _, _, _, h0, h1, _⟩ := index_facts t
  exact after_apply m c t y _ (Pipeline.Window.rect_emb_val_of_index_zero win0_4 t 0 h0 y)
    (Pipeline.Window.rect_emb_val_of_index_zero win0_4 t 1 h1 y) (Pipeline.Window.rect_emb_val win0_4 t y 2)

/-! ## The program's result -/

/-- The batch's rows cut out of the call's result, the columns split into the six modulation vectors. -/
theorem split_apply (x : S4x8x24576.Idx → EReal) (h) (h') (l n : Fin 4) (s : Fin 6) (d : Fin 4096) :
    shapeCast S4x4x6x1x4096 (extractStridedSlice S4x4x24576 ![0, 0, 0] x h) h' (ix5 l n s 0 d)
      = x (ix3 l ⟨n.val, by omega⟩ (Modulate.column s d)) := by
  refine (shapeCast_apply _ h' (ix5 l n s 0 d) (ix3 l n (Modulate.column s d)) ?_).trans ?_
  · rewrite [Shape.rowMajor_val_three, Shape.rowMajor_val_five]
    show (l.val * 4 + n.val) * 24576 + (s.val * 4096 + d.val) = (((l.val * 4 + n.val) * 6 + s.val) * 1 + 0) * 4096 + d.val
    omega
  · exact extractStridedSlice_apply _ _ _ _ _ fun a => by
      match a with
      | ⟨0, _⟩ => exact (Nat.zero_add _).symm
      | ⟨1, _⟩ => exact (Nat.zero_add _).symm
      | ⟨2, _⟩ => exact (Nat.zero_add _).symm

/-- The program's result after the run. -/
def final : S4x4x6x1x4096.Idx → EReal := Pipeline.afterTail₀ cfgs (dats m) 0 (V0 m) [hostOps1] c main_v7

theorem final_apply (l n : Fin 4) (s : Fin 6) (d : Fin 4096) :
    final m c (ix5 l n s 0 d) = Modulate.result (conditioning m c) (weight m c) (bias m c) (table m c) l n s d := by
  have e : final m c = shapeCast S4x4x6x1x4096 (extractStridedSlice S4x4x24576 ![0, 0, 0] ((dats m 0 c).arrAt 4 cfg0.N)
      slices_S4x8x24576_S4x4x24576_0_0_0) shapeCasts_S4x4x24576_S4x4x6x1x4096 := by
    unfold final Pipeline.afterTail₀
    simp only [hostOps1, List.flatten_cons, List.flatten_nil, List.append_nil]
    after_results
    have harr := Pipeline.withArrays_arr spec0 (by decide) c (V0 m c) (fun w => (dats m 0 c).arrAt w cfg0.N) 4
    exact congrArg (fun x => shapeCast S4x4x6x1x4096 (extractStridedSlice S4x4x24576 ![0, 0, 0] x
      slices_S4x8x24576_S4x4x24576_0_0_0) shapeCasts_S4x4x24576_S4x4x6x1x4096) harr
  rw [e, split_apply, array_eq]
  unfold whole entry Modulate.result Modulate.shared
  show (∑ k : Fin 4096, Modulate.silu (V m c main_v2 (ix2 ⟨n.val, by omega⟩ k)) * weight m c (ix2 k (Modulate.column s d))) + bias m c (ix1 (Modulate.column s d))
    + V m c main_v4 (ix2 l (Modulate.column s d)) = _
  rw [v4_apply]
  refine congrArg (fun x => x + bias m c (ix1 (Modulate.column s d)) + table m c (ix3 l s d)) (Finset.sum_congr rfl fun k _ => ?_)
  rw [v2_apply]

variable (ρ : Dev nD → PrngReg)

/-- The run: the program's result, and the arguments as they were. -/
theorem run_final : θ_run defs (onTc (τ := τ) (main (F := Ideal))) ⟨m, fun _ => 0, ρ⟩ fun r => ∀ c : Dev nD,
      r.2.mem ((c : Thread nD τ).loc main_v7) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).2 main_v7 (Pipeline.mem_restRefs_of main_v7 (by decide) (by decide)), h.2 c⟩)
    (θ_run_and (run_main m ρ) (unchanged m ρ))

end Cert.AdaIdeal.Tiles

end
-- ==== Proof.AdaRef.lean ====
/- The modulation of every layer, projected from the conditioning: the reference's result, read at an index. -/
module

public import proofs.«01_k».proof.Proof.AdaResult
public import proofs.«01_k».proof.Proof.Gen.AdaRefIdeal.Read

@[expose] public section

set_option maxRecDepth 16384

noncomputable section

namespace Cert.AdaRefIdeal.Plain

open Cert.AdaRefIdeal Cert.AdaRefIdeal.Gen Cert.AdaRefIdeal.Read Idealize.ShloMosaic Idealize.ShloMosaic.ValueIdx

variable (x : S4x4096.Idx → EReal) (w : S4096x24576.Idx → EReal) (b : S24576.Idx → EReal) (table : S4x6x4096.Idx → EReal)

theorem silu_apply (i : S4x4096.Idx) : val_main_v0 (F := Ideal) x i = Modulate.silu (x i) := by
  rw [val_main_v0_apply, val_main_call0_v5_apply, val_main_call0_v4_apply, val_main_call0_v3_apply, val_main_call0_v2_apply,
    val_main_call0_cst_apply, val_main_call0_cst_0_apply, val_main_call0_v1_apply, val_main_call0_v0_apply]
  rw [Ideal.mulf_def, Ideal.hostDivf_def, Ideal.addf_def, Ideal.ofBits_def, Ideal.ofBits_one_f32]
  rfl

theorem product_apply (n : Fin 4) (j : Fin 24576) :
    val_main_v1 (F := Ideal) x w (ix2 n j) = ∑ k : Fin 4096, Modulate.silu (x (ix2 n k)) * w (ix2 k j) := by
  refine (val_main_v1_apply x w (ix2 n j)).trans (Finset.sum_congr rfl fun k _ => ?_)
  rw [silu_apply]
  refine congrArg₂ (fun p q => Modulate.silu (x p) * w q) ?_ ?_
  · funext a
    match a with
    | ⟨0, _⟩ => rfl
    | ⟨1, _⟩ => rfl
  · funext a
    match a with
    | ⟨0, _⟩ => rfl
    | ⟨1, _⟩ => rfl

theorem shared_apply (n : Fin 4) (j : Fin 24576) : val_main_v4 (F := Ideal) x w b (ix2 n j) = Modulate.shared x w b n j := by
  rw [val_main_v4_apply, Ideal.addf_def, product_apply, val_main_v3_apply, val_main_v2_apply]
  refine congrArg (fun p => (∑ k : Fin 4096, Modulate.silu (x (ix2 n k)) * w (ix2 k j)) + b p) (funext fun a => ?_)
  match a with
  | ⟨0, _⟩ => rfl

theorem split_apply (n : Fin 4) (s : Fin 6) (d : Fin 4096) :
    val_main_v5 (F := Ideal) x w b (ix3 n s d) = Modulate.shared x w b n (Modulate.column s d) := by
  rw [val_main_v5_apply, ← shared_apply]
  refine congrArg _ (funext fun a => ?_)
  match a with
  | ⟨0, _⟩ => exact Fin.ext (by show ((n.val * 6 + s.val) * 4096 + d.val) / 24576 = n.val; omega)
  | ⟨1, _⟩ => exact Fin.ext (by show ((n.val * 6 + s.val) * 4096 + d.val) % 24576 = s.val * 4096 + d.val; omega)

/-- The reference's result is the kernel's. -/
theorem value_apply (l n : Fin 4) (s : Fin 6) (d : Fin 4096) :
    val_main_v11 (F := Ideal) x w b table (ix5 l n s 0 d) = Modulate.result x w b table l n s d := by
  rw [val_main_v11_apply, val_main_v10_apply, Ideal.addf_def, val_main_v8_apply, val_main_v6_apply, val_main_v9_apply, val_main_v7_apply]
  unfold Modulate.result
  refine congrArg₂ (· + ·) (Eq.trans (congrArg _ ?_) (split_apply x w b n s d)) (congrArg table ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

end Cert.AdaRefIdeal.Plain

end
-- ==== Proof.AdaClaims.lean ====
/- The claims about the modulation's projection: the frames of its programs and the equality of their results. -/
module

public import proofs.«01_k».proof.Defs
public import proofs.«01_k».proof.Proof.AdaRef
public import proofs.«01_k».proof.Proof.Gen.Ada.Frame
public import proofs.«01_k».proof.Proof.Gen.AdaRefIdeal.Run
public import Idealize.ShloMosaic.Lib.Quiescent
public import Idealize.ShloMosaic.Adequacy
public import Idealize.ShloMosaic.Init

@[expose] public section

set_option maxRecDepth 16384

noncomputable section

namespace Cert.AdaClaims

open Idealize.ShloMosaic Idealize.SL.Sem Idealize.ShloMosaic.ValueIdx

attribute [local instance] Cert.Ada.Gen.facts Cert.AdaIdeal.Gen.facts Cert.AdaRefIdeal.Gen.facts

theorem frame_ada : Cert.quiescent_Ada := fun m ρ _ => Cert.Ada.Gen.frame m ρ

theorem frame_ada_ideal : Cert.quiescent_AdaIdeal := fun m ρ _ => Cert.AdaIdeal.Gen.frame m ρ

theorem frame_ada_reference : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)

theorem preserves_ada : Cert.preserves_Ada_AdaIdeal := trivial

theorem algebraic_ada : Cert.algebraic_AdaIdeal_AdaRefIdeal := by
  intro m ρ m' ρ' _ hagree
  refine ⟨_, Cert.AdaIdeal.Tiles.run_final m ρ, ?_⟩
  refine (θ_run Cert.AdaRefIdeal.defs _ _).mono (fun r h c => ⟨?_, (h c).2⟩) (Cert.AdaRefIdeal.Value.run (F := Ideal) m' ρ')
  refine ((h c).1.trans (Cert.AdaRefIdeal.Read.val_main_v11_eq (F := Ideal) (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2)) (m' ((c.tc : Thread Cert.AdaRefIdeal.nD Cert.AdaRefIdeal.τ).loc Cert.AdaRefIdeal.main_arg3)))).trans ?_
  rw [(hagree c).1, (hagree c).2.1, (hagree c).2.2.1, (hagree c).2.2.2]
  funext y
  obtain ⟨l, n, s, d, rfl⟩ : ∃ (l n : Fin 4) (s : Fin 6) (d : Fin 4096), y = ix5 l n s 0 d := by
    refine ⟨y 0, y 1, y 2, y 4, (eq_ix5 y).trans ?_⟩
    exact congrArg (fun z : Fin 1 => ix5 (y 0) (y 1) (y 2) z (y 4)) (Subsingleton.elim _ _)
  exact (Cert.AdaRefIdeal.Plain.value_apply _ _ _ _ l n s d).trans (Cert.AdaIdeal.Tiles.final_apply m c l n s d).symm

end Cert.AdaClaims

end
-- ==== Proof.ModKernel.lean ====
/- The modulation before the input projection: the result array of the kernel, read at an index. -/
module

public import proofs.«01_k».proof.Proof.Gen.ModIdeal.Value
public import Idealize.ShloMosaic.Lib.StableHlo.Run
public import Idealize.ShloMosaic.Lib.KernelVsHost
public import Idealize.ShloMosaic.Lib.IdealHost
public import Idealize.ShloMosaic.Lib.Pipeline.ValueKit.Geometry
public import Idealize.ShloMosaic.Lib.Pointwise.ElementwiseCore

@[expose] public section

set_option maxRecDepth 16384

noncomputable section

namespace ScaleShift

open Idealize.ShloMosaic Idealize.ShloMosaic.ValueIdx

/-- `x * (1 + scale) + shift`. -/
def entry (x scale shift : EReal) : EReal := x * (1 + scale) + shift

/-- A feature of a token, modulated by its element of the batch; the token's row counts through the batch. -/
def result (x : (⟨3, ![4, 2048, 4096]⟩ : Shape).Idx → EReal) (scale shift : (⟨3, ![4, 1, 4096]⟩ : Shape).Idx → EReal) (n : Fin 8192) (k : Fin 4096) : EReal :=
  entry (x (ix3 ⟨n.val / 2048, by omega⟩ ⟨n.val % 2048, by omega⟩ k)) (scale (ix3 ⟨n.val / 2048, by omega⟩ 0 k)) (shift (ix3 ⟨n.val / 2048, by omega⟩ 0 k))

end ScaleShift

namespace Cert.ModIdeal.Tiles

open Cert.ModIdeal Cert.ModIdeal.Gen Idealize.ShloMosaic Idealize.ShloMosaic.TcCoe Idealize.SL.Sem Idealize.ShloMosaic.ValueIdx

/-- The body: a block of tokens of one element of the batch, modulated. -/
theorem body_apply (x0 : FVec Ideal S512x4096 .f32) (x1 x2 : FVec Ideal S1x1x4096 .f32) (r : Fin 512) (k : Fin 4096) :
    (out0_3 (F := Ideal) x0 x1 x2 (ix2 r k) : EReal) = ScaleShift.entry (x0 (ix2 r k)) (x1 (ix3 0 0 k)) (x2 (ix3 0 0 k)) := by
  unfold out0_3
  rw [View.ld_unit_zero (by decide), View.ld_unit_zero (by decide), View.ld_unit_zero (by decide)]
  refine (Cert.ModIdeal.Value.canon3_eq (F := Ideal) x0 x1 x2 (ix2 r k)).trans ?_
  have e0 : Cert.ModIdeal.Value.ix3_0 (ix2 r k) = ix2 r k := by
    funext a
    match a with
    | ⟨0, _⟩ => rfl
    | ⟨1, _⟩ => rfl
  have e1 : Cert.ModIdeal.Value.ix3_1 (ix2 r k) = ix3 0 0 k := by
    funext a
    match a with
    | ⟨0, _⟩ => rfl
    | ⟨1, _⟩ => rfl
    | ⟨2, _⟩ => rfl
  have e2 : Cert.ModIdeal.Value.ix3_2 (ix2 r k) = ix3 0 0 k := by
    funext a
    match a with
    | ⟨0, _⟩ => rfl
    | ⟨1, _⟩ => rfl
    | ⟨2, _⟩ => rfl
  show (x0 (Cert.ModIdeal.Value.ix3_0 (ix2 r k)) : EReal) * ((Ideal.ofBits .f32 0x3F800000#32 : EReal) + x1 (Cert.ModIdeal.Value.ix3_1 (ix2 r k)))
    + x2 (Cert.ModIdeal.Value.ix3_2 (ix2 r k)) = _
  rw [e0, e1, e2, Ideal.ofBits_one_f32]
  rfl

variable (m : (ℓ : Loc nD τ sig) → Buf (Elt Ideal) ℓ) (c : Dev nD)

abbrev stream : S4x2048x4096.Idx → EReal := m ((c : Thread nD τ).loc main_arg0)
abbrev modScale : S4x1x4096.Idx → EReal := m ((c : Thread nD τ).loc main_arg1)
abbrev modShift : S4x1x4096.Idx → EReal := m ((c : Thread nD τ).loc main_arg2)

theorem tokens_apply {α : Type} (x : S4x2048x4096.Idx → α) (h) (n : Fin 8192) (k : Fin 4096) :
    shapeCast S8192x4096 x h (ix2 n k) = x (ix3 ⟨n.val / 2048, by omega⟩ ⟨n.val % 2048, by omega⟩ k) :=
  shapeCast_apply x h (ix2 n k) (ix3 ⟨n.val / 2048, by omega⟩ ⟨n.val % 2048, by omega⟩ k)
    (by rewrite [Shape.rowMajor_val_three, Shape.rowMajor_val_two]; show (n.val / 2048 * 2048 + n.val % 2048) * 4096 + k.val = n.val * 4096 + k.val; omega)

theorem v0_apply (n : Fin 8192) (k : Fin 4096) : V m c main_v0 (ix2 n k) = stream m c (ix3 ⟨n.val / 2048, by omega⟩ ⟨n.val % 2048, by omega⟩ k) := by
  show StableHlo.after hostOps0 (fun b => m (c, b)) (Proc.devRef .tc main_v0) _ = _
  simp only [hostOps0]
  after_results
  exact tokens_apply _ _ n k

theorem arg1_eq : V m c main_arg1 = modScale m c := by
  show StableHlo.after hostOps0 (fun b => m (c, b)) (Proc.devRef .tc main_arg1) = _
  simp only [hostOps0]
  after_results

theorem arg2_eq : V m c main_arg2 = modShift m c := by
  show StableHlo.after hostOps0 (fun b => m (c, b)) (Proc.devRef .tc main_arg2) = _
  simp only [hostOps0]
  after_results

/-- The windows' blocks at a grid point: decided over the 16 points. -/
theorem index_facts : ∀ t : Fin grid0.N,
    (win0_0.index t 0 = t.val ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val ∧ win0_3.index t 1 = 0) := by
  decide +kernel

theorem stream_block (t : Fin grid0.N) (n : Fin 8192) (r : Fin 512) (hn : n.val = t.val * 512 + r.val) (k : Fin 4096) :
    iblk m c 0 t (ix2 r k) = stream m c (ix3 ⟨n.val / 2048, by omega⟩ ⟨n.val % 2048, by omega⟩ k) := by
  have e : iblk m c 0 t (ix2 r k) = V m c main_v0 ((win0_0.rect t).emb (ix2 r k)) := rfl
  obtain ⟨⟨h0, h1⟩, _⟩ := index_facts t
  have hk : (win0_0.rect t).emb (ix2 r k) = ix2 n k := by
    funext a
    match a with
    | ⟨0, _⟩ => exact Fin.ext ((Pipeline.Window.rect_emb_val win0_0 t _ 0).trans (by show win0_0.index t 0 * 512 + r.val = n.val; omega))
    | ⟨1, _⟩ => exact Fin.ext (Pipeline.Window.rect_emb_val_of_index_zero win0_0 t 1 h1 _)
  rw [e, hk]
  exact v0_apply m c n k

theorem scale_block (t : Fin grid0.N) (n : Fin 8192) (r : Fin 512) (hn : n.val = t.val * 512 + r.val) (k : Fin 4096) :
    iblk m c 1 t (ix3 0 0 k) = modScale m c (ix3 ⟨n.val / 2048, by omega⟩ 0 k) := by
  have e : iblk m c 1 t (ix3 0 0 k) = V m c main_arg1 ((win0_1.rect t).emb (ix3 0 0 k)) := rfl
  obtain ⟨_, ⟨h0, h1, h2⟩, _⟩ := index_facts t
  have hk : (win0_1.rect t).emb (ix3 0 0 k) = ix3 ⟨n.val / 2048, by omega⟩ 0 k := by
    funext a
    match a with
    | ⟨0, _⟩ => exact Fin.ext ((Pipeline.Window.rect_emb_val win0_1 t _ 0).trans (by show win0_1.index t 0 * 1 + 0 = n.val / 2048; omega))
    | ⟨1, _⟩ => exact Fin.ext (Pipeline.Window.rect_emb_val_of_index_zero win0_1 t 1 h1 _)
    | ⟨2, _⟩ => exact Fin.ext (Pipeline.Window.rect_emb_val_of_index_zero win0_1 t 2 h2 _)
  rw [e, hk, arg1_eq]

theorem shift_block (t : Fin grid0.N) (n : Fin 8192) (r : Fin 512) (hn : n.val = t.val * 512 + r.val) (k : Fin 4096) :
    iblk m c 2 t (ix3 0 0 k) = modShift m c (ix3 ⟨n.val / 2048, by omega⟩ 0 k) := by
  have e : iblk m c 2 t (ix3 0 0 k) = V m c main_arg2 ((win0_2.rect t).emb (ix3 0 0 k)) := rfl
  obtain ⟨_, _, ⟨h0, h1, h2⟩, _⟩ := index_facts t
  have hk : (win0_2.rect t).emb (ix3 0 0 k) = ix3 ⟨n.val / 2048, by omega⟩ 0 k := by
    funext a
    match a with
    | ⟨0, _⟩ => exact Fin.ext ((Pipeline.Window.rect_emb_val win0_2 t _ 0).trans (by show win0_2.index t 0 * 1 + 0 = n.val / 2048; omega))
    | ⟨1, _⟩ => exact Fin.ext (Pipeline.Window.rect_emb_val_of_index_zero win0_2 t 1 h1 _)
    | ⟨2, _⟩ => exact Fin.ext (Pipeline.Window.rect_emb_val_of_index_zero win0_2 t 2 h2 _)
  rw [e, hk, arg2_eq]

/-- The result array the call is to leave. -/
def whole (y : S8192x4096.Idx) : Elt Ideal .bf16 := ScaleShift.result (stream m c) (modScale m c) (modShift m c) (y 0) (y 1)

theorem covers : (cfg0.win 3).Covers := by decide +kernel

theorem after_apply (t : Fin cfg0.N) (y : S512x4096.Idx) (z : S8192x4096.Idx) (h0 : (z 0).val = t.val * 512 + (y 0).val) (h1 : (z 1).val = (y 1).val) :
    (dats m 0 c).after 3 t y = whole m c z := by
  rw [after0_3]
  obtain ⟨r, k, rfl⟩ : ∃ (r : Fin 512) (k : Fin 4096), y = ix2 r k := ⟨y 0, y 1, eq_ix2 y⟩
  obtain ⟨n, j, rfl⟩ : ∃ (n : Fin 8192) (j : Fin 4096), z = ix2 n j := ⟨z 0, z 1, eq_ix2 z⟩
  obtain rfl : j = k := Fin.ext h1
  refine (body_apply (iblk m c 0 t) (iblk m c 1 t) (iblk m c 2 t) r j).trans ?_
  have hn : n.val = t.val * 512 + r.val := h0
  show ScaleShift.entry (iblk m c 0 t (ix2 r j)) (iblk m c 1 t (ix3 0 0 j)) (iblk m c 2 t (ix3 0 0 j)) = ScaleShift.result (stream m c) (modScale m c) (modShift m c) n j
  rw [stream_block m c t n r hn j, scale_block m c t n r hn j, shift_block m c t n r hn j]
  rfl

/-- The result array after the run. -/
theorem array_eq : (dats m 0 c).arrAt 3 cfg0.N = whole m c := by
  refine (dats m 0 c).arrAt_eq_of_covers 3 _ covers fun t hf y => ?_
  obtain ⟨_, _, _, h0, h1⟩ := index_facts t
  exact after_apply m c t y _ ((Pipeline.Window.rect_emb_val win0_3 t y 0).trans (congrArg (fun i => i * 512 + (y 0).val) h0))
    (Pipeline.Window.rect_emb_val_of_index_zero win0_3 t 1 h1 y)

end Cert.ModIdeal.Tiles

end
-- ==== Proof.ModRef.lean ====
/- The modulation before the input projection: the reference's result, read at an index. -/
module

public import proofs.«01_k».proof.Proof.ModKernel
public import proofs.«01_k».proof.Proof.Gen.ModRefIdeal.Read

@[expose] public section

set_option maxRecDepth 16384

noncomputable section

namespace Cert.ModRefIdeal.Plain

open Cert.ModRefIdeal Cert.ModRefIdeal.Gen Cert.ModRefIdeal.Read Idealize.ShloMosaic Idealize.ShloMosaic.TcCoe Idealize.SL.Sem Idealize.ShloMosaic.ValueIdx

variable (x : S4x2048x4096.Idx → EReal) (scale shift : S4x1x4096.Idx → EReal)

theorem value_apply (n : Fin 8192) (k : Fin 4096) :
    val_main_v7 (F := Ideal) x scale shift (ix2 n k) = ScaleShift.result x scale shift n k := by
  rw [val_main_v7_apply]
  have e : idx_main_v7 (ix2 n k) = ix3 ⟨n.val / 2048, by omega⟩ ⟨n.val % 2048, by omega⟩ k := by
    funext a
    match a with
    | ⟨0, _⟩ => exact Fin.ext (by show (n.val * 4096 + k.val) / 8388608 = n.val / 2048; omega)
    | ⟨1, _⟩ => exact Fin.ext (by show (n.val * 4096 + k.val) / 4096 % 2048 = n.val % 2048; omega)
    | ⟨2, _⟩ => exact Fin.ext (by show (n.val * 4096 + k.val) % 4096 = k.val; omega)
  rw [e, val_main_v6_apply, val_main_v5_apply, val_main_v3_apply, val_main_v2_apply, val_main_v4_apply, val_main_v1_apply, val_main_v0_apply, val_main_cst_apply]
  have row : ∀ (b : Fin 4) (t : Fin 2048), idx_main_v2 (ix3 b t k) = ix3 b 0 k := by
    intro b t
    funext a
    match a with
    | ⟨0, _⟩ => rfl
    | ⟨1, _⟩ => rfl
    | ⟨2, _⟩ => rfl
  have row' : ∀ (b : Fin 4) (t : Fin 2048), idx_main_v4 (ix3 b t k) = ix3 b 0 k := row
  rw [row, row']
  show x _ * ((Ideal.ofBits .f32 0x3F800000#32 : EReal) + scale _) + shift _ = _
  rw [Ideal.ofBits_one_f32]
  rfl

end Cert.ModRefIdeal.Plain

end
-- ==== Proof.ModClaims.lean ====
/- The claims about the modulation before the input projection: the frames of its programs and the equality of their results. -/
module

public import proofs.«01_k».proof.Defs
public import proofs.«01_k».proof.Proof.ModRef
public import proofs.«01_k».proof.Proof.Gen.Mod.Frame
public import proofs.«01_k».proof.Proof.Gen.ModRefIdeal.Run
public import Idealize.ShloMosaic.Lib.Quiescent
public import Idealize.ShloMosaic.Adequacy
public import Idealize.ShloMosaic.Init

@[expose] public section

set_option maxRecDepth 16384

noncomputable section

namespace Cert.ModClaims

open Idealize.ShloMosaic Idealize.SL.Sem Idealize.ShloMosaic.ValueIdx

attribute [local instance] Cert.Mod.Gen.facts Cert.ModIdeal.Gen.facts Cert.ModRefIdeal.Gen.facts

theorem frame_mod : Cert.quiescent_Mod := fun m ρ _ => Cert.Mod.Gen.frame m ρ

theorem frame_mod_ideal : Cert.quiescent_ModIdeal := fun m ρ _ => Cert.ModIdeal.Gen.frame m ρ

theorem frame_mod_reference : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run (F := Ideal) m ρ)

theorem preserves_mod : Cert.preserves_Mod_ModIdeal := trivial

theorem algebraic_mod : Cert.algebraic_ModIdeal_ModRefIdeal := by
  intro m ρ m' ρ' _ hagree
  refine ⟨_, Cert.ModIdeal.Value.run_blocks m ρ, ?_⟩
  refine (θ_run Cert.ModRefIdeal.defs _ _).mono (fun r h c => ⟨?_, (h c).2⟩) (Cert.ModRefIdeal.Value.run (F := Ideal) m' ρ')
  rw [Cert.ModIdeal.Tiles.array_eq m c]
  refine ((h c).1.trans (Cert.ModRefIdeal.Read.val_main_v7_eq (F := Ideal) (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)))).trans ?_
  rw [(hagree c).1, (hagree c).2.1, (hagree c).2.2]
  funext y
  obtain ⟨n, j, rfl⟩ : ∃ (n : Fin 8192) (j : Fin 4096), y = ix2 n j := ⟨y 0, y 1, eq_ix2 y⟩
  exact Cert.ModRefIdeal.Plain.value_apply _ _ _ n j

end Cert.ModClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.UpIdeal.Value
public import proofs.«01_k».proof.Proof.Gen.InIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.InRefIdeal
public import proofs.«01_k».proof.Proof.Gen.InRefIdeal.Run
public import proofs.«01_k».proof.Proof.Gen.InRefIdeal.Read
public import proofs.«01_k».proof.Proof.Attention
public import proofs.«01_k».proof.Proof.Dense
public import proofs.«01_k».proof.Proof.ResidualClaims
public import proofs.«01_k».proof.Proof.AdaClaims
public import proofs.«01_k».proof.Proof.ModClaims
public import proofs.«01_k».proof.Proof.Gen.DownIdeal.Value
public import proofs.«01_k».proof.Proof.Gen.DownRefIdeal.Run
public import proofs.«01_k».proof.Proof.Gen.DownRefIdeal.Read
public import proofs.«01_k».proof.Proof.Gen.Down.Frame
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaRefIdeal.Read
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Up.Gen.facts, Cert.UpIdeal.Gen.facts,
    Cert.UpRefIdeal.Gen.facts, Cert.In.Gen.facts, Cert.InIdeal.Gen.facts, Cert.InRefIdeal.Gen.facts,
    Cert.Down.Gen.facts, Cert.DownIdeal.Gen.facts, Cert.DownRefIdeal.Gen.facts, Cert.Out.Gen.facts, Cert.OutIdeal.Gen.facts, Cert.OutRefIdeal.Gen.facts,
    Cert.Ada.Gen.facts, Cert.AdaIdeal.Gen.facts, Cert.AdaRefIdeal.Gen.facts,
    Cert.Mod.Gen.facts, Cert.ModIdeal.Gen.facts, Cert.ModRefIdeal.Gen.facts,
    Cert.AttentionClaims.finite_facts,
    AttentionClaims.frame_p, AttentionClaims.frame_pi, AttentionClaims.frame_pi_finite, AttentionClaims.frame_ri,
    AttentionClaims.frame_ri_finite, DenseClaims.frame_up, DenseClaims.frame_up_ideal, DenseClaims.frame_up_reference,
    DenseClaims.frame_in, DenseClaims.frame_in_ideal, DenseClaims.frame_in_reference,
    ResidualClaims.frame_down, ResidualClaims.frame_down_ideal, ResidualClaims.frame_down_reference,
    ResidualClaims.frame_out, ResidualClaims.frame_out_ideal, ResidualClaims.frame_out_reference,
    AdaClaims.frame_ada, AdaClaims.frame_ada_ideal, AdaClaims.frame_ada_reference,
    ModClaims.frame_mod, ModClaims.frame_mod_ideal, ModClaims.frame_mod_reference,
    AttentionClaims.preserves, AttentionClaims.algebraic, DenseClaims.preserves_up, DenseClaims.algebraic_up,
    DenseClaims.preserves_in, DenseClaims.algebraic_in,
    ResidualClaims.preserves_down, ResidualClaims.algebraic_down, ResidualClaims.preserves_out, ResidualClaims.algebraic_out,
    AdaClaims.preserves_ada, AdaClaims.algebraic_ada, ModClaims.preserves_mod, ModClaims.algebraic_mod⟩

end Cert.Proof

end
